-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bias [hPre_finite_bias : Cert.Pre_finite_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bias [hPre_finite_bias : Cert.Pre_finite_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_weights [hPre_finite_weights : Cert.Pre_finite_weights.Facts] (m : (ℓ : Loc Cert.ProjIdeal.nD Cert.ProjIdeal.τ Cert.ProjIdeal.sig) → Buf (Elt Ideal) ℓ) : Prop :=
  ∀ c : Dev Cert.ProjIdeal.nD,
    (Cert.Pre_finite_weights.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_weights [hPre_finite_weights : Cert.Pre_finite_weights.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_weights.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_bias [hKernelIdeal : Cert.KernelIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_bias [hReferenceIdeal : Cert.ReferenceIdeal.Facts] [hPre_finite_bias : Cert.Pre_finite_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_weights [hProjIdeal : Cert.ProjIdeal.Facts] [hPre_finite_weights : Cert.Pre_finite_weights.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_weights m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_finite_weights [hProjReferenceIdeal : Cert.ProjReferenceIdeal.Facts] [hPre_finite_weights : Cert.Pre_finite_weights.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_weights m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_bias [hKernelIdeal : Cert.KernelIdeal.Facts] [hReferenceIdeal : Cert.ReferenceIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v23) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Proj_ProjIdeal : Prop :=
  IdealRules.named_const.Statement Cert.ProjIdeal.κ "qscale" .f32 0x3E38AA3B#32 (((Real.log 2)⁻¹ * 8⁻¹ : ℝ) : EReal)

def algebraic_ProjIdeal_ProjReferenceIdeal_pre_finite_weights [hProjIdeal : Cert.ProjIdeal.Facts] [hProjReferenceIdeal : Cert.ProjReferenceIdeal.Facts] [hPre_finite_weights : Cert.Pre_finite_weights.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_weights m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v28_0)) (v1 : (c : Dev Cert.ProjIdeal.nD) → Buf (Elt Ideal) ((c.tc : Thread Cert.ProjIdeal.nD Cert.ProjIdeal.τ).loc Cert.ProjIdeal.main_v28_1)) (v2 : (c : Dev Cert.ProjIdeal.nD) → Buf (Elt Ideal) ((c.tc : Thread Cert.ProjIdeal.nD Cert.ProjIdeal.τ).loc Cert.ProjIdeal.main_v28_2)) (v3 : (c : Dev Cert.ProjIdeal.nD) → Buf (Elt Ideal) ((c.tc : Thread Cert.ProjIdeal.nD Cert.ProjIdeal.τ).loc Cert.ProjIdeal.main_v28_3)) (v4 : (c : Dev Cert.ProjIdeal.nD) → Buf (Elt Ideal) ((c.tc : Thread Cert.ProjIdeal.nD Cert.ProjIdeal.τ).loc Cert.ProjIdeal.main_v28_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28_0) = v0 c
          ∧ r.2.mem ((c.tc : Thread Cert.ProjIdeal.nD Cert.ProjIdeal.τ).loc Cert.ProjIdeal.main_v28_1) = v1 c
          ∧ r.2.mem ((c.tc : Thread Cert.ProjIdeal.nD Cert.ProjIdeal.τ).loc Cert.ProjIdeal.main_v28_2) = v2 c
          ∧ r.2.mem ((c.tc : Thread Cert.ProjIdeal.nD Cert.ProjIdeal.τ).loc Cert.ProjIdeal.main_v28_3) = v3 c
          ∧ r.2.mem ((c.tc : Thread Cert.ProjIdeal.nD Cert.ProjIdeal.τ).loc Cert.ProjIdeal.main_v28_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v55) = v0 c
          ∧ r.2.mem ((c.tc : Thread Cert.ProjReferenceIdeal.nD Cert.ProjReferenceIdeal.τ).loc Cert.ProjReferenceIdeal.main_v49) = v1 c
          ∧ r.2.mem ((c.tc : Thread Cert.ProjReferenceIdeal.nD Cert.ProjReferenceIdeal.τ).loc Cert.ProjReferenceIdeal.main_v16) = v2 c
          ∧ r.2.mem ((c.tc : Thread Cert.ProjReferenceIdeal.nD Cert.ProjReferenceIdeal.τ).loc Cert.ProjReferenceIdeal.main_v56) = v3 c
          ∧ r.2.mem ((c.tc : Thread Cert.ProjReferenceIdeal.nD Cert.ProjReferenceIdeal.τ).loc Cert.ProjReferenceIdeal.main_v57) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite_bias : Cert.Pre_finite_bias.Facts) (hPre_finite_weights : Cert.Pre_finite_weights.Facts),
    quiescent_Kernel (hKernel := hKernel)
    ∧ quiescent_KernelIdeal (hKernelIdeal := hKernelIdeal)
    ∧ quiescent_KernelIdeal_pre_finite_bias (hKernelIdeal := hKernelIdeal) (hPre_finite_bias := hPre_finite_bias)
    ∧ quiescent_ReferenceIdeal (hReferenceIdeal := hReferenceIdeal)
    ∧ quiescent_ReferenceIdeal_pre_finite_bias (hReferenceIdeal := hReferenceIdeal) (hPre_finite_bias := hPre_finite_bias)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjIdeal_pre_finite_weights (hProjIdeal := hProjIdeal) (hPre_finite_weights := hPre_finite_weights)
    ∧ quiescent_ProjReferenceIdeal (hProjReferenceIdeal := hProjReferenceIdeal)
    ∧ quiescent_ProjReferenceIdeal_pre_finite_weights (hProjReferenceIdeal := hProjReferenceIdeal) (hPre_finite_weights := hPre_finite_weights)
    ∧ preserves_Kernel_KernelIdeal
    ∧ algebraic_KernelIdeal_ReferenceIdeal_pre_finite_bias (hKernelIdeal := hKernelIdeal) (hReferenceIdeal := hReferenceIdeal) (hPre_finite_bias := hPre_finite_bias)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal_pre_finite_weights (hProjIdeal := hProjIdeal) (hProjReferenceIdeal := hProjReferenceIdeal) (hPre_finite_weights := hPre_finite_weights)
-- ==== Pre_finite_bias.lean ====
abbrev S2x8192x512 : Shape := ⟨3, ![2, 8192, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S2x8192x512 .f32) (main_arg1 : FVec F S2x8192x512 .f32) (main_arg2 : FVec F S2x8192x512 .f32) (main_arg3 : FVec F S8 .f32) : IVec S8 1 :=
  let main_v0 : FVec F S8 .f32 := Host.absf main_arg3
  let main_cst : FVec F S_ .f32 := constant S_ .f32 0x7F800000#32
  let main_v1 : FVec F S8 .f32 := broadcastInDim S8 ![] bcast_S_S8 main_cst
  let main_v2 : IVec S8 1 := cmpf .olt main_v0 main_v1
  main_v2
-- ==== Pre_finite_weights.lean ====
abbrev S16384x1024 : Shape := ⟨2, ![16384, 1024]⟩
abbrev S1024 : Shape := ⟨1, ![1024]⟩
abbrev S1024x8200 : Shape := ⟨2, ![1024, 8200]⟩
abbrev S64 : Shape := ⟨1, ![64]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x8200 : S_.BroadcastsInDim S1024x8200 (![] : Fin 0 → Fin S1024x8200.rank)
  bcast_S1024x1_S1024x8200_0_1 : S1024x1.BroadcastsInDim S1024x8200 (![0, 1] : Fin 2 → Fin S1024x8200.rank)

variable [Facts]

def fn {F : FTy → Type} [FloatOps F] (main_arg0 : FVec F S16384x1024 .f32) (main_arg1 : FVec F S1024 .f32) (main_arg2 : FVec F S1024x8200 .f32) (main_arg3 : FVec F S64 .f32) (main_arg4 : FVec F S64 .f32) : IVec S1024x8200 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x8200 .f32 := Host.absf main_arg2
  let main_cst_0 : FVec F S_ .f32 := constant S_ .f32 0x7F800000#32
  let main_v5 : FVec F S1024x8200 .f32 := broadcastInDim S1024x8200 ![] bcast_S_S1024x8200 main_cst_0
  let main_v6 : IVec S1024x8200 1 := cmpf .olt main_v4 main_v5
  let main_v7 : IVec S1024x8200 1 := broadcastInDim S1024x8200 ![0, 1] bcast_S1024x1_S1024x8200_0_1 main_v3
  let main_v8 : IVec S1024x8200 1 := andi main_v7 main_v6
  main_v8
-- ==== Kernel.lean ====
abbrev S2x8192x512 : Shape := ⟨3, ![2, 8192, 512]⟩
abbrev S8 : Shape := ⟨1, ![8]⟩
abbrev S_ : Shape := ⟨0, ![]⟩
abbrev S8x1 : Shape := ⟨2, ![8, 1]⟩
abbrev S8x3 : Shape := ⟨2, ![8, 3]⟩
abbrev S4x2x3 : Shape := ⟨3, ![4, 2, 3]⟩
abbrev S4x2x64 : Shape := ⟨3, ![4, 2, 64]⟩
abbrev S4x1x64 : Shape := ⟨3, ![4, 1, 64]⟩
abbrev S4x64 : Shape := ⟨2, ![4, 64]⟩
abbrev S4x128 : Shape := ⟨2, ![4, 128]⟩
abbrev S4x1x128 : Shape := ⟨3, ![4, 1, 128]⟩
abbrev S4x2x128 : Shape := ⟨3, ![4, 2, 128]⟩
abbrev S2x8192x4x2x64 : Shape := ⟨5, ![2, 8192, 4, 2, 64]⟩
abbrev S2x4x2x64x8192 : Shape := ⟨5, ![2, 4, 2, 64, 8192]⟩
abbrev S2x4x3x8192 : Shape := ⟨4, ![2, 4, 3, 8192]⟩
abbrev S2x4x61x8192 : Shape := ⟨4, ![2, 4, 61, 8192]⟩
abbrev S2x4x64x8192 : Shape := ⟨4, ![2, 4, 64, 8192]⟩
abbrev S2x4x1x64x8192 : Shape := ⟨5, ![2, 4, 1, 64, 8192]⟩
abbrev S2x4x128x8192 : Shape := ⟨4, ![2, 4, 128, 8192]⟩
abbrev S2x4x1x128x8192 : Shape := ⟨5, ![2, 4, 1, 128, 8192]⟩
abbrev S2x4x2x128x8192 : Shape := ⟨5, ![2, 4, 2, 128, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x2x128x8192 : Shape := ⟨4, ![8, 2, 128, 8192]⟩
abbrev S1x512x128 : Shape := ⟨3, ![1, 512, 128]⟩
abbrev S1x2x128x8192 : Shape := ⟨4, ![1, 2, 128, 8192]⟩
abbrev S1x8192x128 : Shape := ⟨3, ![1, 8192, 128]⟩
abbrev S1x2x128 : Shape := ⟨3, ![1, 2, 128]⟩
abbrev S2x512x128 : Shape := ⟨3, ![2, 512, 128]⟩
abbrev S2x2x512x256 : Shape := ⟨4, ![2, 2, 512, 256]⟩
abbrev S2x2x512x1 : Shape := ⟨4, ![2, 2, 512, 1]⟩
abbrev S2x512x1 : Shape := ⟨3, ![2, 512, 1]⟩
abbrev S512x128 : Shape := ⟨2, ![512, 128]⟩
abbrev S1x1x128 : Shape := ⟨3, ![1, 1, 128]⟩
abbrev S1x128 : Shape := ⟨2, ![1, 128]⟩
abbrev S1x1x128x256 : Shape := ⟨4, ![1, 1, 128, 256]⟩
abbrev S128x256 : Shape := ⟨2, ![128, 256]⟩
abbrev S512x256 : Shape := ⟨2, ![512, 256]⟩
abbrev S1x1x512x256 : Shape := ⟨4, ![1, 1, 512, 256]⟩
abbrev S512x1 : Shape := ⟨2, ![512, 1]⟩
abbrev S1x1x512x1 : Shape := ⟨4, ![1, 1, 512, 1]⟩
abbrev S1x256x128 : Shape := ⟨3, ![1, 256, 128]⟩
abbrev S256x128 : Shape := ⟨2, ![256, 128]⟩
abbrev S1x512x1 : Shape := ⟨3, ![1, 512, 1]⟩

abbrev nBuf : Space → Nat
  | .hbm => 73
  | .vmem => 18
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x512, .f32⟩
  | .hbm, ⟨11, _⟩ => ⟨S2x8192x512, .f32⟩
  | .hbm, ⟨12, _⟩ => ⟨S2x8192x512, .bf16⟩
  | .hbm, ⟨13, _⟩ => ⟨S8, .f32⟩
  | .hbm, ⟨14, _⟩ => ⟨S8, .f32⟩
  | .hbm, ⟨15, _⟩ => ⟨S8, .bf16⟩
  | .hbm, ⟨16, _⟩ => ⟨S8, .f32⟩
  | .hbm, ⟨17, _⟩ => ⟨S8, .f32⟩
  | .hbm, ⟨18, _⟩ => ⟨S8, .bf16⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S8, .bf16⟩
  | .hbm, ⟨24, _⟩ => ⟨S8x1, .bf16⟩
  | .hbm, ⟨25, _⟩ => ⟨S8x1, .bf16⟩
  | .hbm, ⟨26, _⟩ => ⟨S8x1, .bf16⟩
  | .hbm, ⟨27, _⟩ => ⟨S8x3, .bf16⟩
  | .hbm, ⟨28, _⟩ => ⟨S8x3, .f32⟩
  | .hbm, ⟨29, _⟩ => ⟨S4x2x3, .f32⟩
  | .hbm, ⟨30, _⟩ => ⟨S_, .i32⟩
  | .hbm, ⟨31, _⟩ => ⟨S_, .f32⟩
  | .hbm, ⟨32, _⟩ => ⟨S4x2x64, .f32⟩
  | .hbm, ⟨33, _⟩ => ⟨S4x1x64, .f32⟩
  | .hbm, ⟨34, _⟩ => ⟨S4x64, .f32⟩
  | .hbm, ⟨35, _⟩ => ⟨S_, .f32⟩
  | .hbm, ⟨36, _⟩ => ⟨S4x64, .f32⟩
  | .hbm, ⟨37, _⟩ => ⟨S4x1x64, .f32⟩
  | .hbm, ⟨38, _⟩ => ⟨S4x64, .f32⟩
  | .hbm, ⟨39, _⟩ => ⟨S4x128, .f32⟩
  | .hbm, ⟨40, _⟩ => ⟨S4x1x64, .f32⟩
  | .hbm, ⟨41, _⟩ => ⟨S4x64, .f32⟩
  | .hbm, ⟨42, _⟩ => ⟨S4x128, .f32⟩
  | .hbm, ⟨43, _⟩ => ⟨S4x1x128, .f32⟩
  | .hbm, ⟨44, _⟩ => ⟨S4x1x128, .f32⟩
  | .hbm, ⟨45, _⟩ => ⟨S4x2x128, .f32⟩
  | .hbm, ⟨46, _⟩ => ⟨S2x8192x512, .bf16⟩
  | .hbm, ⟨47, _⟩ => ⟨S2x8192x4x2x64, .bf16⟩
  | .hbm, ⟨48, _⟩ => ⟨S2x4x2x64x8192, .bf16⟩
  | .hbm, ⟨49, _⟩ => ⟨S_, .bf16⟩
  | .hbm, ⟨50, _⟩ => ⟨S2x4x3x8192, .bf16⟩
  | .hbm, ⟨51, _⟩ => ⟨S_, .bf16⟩
  | .hbm, ⟨52, _⟩ => ⟨S2x4x61x8192, .bf16⟩
  | .hbm, ⟨53, _⟩ => ⟨S2x4x64x8192, .bf16⟩
  | .hbm, ⟨54, _⟩ => ⟨S2x4x1x64x8192, .bf16⟩
  | .hbm, ⟨55, _⟩ => ⟨S2x4x64x8192, .bf16⟩
  | .hbm, ⟨56, _⟩ => ⟨S2x4x128x8192, .bf16⟩
  | .hbm, ⟨57, _⟩ => ⟨S2x4x1x64x8192, .bf16⟩
  | .hbm, ⟨58, _⟩ => ⟨S2x4x64x8192, .bf16⟩
  | .hbm, ⟨59, _⟩ => ⟨S2x4x128x8192, .bf16⟩
  | .hbm, ⟨60, _⟩ => ⟨S2x4x1x128x8192, .bf16⟩
  | .hbm, ⟨61, _⟩ => ⟨S2x4x1x128x8192, .bf16⟩
  | .hbm, ⟨62, _⟩ => ⟨S2x4x2x128x8192, .bf16⟩
  | .hbm, ⟨63, _⟩ => ⟨S256, .i32⟩
  | .hbm, ⟨64, _⟩ => ⟨S256x1, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .bf16⟩
  | .hbm, ⟨70, _⟩ => ⟨S8x2x128x8192, .bf16⟩
  | .hbm, ⟨71, _⟩ => ⟨S2x8192x512, .bf16⟩
  | .hbm, ⟨72, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2x128x8192, .bf16⟩
  | .local _ .vmem, ⟨3, _⟩ => ⟨S1x2x128x8192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2x128, .f32⟩
  | .local _ .vmem, ⟨7, _⟩ => ⟨S1x2x128, .f32⟩
  | .local _ .vmem, ⟨8, _⟩ => ⟨S256x256, .bf16⟩
  | .local _ .vmem, ⟨9, _⟩ => ⟨S1x512x128, .bf16⟩
  | .local _ .vmem, ⟨10, _⟩ => ⟨S1x512x128, .bf16⟩
  | .local _ .vmem, ⟨11, _⟩ => ⟨S2x512x128, .bf16⟩
  | .local _ .vmem, ⟨12, _⟩ => ⟨S2x2x512x256, .f32⟩
  | .local _ .vmem, ⟨13, _⟩ => ⟨S2x2x512x256, .bf16⟩
  | .local _ .vmem, ⟨14, _⟩ => ⟨S2x2x512x256, .bf16⟩
  | .local _ .vmem, ⟨15, _⟩ => ⟨S2x2x512x1, .f32⟩
  | .local _ .vmem, ⟨16, _⟩ => ⟨S2x512x128, .f32⟩
  | .local _ .vmem, ⟨17, _⟩ => ⟨S2x512x1, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_24 : BitVec 32 := 1#32
  let v37 : BitVec 32 := Scalar.subi v1 c1_i32_24
  let c0_i32 : BitVec 32 := 0#32
  let v38 : BitVec 32 := Scalar.subi v37 c0_i32
  let c256_i32 : BitVec 32 := 256#32
  let v39 : BitVec 32 := Scalar.muli v38 c256_i32
  v39
def k0_off1 (i : grid0.Coords) (c0_i32 : BitVec 32) : Fin 4 → Nat :=
  let c0_25 : Index := 0#32
  let c0_26 : Index := 0#32
  let c0_27 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_24 : BitVec 32 := 1#32
  let v37 : BitVec 32 := Scalar.subi v1 c1_i32_24
  let v38 : BitVec 32 := Scalar.subi v37 c0_i32
  let c256_i32 : BitVec 32 := 256#32
  let v39 : BitVec 32 := Scalar.muli v38 c256_i32
  let v40 : BitVec 32 := v39
  let v41 : Index := Scalar.indexCast v40
  ![0, 0, 0, v41.toNat]
def k0_mult2 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_47 : BitVec 32 := 1#32
  let v75 : BitVec 32 := Scalar.subi v1 c1_i32_47
  let c0_i32_48 : BitVec 32 := 0#32
  let v76 : BitVec 32 := Scalar.subi v75 c0_i32_48
  let c256_i32_49 : BitVec 32 := 256#32
  let v77 : BitVec 32 := Scalar.muli v76 c256_i32_49
  v77
def k0_off2 (i : grid0.Coords) (c0_i32_48 : BitVec 32) : Fin 4 → Nat :=
  let c0_50 : Index := 0#32
  let c1_51 : Index := 1#32
  let c0_52 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_47 : BitVec 32 := 1#32
  let v75 : BitVec 32 := Scalar.subi v1 c1_i32_47
  let v76 : BitVec 32 := Scalar.subi v75 c0_i32_48
  let c256_i32_49 : BitVec 32 := 256#32
  let v77 : BitVec 32 := Scalar.muli v76 c256_i32_49
  let v78 : BitVec 32 := v77
  let v79 : Index := Scalar.indexCast v78
  ![0, 1, 0, v79.toNat]
def k0_mult3 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_72 : BitVec 32 := 1#32
  let v113 : BitVec 32 := Scalar.subi v1 c1_i32_72
  let c1_i32_73 : BitVec 32 := 1#32
  let v114 : BitVec 32 := Scalar.subi v113 c1_i32_73
  let c256_i32_74 : BitVec 32 := 256#32
  let v115 : BitVec 32 := Scalar.muli v114 c256_i32_74
  v115
def k0_mult4 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_97 : BitVec 32 := 1#32
  let v151 : BitVec 32 := Scalar.subi v1 c1_i32_97
  let c1_i32_98 : BitVec 32 := 1#32
  let v152 : BitVec 32 := Scalar.subi v151 c1_i32_98
  let c256_i32_99 : BitVec 32 := 256#32
  let v153 : BitVec 32 := Scalar.muli v152 c256_i32_99
  v153
@[reducible] def k0_t1_loop (i : grid0.Coords) : Scf.Loop 32 :=
  let c0_i32_161 : BitVec 32 := 0#32
  let arg2 : BitVec 32 := BitVec.ofNat 32 (i 2).val
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_163 : BitVec 32 := 1#32
  ⟨c0_i32_161, v227, c1_i32_163⟩
def k0_mult5 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_318 : BitVec 32 := 1#32
  let v386 : BitVec 32 := Scalar.subi v1 c1_i32_318
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let v387 : BitVec 32 := Scalar.subi v386 v385
  let c256_i32_319 : BitVec 32 := 256#32
  let v388 : BitVec 32 := Scalar.muli v387 c256_i32_319
  v388
def k0_off3 (i : grid0.Coords) (k0_t1 : Fin (k0_t1_loop i).trips) : Fin 3 → Nat :=
  let c0_320 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_318 : BitVec 32 := 1#32
  let v386 : BitVec 32 := Scalar.subi v1 c1_i32_318
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let v387 : BitVec 32 := Scalar.subi v386 v385
  let c256_i32_319 : BitVec 32 := 256#32
  let v388 : BitVec 32 := Scalar.muli v387 c256_i32_319
  let v389 : BitVec 32 := v388
  let v390 : Index := Scalar.indexCast v389
  let c0_321 : Index := 0#32
  ![0, v390.toNat, 0]
def k0_mult6 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_363 : BitVec 32 := 1#32
  let v431 : BitVec 32 := Scalar.subi v1 c1_i32_363
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c2_i32_362 : BitVec 32 := 2#32
  let v430 : BitVec 32 := Scalar.addi v385 c2_i32_362
  let v432 : BitVec 32 := Scalar.subi v431 v430
  let c256_i32_364 : BitVec 32 := 256#32
  let v433 : BitVec 32 := Scalar.muli v432 c256_i32_364
  v433
def k0_off4 (i : grid0.Coords) (k0_t1 : Fin (k0_t1_loop i).trips) (c2_i32_362 : BitVec 32) : Fin 4 → Nat :=
  let c0_365 : Index := 0#32
  let c0_366 : Index := 0#32
  let c0_367 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_363 : BitVec 32 := 1#32
  let v431 : BitVec 32 := Scalar.subi v1 c1_i32_363
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let v430 : BitVec 32 := Scalar.addi v385 c2_i32_362
  let v432 : BitVec 32 := Scalar.subi v431 v430
  let c256_i32_364 : BitVec 32 := 256#32
  let v433 : BitVec 32 := Scalar.muli v432 c256_i32_364
  let v434 : BitVec 32 := v433
  let v435 : Index := Scalar.indexCast v434
  ![0, 0, 0, v435.toNat]
def k0_mult7 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_384 : BitVec 32 := 1#32
  let v460 : BitVec 32 := Scalar.subi v1 c1_i32_384
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let v461 : BitVec 32 := Scalar.subi v460 v385
  let c256_i32_385 : BitVec 32 := 256#32
  let v462 : BitVec 32 := Scalar.muli v461 c256_i32_385
  v462
def k0_mult8 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_429 : BitVec 32 := 1#32
  let v505 : BitVec 32 := Scalar.subi v1 c1_i32_429
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c2_i32_428 : BitVec 32 := 2#32
  let v504 : BitVec 32 := Scalar.addi v385 c2_i32_428
  let v506 : BitVec 32 := Scalar.subi v505 v504
  let c256_i32_430 : BitVec 32 := 256#32
  let v507 : BitVec 32 := Scalar.muli v506 c256_i32_430
  v507
def k0_off5 (i : grid0.Coords) (k0_t1 : Fin (k0_t1_loop i).trips) (c2_i32_428 : BitVec 32) : Fin 4 → Nat :=
  let c0_431 : Index := 0#32
  let c1_432 : Index := 1#32
  let c0_433 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_429 : BitVec 32 := 1#32
  let v505 : BitVec 32 := Scalar.subi v1 c1_i32_429
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let v504 : BitVec 32 := Scalar.addi v385 c2_i32_428
  let v506 : BitVec 32 := Scalar.subi v505 v504
  let c256_i32_430 : BitVec 32 := 256#32
  let v507 : BitVec 32 := Scalar.muli v506 c256_i32_430
  let v508 : BitVec 32 := v507
  let v509 : Index := Scalar.indexCast v508
  ![0, 1, 0, v509.toNat]
def k0_mult9 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_451 : BitVec 32 := 1#32
  let v535 : BitVec 32 := Scalar.subi v1 c1_i32_451
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c1_i32_450 : BitVec 32 := 1#32
  let v534 : BitVec 32 := Scalar.addi v385 c1_i32_450
  let v536 : BitVec 32 := Scalar.subi v535 v534
  let c256_i32_452 : BitVec 32 := 256#32
  let v537 : BitVec 32 := Scalar.muli v536 c256_i32_452
  v537
def k0_off6 (i : grid0.Coords) (k0_t1 : Fin (k0_t1_loop i).trips) : Fin 3 → Nat :=
  let c0_453 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_451 : BitVec 32 := 1#32
  let v535 : BitVec 32 := Scalar.subi v1 c1_i32_451
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c1_i32_450 : BitVec 32 := 1#32
  let v534 : BitVec 32 := Scalar.addi v385 c1_i32_450
  let v536 : BitVec 32 := Scalar.subi v535 v534
  let c256_i32_452 : BitVec 32 := 256#32
  let v537 : BitVec 32 := Scalar.muli v536 c256_i32_452
  let v538 : BitVec 32 := v537
  let v539 : Index := Scalar.indexCast v538
  let c0_454 : Index := 0#32
  ![0, v539.toNat, 0]
def k0_mult10 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_495 : BitVec 32 := 1#32
  let v580 : BitVec 32 := Scalar.subi v1 c1_i32_495
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c3_i32 : BitVec 32 := 3#32
  let v579 : BitVec 32 := Scalar.addi v385 c3_i32
  let v581 : BitVec 32 := Scalar.subi v580 v579
  let c256_i32_496 : BitVec 32 := 256#32
  let v582 : BitVec 32 := Scalar.muli v581 c256_i32_496
  v582
def k0_mult11 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_517 : BitVec 32 := 1#32
  let v610 : BitVec 32 := Scalar.subi v1 c1_i32_517
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c1_i32_516 : BitVec 32 := 1#32
  let v609 : BitVec 32 := Scalar.addi v385 c1_i32_516
  let v611 : BitVec 32 := Scalar.subi v610 v609
  let c256_i32_518 : BitVec 32 := 256#32
  let v612 : BitVec 32 := Scalar.muli v611 c256_i32_518
  v612
def k0_mult12 (i : grid0.Coords) (k0_t1 : Fin (k0_t1_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_562 : BitVec 32 := 1#32
  let v655 : BitVec 32 := Scalar.subi v1 c1_i32_562
  let c2_i32_317 : BitVec 32 := 2#32
  let c0_i32_161 : BitVec 32 := 0#32
  let c1_i32_163 : BitVec 32 := 1#32
  let arg16 : BitVec 32 := Scf.iv c0_i32_161 c1_i32_163 k0_t1
  let v385 : BitVec 32 := Scalar.muli c2_i32_317 arg16
  let c3_i32_561 : BitVec 32 := 3#32
  let v654 : BitVec 32 := Scalar.addi v385 c3_i32_561
  let v656 : BitVec 32 := Scalar.subi v655 v654
  let c256_i32_563 : BitVec 32 := 256#32
  let v657 : BitVec 32 := Scalar.muli v656 c256_i32_563
  v657
@[reducible] def k0_t2_loop (i : grid0.Coords) : Scf.Loop 32 :=
  let c0_i32_161 : BitVec 32 := 0#32
  let arg2 : BitVec 32 := BitVec.ofNat 32 (i 2).val
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let v224 : BitVec 32 := Scalar.addi c0_i32_161 v223
  let c1_i32_164 : BitVec 32 := 1#32
  ⟨v227, v224, c1_i32_164⟩
def k0_mult13 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_318 : BitVec 32 := 1#32
  let v386 : BitVec 32 := Scalar.subi v1 c1_i32_318
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let v387 : BitVec 32 := Scalar.subi v386 v385
  let c256_i32_319 : BitVec 32 := 256#32
  let v388 : BitVec 32 := Scalar.muli v387 c256_i32_319
  v388
def k0_off7 (i : grid0.Coords) (k0_t2 : Fin (k0_t2_loop i).trips) : Fin 3 → Nat :=
  let c0_320 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_318 : BitVec 32 := 1#32
  let v386 : BitVec 32 := Scalar.subi v1 c1_i32_318
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let v387 : BitVec 32 := Scalar.subi v386 v385
  let c256_i32_319 : BitVec 32 := 256#32
  let v388 : BitVec 32 := Scalar.muli v387 c256_i32_319
  let v389 : BitVec 32 := v388
  let v390 : Index := Scalar.indexCast v389
  let c0_321 : Index := 0#32
  ![0, v390.toNat, 0]
def k0_mult14 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_363 : BitVec 32 := 1#32
  let v431 : BitVec 32 := Scalar.subi v1 c1_i32_363
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c2_i32_362 : BitVec 32 := 2#32
  let v430 : BitVec 32 := Scalar.addi v385 c2_i32_362
  let v432 : BitVec 32 := Scalar.subi v431 v430
  let c256_i32_364 : BitVec 32 := 256#32
  let v433 : BitVec 32 := Scalar.muli v432 c256_i32_364
  v433
def k0_off8 (i : grid0.Coords) (k0_t2 : Fin (k0_t2_loop i).trips) (c2_i32_362 : BitVec 32) : Fin 4 → Nat :=
  let c0_365 : Index := 0#32
  let c0_366 : Index := 0#32
  let c0_367 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_363 : BitVec 32 := 1#32
  let v431 : BitVec 32 := Scalar.subi v1 c1_i32_363
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let v430 : BitVec 32 := Scalar.addi v385 c2_i32_362
  let v432 : BitVec 32 := Scalar.subi v431 v430
  let c256_i32_364 : BitVec 32 := 256#32
  let v433 : BitVec 32 := Scalar.muli v432 c256_i32_364
  let v434 : BitVec 32 := v433
  let v435 : Index := Scalar.indexCast v434
  ![0, 0, 0, v435.toNat]
def k0_mult15 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_384 : BitVec 32 := 1#32
  let v460 : BitVec 32 := Scalar.subi v1 c1_i32_384
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let v461 : BitVec 32 := Scalar.subi v460 v385
  let c256_i32_385 : BitVec 32 := 256#32
  let v462 : BitVec 32 := Scalar.muli v461 c256_i32_385
  v462
def k0_mult16 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_429 : BitVec 32 := 1#32
  let v505 : BitVec 32 := Scalar.subi v1 c1_i32_429
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c2_i32_428 : BitVec 32 := 2#32
  let v504 : BitVec 32 := Scalar.addi v385 c2_i32_428
  let v506 : BitVec 32 := Scalar.subi v505 v504
  let c256_i32_430 : BitVec 32 := 256#32
  let v507 : BitVec 32 := Scalar.muli v506 c256_i32_430
  v507
def k0_off9 (i : grid0.Coords) (k0_t2 : Fin (k0_t2_loop i).trips) (c2_i32_428 : BitVec 32) : Fin 4 → Nat :=
  let c0_431 : Index := 0#32
  let c1_432 : Index := 1#32
  let c0_433 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_429 : BitVec 32 := 1#32
  let v505 : BitVec 32 := Scalar.subi v1 c1_i32_429
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let v504 : BitVec 32 := Scalar.addi v385 c2_i32_428
  let v506 : BitVec 32 := Scalar.subi v505 v504
  let c256_i32_430 : BitVec 32 := 256#32
  let v507 : BitVec 32 := Scalar.muli v506 c256_i32_430
  let v508 : BitVec 32 := v507
  let v509 : Index := Scalar.indexCast v508
  ![0, 1, 0, v509.toNat]
def k0_mult17 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_451 : BitVec 32 := 1#32
  let v535 : BitVec 32 := Scalar.subi v1 c1_i32_451
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c1_i32_450 : BitVec 32 := 1#32
  let v534 : BitVec 32 := Scalar.addi v385 c1_i32_450
  let v536 : BitVec 32 := Scalar.subi v535 v534
  let c256_i32_452 : BitVec 32 := 256#32
  let v537 : BitVec 32 := Scalar.muli v536 c256_i32_452
  v537
def k0_off10 (i : grid0.Coords) (k0_t2 : Fin (k0_t2_loop i).trips) : Fin 3 → Nat :=
  let c0_453 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_451 : BitVec 32 := 1#32
  let v535 : BitVec 32 := Scalar.subi v1 c1_i32_451
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c1_i32_450 : BitVec 32 := 1#32
  let v534 : BitVec 32 := Scalar.addi v385 c1_i32_450
  let v536 : BitVec 32 := Scalar.subi v535 v534
  let c256_i32_452 : BitVec 32 := 256#32
  let v537 : BitVec 32 := Scalar.muli v536 c256_i32_452
  let v538 : BitVec 32 := v537
  let v539 : Index := Scalar.indexCast v538
  let c0_454 : Index := 0#32
  ![0, v539.toNat, 0]
def k0_mult18 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_495 : BitVec 32 := 1#32
  let v580 : BitVec 32 := Scalar.subi v1 c1_i32_495
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c3_i32 : BitVec 32 := 3#32
  let v579 : BitVec 32 := Scalar.addi v385 c3_i32
  let v581 : BitVec 32 := Scalar.subi v580 v579
  let c256_i32_496 : BitVec 32 := 256#32
  let v582 : BitVec 32 := Scalar.muli v581 c256_i32_496
  v582
def k0_mult19 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_517 : BitVec 32 := 1#32
  let v610 : BitVec 32 := Scalar.subi v1 c1_i32_517
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c1_i32_516 : BitVec 32 := 1#32
  let v609 : BitVec 32 := Scalar.addi v385 c1_i32_516
  let v611 : BitVec 32 := Scalar.subi v610 v609
  let c256_i32_518 : BitVec 32 := 256#32
  let v612 : BitVec 32 := Scalar.muli v611 c256_i32_518
  v612
def k0_mult20 (i : grid0.Coords) (k0_t2 : Fin (k0_t2_loop i).trips) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_562 : BitVec 32 := 1#32
  let v655 : BitVec 32 := Scalar.subi v1 c1_i32_562
  let c2_i32_317 : BitVec 32 := 2#32
  let c0_i32_161 : BitVec 32 := 0#32
  let v223 : BitVec 32 := Scalar.subi arg2 c0_i32_161
  let c1_i32_162 : BitVec 32 := 1#32
  let v225 : BitVec 32 := Scalar.divsi v223 c1_i32_162
  let v226 : BitVec 32 := Scalar.muli v225 c1_i32_162
  let v227 : BitVec 32 := Scalar.addi c0_i32_161 v226
  let c1_i32_164 : BitVec 32 := 1#32
  let arg16 : BitVec 32 := Scf.iv v227 c1_i32_164 k0_t2
  let v385 : BitVec 32 := Scalar.muli c2_i32_317 arg16
  let c3_i32_561 : BitVec 32 := 3#32
  let v654 : BitVec 32 := Scalar.addi v385 c3_i32_561
  let v656 : BitVec 32 := Scalar.subi v655 v654
  let c256_i32_563 : BitVec 32 := 256#32
  let v657 : BitVec 32 := Scalar.muli v656 c256_i32_563
  v657
def k0_mult21 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_166 : BitVec 32 := 1#32
  let v229 : BitVec 32 := Scalar.subi v1 c1_i32_166
  let c2_i32_165 : BitVec 32 := 2#32
  let v228 : BitVec 32 := Scalar.subi v1 c2_i32_165
  let v230 : BitVec 32 := Scalar.subi v229 v228
  let c256_i32_167 : BitVec 32 := 256#32
  let v231 : BitVec 32 := Scalar.muli v230 c256_i32_167
  v231
def k0_off11 (i : grid0.Coords) (c2_i32_165 : BitVec 32) : Fin 3 → Nat :=
  let c0_168 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_166 : BitVec 32 := 1#32
  let v229 : BitVec 32 := Scalar.subi v1 c1_i32_166
  let v228 : BitVec 32 := Scalar.subi v1 c2_i32_165
  let v230 : BitVec 32 := Scalar.subi v229 v228
  let c256_i32_167 : BitVec 32 := 256#32
  let v231 : BitVec 32 := Scalar.muli v230 c256_i32_167
  let v232 : BitVec 32 := v231
  let v233 : Index := Scalar.indexCast v232
  let c0_169 : Index := 0#32
  ![0, v233.toNat, 0]
def k0_mult22 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_192 : BitVec 32 := 1#32
  let v257 : BitVec 32 := Scalar.subi v1 c1_i32_192
  let c2_i32_191 : BitVec 32 := 2#32
  let v256 : BitVec 32 := Scalar.subi v1 c2_i32_191
  let v258 : BitVec 32 := Scalar.subi v257 v256
  let c256_i32_193 : BitVec 32 := 256#32
  let v259 : BitVec 32 := Scalar.muli v258 c256_i32_193
  v259
def k0_mult23 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_256 : BitVec 32 := 1#32
  let v319 : BitVec 32 := Scalar.subi v1 c1_i32_256
  let c1_i32_255 : BitVec 32 := 1#32
  let v318 : BitVec 32 := Scalar.subi v1 c1_i32_255
  let v320 : BitVec 32 := Scalar.subi v319 v318
  let c256_i32_257 : BitVec 32 := 256#32
  let v321 : BitVec 32 := Scalar.muli v320 c256_i32_257
  v321
def k0_mult24 (i : grid0.Coords) : BitVec 32 :=
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_282 : BitVec 32 := 1#32
  let v347 : BitVec 32 := Scalar.subi v1 c1_i32_282
  let c1_i32_281 : BitVec 32 := 1#32
  let v346 : BitVec 32 := Scalar.subi v1 c1_i32_281
  let v348 : BitVec 32 := Scalar.subi v347 v346
  let c256_i32_283 : BitVec 32 := 256#32
  let v349 : BitVec 32 := Scalar.muli v348 c256_i32_283
  v349
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x8192x512 : Shape := ⟨3, ![2, 8192, 512]⟩
abbrev S8 : Shape := ⟨1, ![8]⟩
abbrev S8192 : Shape := ⟨1, ![8192]⟩
abbrev S2x8192x8x64 : Shape := ⟨4, ![2, 8192, 8, 64]⟩
abbrev S2x8x8192x8192 : Shape := ⟨4, ![2, 8, 8192, 8192]⟩
abbrev S_ : Shape := ⟨0, ![]⟩
abbrev S1x8x1x1 : Shape := ⟨4, ![1, 8, 1, 1]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S8, .f32⟩
  | .hbm, ⟨4, _⟩ => ⟨S8192, .i32⟩
  | .hbm, ⟨5, _⟩ => ⟨S2x8192x8x64, .f32⟩
  | .hbm, ⟨6, _⟩ => ⟨S2x8192x8x64, .f32⟩
  | .hbm, ⟨7, _⟩ => ⟨S2x8192x8x64, .f32⟩
  | .hbm, ⟨8, _⟩ => ⟨S2x8x8192x8192, .f32⟩
  | .hbm, ⟨9, _⟩ => ⟨S_, .f32⟩
  | .hbm, ⟨10, _⟩ => ⟨S2x8x8192x8192, .f32⟩
  | .hbm, ⟨11, _⟩ => ⟨S2x8x8192x8192, .f32⟩
  | .hbm, ⟨12, _⟩ => ⟨S1x8x1x1, .f32⟩
  | .hbm, ⟨13, _⟩ => ⟨S2x8x8192x8192, .f32⟩
  | .hbm, ⟨14, _⟩ => ⟨S2x8x8192x8192, .f32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x8x8192x8192, .f32⟩
  | .hbm, ⟨21, _⟩ => ⟨S2x8x8192x8192, .f32⟩
  | .hbm, ⟨22, _⟩ => ⟨S_, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S_, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .i1⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S_, .f32⟩
  | .hbm, ⟨65, _⟩ => ⟨S_, .f32⟩
  | .hbm, ⟨66, _⟩ => ⟨S2x8x8192x8192, .i1⟩
  | .hbm, ⟨67, _⟩ => ⟨S2x8x8192x8192, .f32⟩
  | .hbm, ⟨68, _⟩ => ⟨S2x8x8192x8192, .f32⟩
  | .hbm, ⟨69, _⟩ => ⟨S2x8x64x8192, .f32⟩
  | .hbm, ⟨70, _⟩ => ⟨S2x8192x8x64, .f32⟩
  | .hbm, ⟨71, _⟩ => ⟨S2x8192x512, .f32⟩
  | .hbm, ⟨72, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x6656 : Shape := ⟨2, ![16384, 6656]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x6656, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x1024 : Shape := ⟨2, ![16384, 1024]⟩
abbrev S16384x512 : Shape := ⟨2, ![16384, 512]⟩
abbrev S16384x6656 : Shape := ⟨2, ![16384, 6656]⟩
abbrev S512x1024 : Shape := ⟨2, ![512, 1024]⟩
abbrev S1024x1024 : Shape := ⟨2, ![1024, 1024]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x6656, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x3x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x8200 : Shape := ⟨2, ![1024, 8200]⟩
abbrev S64 : Shape := ⟨1, ![64]⟩
abbrev S1024x1536 : Shape := ⟨2, ![1024, 1536]⟩
abbrev S1024x3072 : Shape := ⟨2, ![1024, 3072]⟩
abbrev S1024x3584 : Shape := ⟨2, ![1024, 3584]⟩
abbrev S1024x8192 : Shape := ⟨2, ![1024, 8192]⟩
abbrev S1024x8 : Shape := ⟨2, ![1024, 8]⟩
abbrev S_ : Shape := ⟨0, ![]⟩
abbrev S1024x128 : Shape := ⟨2, ![1024, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S16384x512 : Shape := ⟨2, ![16384, 512]⟩
abbrev S16384x6656 : Shape := ⟨2, ![16384, 6656]⟩
abbrev S16384x128 : Shape := ⟨2, ![16384, 128]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 58
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8200, .f32⟩
  | .hbm, ⟨3, _⟩ => ⟨S64, .f32⟩
  | .hbm, ⟨4, _⟩ => ⟨S64, .f32⟩
  | .hbm, ⟨5, _⟩ => ⟨S1024x1536, .f32⟩
  | .hbm, ⟨6, _⟩ => ⟨S1024x3072, .f32⟩
  | .hbm, ⟨7, _⟩ => ⟨S1024x3584, .f32⟩
  | .hbm, ⟨8, _⟩ => ⟨S1024x8192, .f32⟩
  | .hbm, ⟨9, _⟩ => ⟨S1024x8192, .bf16⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S1x1024, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S512x512, .bf16⟩
  | .hbm, ⟨53, _⟩ => ⟨S16384x512, .bf16⟩
  | .hbm, ⟨54, _⟩ => ⟨S16384x512, .f32⟩
  | .hbm, ⟨55, _⟩ => ⟨S16384x512, .f32⟩
  | .hbm, ⟨56, _⟩ => ⟨S16384x6656, .f32⟩
  | .hbm, ⟨57, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x128, .f32⟩
  | .local _ .vmem, ⟨18, _⟩ => ⟨S1024x128, .f32⟩
  | .local _ .vmem, ⟨19, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_v28_2 : Ref sig .tc := ⟨.hbm, 55, rfl⟩
abbrev main_v28_3 : Ref sig .tc := ⟨.hbm, 56, rfl⟩
abbrev main_v28_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .sge arg1 c3_i32
  let v17 : BitVec 32 := Scalar.extui v16
  let c0_i32_8 : BitVec 32 := 0#32
  let v18 : BitVec 1 := Scalar.cmpi .ne v17 c0_i32_8
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ProjIdeal.lean ====
variable {F : FTy → Type} [FloatOps F] [Named F]
def κ : String → Option EReal := fun
  | "qscale" => some (((Real.log 2)⁻¹ * 8⁻¹ : ℝ) : EReal)
  | _ => none
-- ==== ProjReferenceIdeal.lean ====
abbrev S16384x1024 : Shape := ⟨2, ![16384, 1024]⟩
abbrev S1024 : Shape := ⟨1, ![1024]⟩
abbrev S1024x8200 : Shape := ⟨2, ![1024, 8200]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8200 : Shape := ⟨2, ![16384, 8200]⟩
abbrev S16384x512 : Shape := ⟨2, ![16384, 512]⟩
abbrev S16384x3584 : Shape := ⟨2, ![16384, 3584]⟩
abbrev S16384x8 : Shape := ⟨2, ![16384, 8]⟩
abbrev S16384x3072 : Shape := ⟨2, ![16384, 3072]⟩
abbrev S16384x8x64 : Shape := ⟨3, ![16384, 8, 64]⟩
abbrev S16384x8x1 : Shape := ⟨3, ![16384, 8, 1]⟩
abbrev S1x1x64 : Shape := ⟨3, ![1, 1, 64]⟩
abbrev S16384x6656 : Shape := ⟨2, ![16384, 6656]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8200, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x8200, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x3584, .f32⟩
  | .hbm, ⟨26, _⟩ => ⟨S16384x8, .f32⟩
  | .hbm, ⟨27, _⟩ => ⟨S16384x3072, .f32⟩
  | .hbm, ⟨28, _⟩ => ⟨S16384x8x64, .f32⟩
  | .hbm, ⟨29, _⟩ => ⟨S16384x8x64, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x1, .f32⟩
  | .hbm, ⟨40, _⟩ => ⟨S16384x8x64, .f32⟩
  | .hbm, ⟨41, _⟩ => ⟨S16384x8x64, .f32⟩
  | .hbm, ⟨42, _⟩ => ⟨S1x1x64, .f32⟩
  | .hbm, ⟨43, _⟩ => ⟨S16384x8x64, .f32⟩
  | .hbm, ⟨44, _⟩ => ⟨S16384x8x64, .f32⟩
  | .hbm, ⟨45, _⟩ => ⟨S16384x512, .f32⟩
  | .hbm, ⟨46, _⟩ => ⟨S16384x8x64, .f32⟩
  | .hbm, ⟨47, _⟩ => ⟨S16384x8x64, .f32⟩
  | .hbm, ⟨48, _⟩ => ⟨S_, .f32⟩
  | .hbm, ⟨49, _⟩ => ⟨S16384x8, .f32⟩
  | .hbm, ⟨50, _⟩ => ⟨S16384x8x1, .f32⟩
  | .hbm, ⟨51, _⟩ => ⟨S_, .f32⟩
  | .hbm, ⟨52, _⟩ => ⟨S16384x8x1, .f32⟩
  | .hbm, ⟨53, _⟩ => ⟨S16384x8x1, .f32⟩
  | .hbm, ⟨54, _⟩ => ⟨S_, .f32⟩
  | .hbm, ⟨55, _⟩ => ⟨S16384x8x1, .f32⟩
  | .hbm, ⟨56, _⟩ => ⟨S16384x8x1, .f32⟩
  | .hbm, ⟨57, _⟩ => ⟨S16384x8x1, .f32⟩
  | .hbm, ⟨58, _⟩ => ⟨S16384x8x64, .f32⟩
  | .hbm, ⟨59, _⟩ => ⟨S16384x8x64, .f32⟩
  | .hbm, ⟨60, _⟩ => ⟨S1x1x64, .f32⟩
  | .hbm, ⟨61, _⟩ => ⟨S16384x8x64, .f32⟩
  | .hbm, ⟨62, _⟩ => ⟨S16384x8x64, .f32⟩
  | .hbm, ⟨63, _⟩ => ⟨S16384x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16384x512, .f32⟩
  | .hbm, ⟨71, _⟩ => ⟨S16384x512, .f32⟩
  | .hbm, ⟨72, _⟩ => ⟨S16384x512, .bf16⟩
  | .hbm, ⟨73, _⟩ => ⟨S16384x6656, .f32⟩
  | .hbm, ⟨74, _⟩ => ⟨S_, .i32⟩
  | .hbm, ⟨75, _⟩ => ⟨S_, .f32⟩
  | .hbm, ⟨76, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c : Ref sig .tc := ⟨.hbm, 74, rfl⟩
abbrev main_call0_v0 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proof.Sb.Trip.lean ====
module

public import proofs.«01_k».proof.Proof.Gen.KernelIdeal.Frame
public import proofs.«01_k».proof.Proof.Gen.KernelIdeal.Loops
public import Idealize.ShloMosaic.Lib.LoopRemainder
public import Idealize.ShloMosaic.Lib.Pipeline.ReadBack

/-! # One turn of the attention loop

The body keeps, for each of its two heads, the scores of two key tiles, their
softplus, the weights of the first tile and its row sums, and the running sum and
remainder.  `Core` is that state as values, `cstep` is what one turn of the loop
makes of it, and `trip` says that the turn does so. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The pieces of the scratch buffers -/

/-- Head 0, slot 0 of a buffer of score tiles, and of a buffer of row sums. -/
abbrev T00 : Rect S2x2x512x256 := Rect.unit ![0, 0, 0, 0] S1x1x512x256.size inb_S2x2x512x256_S1x1x512x256_0_0_0_0
abbrev M00 : Rect S2x2x512x1 := Rect.unit ![0, 0, 0, 0] S1x1x512x1.size inb_S2x2x512x1_S1x1x512x1_0_0_0_0
/-- Head 0, slot 1 of a buffer of score tiles, and of a buffer of row sums. -/
abbrev T01 : Rect S2x2x512x256 := Rect.unit ![0, 1, 0, 0] S1x1x512x256.size inb_S2x2x512x256_S1x1x512x256_0_1_0_0
abbrev M01 : Rect S2x2x512x1 := Rect.unit ![0, 1, 0, 0] S1x1x512x1.size inb_S2x2x512x1_S1x1x512x1_0_1_0_0
/-- Head 1, slot 0 of a buffer of score tiles, and of a buffer of row sums. -/
abbrev T10 : Rect S2x2x512x256 := Rect.unit ![1, 0, 0, 0] S1x1x512x256.size inb_S2x2x512x256_S1x1x512x256_1_0_0_0
abbrev M10 : Rect S2x2x512x1 := Rect.unit ![1, 0, 0, 0] S1x1x512x1.size inb_S2x2x512x1_S1x1x512x1_1_0_0_0
/-- Head 1, slot 1 of a buffer of score tiles, and of a buffer of row sums. -/
abbrev T11 : Rect S2x2x512x256 := Rect.unit ![1, 1, 0, 0] S1x1x512x256.size inb_S2x2x512x256_S1x1x512x256_1_1_0_0
abbrev M11 : Rect S2x2x512x1 := Rect.unit ![1, 1, 0, 0] S1x1x512x1.size inb_S2x2x512x1_S1x1x512x1_1_1_0_0
/-- Head 0 of a buffer of head rows, and of a buffer of one number per row. -/
abbrev A0 : Rect S2x512x128 := Rect.unit ![0, 0, 0] S1x512x128.size inb_S2x512x128_S1x512x128_0_0_0
abbrev R0 : Rect S2x512x1 := Rect.unit ![0, 0, 0] S1x512x1.size inb_S2x512x1_S1x512x1_0_0_0
/-- Head 1 of a buffer of head rows, and of a buffer of one number per row. -/
abbrev A1 : Rect S2x512x128 := Rect.unit ![1, 0, 0] S1x512x128.size inb_S2x512x128_S1x512x128_1_0_0
abbrev R1 : Rect S2x512x1 := Rect.unit ![1, 0, 0] S1x512x1.size inb_S2x512x1_S1x512x1_1_0_0
abbrev WU : Rect S256x256 := Rect.unit ![0, 0] S256x256.size inb_S256x256_S256x256_0_0

/-- The state between two turns: per head the scores and softplus of two tiles, the
weights and row sums of the first, the running sum and the remainder. -/
structure Core (F : FTy → Type) where
  z0 : Fin 2 → Vec F S1x1x512x256 .f32
  z1 : Fin 2 → Vec F S1x1x512x256 .f32
  s0 : Fin 2 → Vec F S1x1x512x256 .bf16
  s1 : Fin 2 → Vec F S1x1x512x256 .bf16
  a0 : Fin 2 → Vec F S1x1x512x256 .bf16
  m0 : Fin 2 → Vec F S1x1x512x1 .f32
  acc : Fin 2 → Vec F S1x512x128 .f32
  r : Fin 2 → Vec F S1x512x1 .f32

/-- The state read off the six scratch buffers. -/
def coreOf (x10 : Vec F S2x2x512x256 .f32) (x11 : Vec F S2x2x512x256 .bf16) (x12 : Vec F S2x2x512x256 .bf16)
    (x13 : Vec F S2x2x512x1 .f32) (x14 : Vec F S2x512x128 .f32) (x15 : Vec F S2x512x1 .f32) : Core F where
  z0 := ![View.ld x10 T00, View.ld x10 T10]
  z1 := ![View.ld x10 T01, View.ld x10 T11]
  s0 := ![View.ld x11 T00, View.ld x11 T10]
  s1 := ![View.ld x11 T01, View.ld x11 T11]
  a0 := ![View.ld x12 T00, View.ld x12 T10]
  m0 := ![View.ld x13 M00, View.ld x13 M10]
  acc := ![View.ld x14 A0, View.ld x14 A1]
  r := ![View.ld x15 R0, View.ld x15 R1]

/-- The key tiles that turn `k` scores: `![head 0, head 1]`, first the one that goes to
slot 0, then the one that goes to slot 1. -/
def keyA (i : grid0.Coords) (k : Fin (k0_t1_loop i).trips) (x4 : Vec F S1x2x128x8192 .bf16) : Fin 2 → Vec F S1x1x128x256 .bf16 :=
  ![View.ld x4 (Rect.unit (s := S1x2x128x8192) (k0_off4 i k 2#32) S1x1x128x256.size (k0_off4_inb i k 0)),
    View.ld x4 (Rect.unit (s := S1x2x128x8192) (k0_off5 i k 2#32) S1x1x128x256.size (k0_off5_inb i k 0))]
def keyB (i : grid0.Coords) (k : Fin (k0_t1_loop i).trips) (x4 : Vec F S1x2x128x8192 .bf16) : Fin 2 → Vec F S1x1x128x256 .bf16 :=
  ![View.ld x4 (Rect.unit (s := S1x2x128x8192) (k0_off4 i k 3#32) S1x1x128x256.size (k0_off4_inb i k 1)),
    View.ld x4 (Rect.unit (s := S1x2x128x8192) (k0_off5 i k 3#32) S1x1x128x256.size (k0_off5_inb i k 1))]

/-- The value tiles that turn `k` uses. -/
def valA (i : grid0.Coords) (k : Fin (k0_t1_loop i).trips) (x5 : Vec F S1x8192x128 .bf16) : Vec F S1x256x128 .bf16 :=
  View.ld x5 (Rect.unit (s := S1x8192x128) (k0_off3 i k) S1x256x128.size (k0_off3_inb i k))
def valB (i : grid0.Coords) (k : Fin (k0_t1_loop i).trips) (x5 : Vec F S1x8192x128 .bf16) : Vec F S1x256x128 .bf16 :=
  View.ld x5 (Rect.unit (s := S1x8192x128) (k0_off6 i k) S1x256x128.size (k0_off6_inb i k))

/-- The two heads' query rows. -/
def queries (x9 : Vec F S2x512x128 .bf16) : Fin 2 → Vec F S1x512x128 .bf16 := ![View.ld x9 A0, View.ld x9 A1]

/-- The weights and row sums of a tile, from its softplus and scores. -/
def wts (x7 : Vec F S256x256 .bf16) (s : Vec F S1x1x512x256 .bf16) (z : Vec F S1x1x512x256 .f32) : Vec F S1x1x512x256 .bf16 := k0_pay7 s (View.ld x7 WU) z
def sums (x7 : Vec F S256x256 .bf16) (s : Vec F S1x1x512x256 .bf16) : Vec F S1x1x512x1 .f32 := k0_pay8 s (View.ld x7 WU)

/-- One turn, on values. -/
def cstep (i : grid0.Coords) (x4 : Vec F S1x2x128x8192 .bf16) (x5 : Vec F S1x8192x128 .bf16) (x7 : Vec F S256x256 .bf16)
    (x9 : Vec F S2x512x128 .bf16) (k : Fin (k0_t1_loop i).trips) (C : Core F) : Core F where
  z0 e := k0_pay24 (keyA i k x4 e) (queries x9 e)
  s0 e := k0_pay25 (keyA i k x4 e) (queries x9 e)
  z1 e := k0_pay24 (keyB i k x4 e) (queries x9 e)
  s1 e := k0_pay25 (keyB i k x4 e) (queries x9 e)
  a0 e := wts x7 (k0_pay25 (keyA i k x4 e) (queries x9 e)) (k0_pay24 (keyA i k x4 e) (queries x9 e))
  m0 e := sums x7 (k0_pay25 (keyA i k x4 e) (queries x9 e))
  acc e := k0_pay4 (valB i k x5) (wts x7 (C.s1 e) (C.z1 e)) (k0_pay5 (C.r e) (C.m0 e)) (k0_pay4 (valA i k x5) (C.a0 e) (C.r e) (C.acc e))
  r e := k0_pay5 (k0_pay5 (C.r e) (C.m0 e)) (sums x7 (C.s1 e))

/-- What the scratch buffers hold when the state is `C` and the state before it was `P`. -/
def zOf (C : Core F) : Vec F S2x2x512x256 .f32 := View.canon [⟨T11, C.z1 1⟩, ⟨T01, C.z1 0⟩, ⟨T10, C.z0 1⟩, ⟨T00, C.z0 0⟩]
def sOf (C : Core F) : Vec F S2x2x512x256 .bf16 := View.canon [⟨T11, C.s1 1⟩, ⟨T01, C.s1 0⟩, ⟨T10, C.s0 1⟩, ⟨T00, C.s0 0⟩]
def aOf (x7 : Vec F S256x256 .bf16) (P C : Core F) : Vec F S2x2x512x256 .bf16 :=
  View.canon [⟨T10, C.a0 1⟩, ⟨T00, C.a0 0⟩, ⟨T11, wts x7 (P.s1 1) (P.z1 1)⟩, ⟨T01, wts x7 (P.s1 0) (P.z1 0)⟩]
def mOf (x7 : Vec F S256x256 .bf16) (P C : Core F) : Vec F S2x2x512x1 .f32 :=
  View.canon [⟨M10, C.m0 1⟩, ⟨M00, C.m0 0⟩, ⟨M11, sums x7 (P.s1 1)⟩, ⟨M01, sums x7 (P.s1 0)⟩]
def accOf (C : Core F) : Vec F S2x512x128 .f32 := View.canon [⟨A1, C.acc 1⟩, ⟨A0, C.acc 0⟩]
def rOf (C : Core F) : Vec F S2x512x1 .f32 := View.canon [⟨R1, C.r 1⟩, ⟨R0, C.r 0⟩]

/-! ## Reading the pieces back -/

/-- A load at the last piece's own place, and at a place apart from it. -/
theorem ld_canon_hit {s : Shape} {e : EltTy} (r : Rect s) (w : r.shape.Idx → Elt F e) (L : List (View.Piece (Elt F) s e)) :
    View.ld (View.canon (⟨r, w⟩ :: L)) r = w := funext fun j => View.canon_cons_emb r w L j
theorem ld_canon_skip {s : Shape} {e : EltTy} (r : Rect s) (w : r.shape.Idx → Elt F e) (L : List (View.Piece (Elt F) s e)) (r' : Rect s)
    (h : LoadRect.disj r r'.toLoadRect = true) : View.ld (View.canon (⟨r, w⟩ :: L)) r' = View.ld (View.canon L) r' :=
  funext fun j => View.canon_cons_of_not_mem ⟨r, w⟩ L (LoadRect.idx_not_mem_of_disj h j)

theorem ld_zOf_T11 (C : Core F) : View.ld (zOf C) T11 = C.z1 1 := by
  unfold zOf;  exact ld_canon_hit _ _ _
theorem ld_zOf_T01 (C : Core F) : View.ld (zOf C) T01 = C.z1 0 := by
  unfold zOf; rw [ld_canon_skip _ _ _ _ (by decide)]; exact ld_canon_hit _ _ _
theorem ld_zOf_T10 (C : Core F) : View.ld (zOf C) T10 = C.z0 1 := by
  unfold zOf; rw [ld_canon_skip _ _ _ _ (by decide)]; rw [ld_canon_skip _ _ _ _ (by decide)]; exact ld_canon_hit _ _ _
theorem ld_zOf_T00 (C : Core F) : View.ld (zOf C) T00 = C.z0 0 := by
  unfold zOf; rw [ld_canon_skip _ _ _ _ (by decide)]; rw [ld_canon_skip _ _ _ _ (by decide)]; rw [ld_canon_skip _ _ _ _ (by decide)]; exact ld_canon_hit _ _ _
theorem ld_sOf_T11 (C : Core F) : View.ld (sOf C) T11 = C.s1 1 := by
  unfold sOf;  exact ld_canon_hit _ _ _
theorem ld_sOf_T01 (C : Core F) : View.ld (sOf C) T01 = C.s1 0 := by
  unfold sOf; rw [ld_canon_skip _ _ _ _ (by decide)]; exact ld_canon_hit _ _ _
theorem ld_sOf_T10 (C : Core F) : View.ld (sOf C) T10 = C.s0 1 := by
  unfold sOf; rw [ld_canon_skip _ _ _ _ (by decide)]; rw [ld_canon_skip _ _ _ _ (by decide)]; exact ld_canon_hit _ _ _
theorem ld_sOf_T00 (C : Core F) : View.ld (sOf C) T00 = C.s0 0 := by
  unfold sOf; rw [ld_canon_skip _ _ _ _ (by decide)]; rw [ld_canon_skip _ _ _ _ (by decide)]; rw [ld_canon_skip _ _ _ _ (by decide)]; exact ld_canon_hit _ _ _
theorem ld_aOf_T10 (x7 : Vec F S256x256 .bf16) (P C : Core F) : View.ld (aOf x7 P C) T10 = C.a0 1 := by
  unfold aOf;  exact ld_canon_hit _ _ _
theorem ld_aOf_T00 (x7 : Vec F S256x256 .bf16) (P C : Core F) : View.ld (aOf x7 P C) T00 = C.a0 0 := by
  unfold aOf; rw [ld_canon_skip _ _ _ _ (by decide)]; exact ld_canon_hit _ _ _
theorem ld_mOf_M10 (x7 : Vec F S256x256 .bf16) (P C : Core F) : View.ld (mOf x7 P C) M10 = C.m0 1 := by
  unfold mOf;  exact ld_canon_hit _ _ _
theorem ld_mOf_M00 (x7 : Vec F S256x256 .bf16) (P C : Core F) : View.ld (mOf x7 P C) M00 = C.m0 0 := by
  unfold mOf; rw [ld_canon_skip _ _ _ _ (by decide)]; exact ld_canon_hit _ _ _
theorem ld_accOf_A1 (C : Core F) : View.ld (accOf C) A1 = C.acc 1 := by
  unfold accOf;  exact ld_canon_hit _ _ _
theorem ld_accOf_A0 (C : Core F) : View.ld (accOf C) A0 = C.acc 0 := by
  unfold accOf; rw [ld_canon_skip _ _ _ _ (by decide)]; exact ld_canon_hit _ _ _
theorem ld_rOf_R1 (C : Core F) : View.ld (rOf C) R1 = C.r 1 := by
  unfold rOf;  exact ld_canon_hit _ _ _
theorem ld_rOf_R0 (C : Core F) : View.ld (rOf C) R0 = C.r 0 := by
  unfold rOf; rw [ld_canon_skip _ _ _ _ (by decide)]; exact ld_canon_hit _ _ _

theorem two {α : Type} (f : Fin 2 → α) : ![f 0, f 1] = f := by funext e; fin_cases e <;> rfl

/-- The state is what the buffers hold. -/
theorem coreOf_of (x7 : Vec F S256x256 .bf16) (P C : Core F) : coreOf (zOf C) (sOf C) (aOf x7 P C) (mOf x7 P C) (accOf C) (rOf C) = C := by
  unfold coreOf
  simp only [ld_zOf_T11, ld_zOf_T01, ld_zOf_T10, ld_zOf_T00, ld_sOf_T11, ld_sOf_T01, ld_sOf_T10, ld_sOf_T00, ld_aOf_T10, ld_aOf_T00,
    ld_mOf_M10, ld_mOf_M00, ld_accOf_A1, ld_accOf_A0, ld_rOf_R1, ld_rOf_R0, two]

/-! ## The pieces cover their buffers -/

theorem coverT (y : S2x2x512x256.Idx) : y ∈ T11.set ∨ y ∈ T01.set ∨ y ∈ T10.set ∨ y ∈ T00.set := by
  have h0 := (y 0).isLt
  have h1 := (y 1).isLt
  have h2 := (y 2).isLt
  have h3 := (y 3).isLt
  simp only [Rect.mem_set_unit, Fin.forall_fin_succ, Fin.forall_fin_zero] at *
  simp [S2x2x512x256, Fin.forall_fin_succ] at *
  omega
theorem coverM (y : S2x2x512x1.Idx) : y ∈ M11.set ∨ y ∈ M01.set ∨ y ∈ M10.set ∨ y ∈ M00.set := by
  have h0 := (y 0).isLt
  have h1 := (y 1).isLt
  have h2 := (y 2).isLt
  have h3 := (y 3).isLt
  simp only [Rect.mem_set_unit, Fin.forall_fin_succ, Fin.forall_fin_zero] at *
  simp [S2x2x512x1, Fin.forall_fin_succ] at *
  omega
theorem coverA (y : S2x512x128.Idx) : y ∈ A1.set ∨ y ∈ A0.set := by
  have h0 := (y 0).isLt
  have h1 := (y 1).isLt
  have h2 := (y 2).isLt
  simp only [Rect.mem_set_unit, Fin.forall_fin_succ, Fin.forall_fin_zero] at *
  simp [S2x512x128, Fin.forall_fin_succ] at *
  omega
theorem coverR (y : S2x512x1.Idx) : y ∈ R1.set ∨ y ∈ R0.set := by
  have h0 := (y 0).isLt
  have h1 := (y 1).isLt
  have h2 := (y 2).isLt
  simp only [Rect.mem_set_unit, Fin.forall_fin_succ, Fin.forall_fin_zero] at *
  simp [S2x512x1, Fin.forall_fin_succ] at *
  omega

theorem coverT2 (y : S2x2x512x256.Idx) : y ∈ T10.set ∨ y ∈ T00.set ∨ y ∈ T11.set ∨ y ∈ T01.set := by
  have h0 := (y 0).isLt
  have h1 := (y 1).isLt
  have h2 := (y 2).isLt
  have h3 := (y 3).isLt
  simp only [Rect.mem_set_unit, Fin.forall_fin_succ, Fin.forall_fin_zero] at *
  simp [S2x2x512x256, Fin.forall_fin_succ] at *
  omega
theorem coverM2 (y : S2x2x512x1.Idx) : y ∈ M10.set ∨ y ∈ M00.set ∨ y ∈ M11.set ∨ y ∈ M01.set := by
  have h0 := (y 0).isLt
  have h1 := (y 1).isLt
  have h2 := (y 2).isLt
  have h3 := (y 3).isLt
  simp only [Rect.mem_set_unit, Fin.forall_fin_succ, Fin.forall_fin_zero] at *
  simp [S2x2x512x1, Fin.forall_fin_succ] at *
  omega

/-! ## Reading a list of writes -/

theorem canon_append {s : Shape} {e : EltTy} (L L' : List (View.Piece (Elt F) s e)) (y : s.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · obtain ⟨q, hq, hyq⟩ := h
      rcases List.mem_cons.mp hq with rfl | hq
      · exact absurd hyq hy
      · rw [List.cons_append, View.canon_cons_of_not_mem p _ hy, View.canon_cons_of_not_mem p _ hy]
        exact ih ⟨q, hq, hyq⟩

/-- Writes that begin with pieces covering the buffer leave the canonical contents of those pieces. -/
theorem read_writes_covered {s : Shape} {e : EltTy} {κ : Kind} {sp : Space} (v : View sig κ sp s e) (f : v.ty.Contents (Elt F))
    (L L' : List (View.Piece (Elt F) s e)) (h : ∀ y, ∃ p ∈ L, y ∈ p.1.set) : v.read (Elt F) (v.writes (Elt F) f (L ++ L')) = View.canon L := by
  rw [View.read_writes_eq_canon v f (L ++ L') (fun y => by obtain ⟨p, hp, hy⟩ := h y; exact ⟨p, List.mem_append_left _ hp, hy⟩)]
  exact funext fun y => canon_append L L' y (h y)

theorem read4 {s : Shape} {e : EltTy} {κ : Kind} {sp : Space} (v : View sig κ sp s e) (f : v.ty.Contents (Elt F))
    (r1 r2 r3 r4 : Rect s) {w1 w1' : r1.shape.Idx → Elt F e} {w2 w2' : r2.shape.Idx → Elt F e} {w3 w3' : r3.shape.Idx → Elt F e}
    {w4 w4' : r4.shape.Idx → Elt F e} (h : ∀ y, y ∈ r1.set ∨ y ∈ r2.set ∨ y ∈ r3.set ∨ y ∈ r4.set)
    (e1 : w1 = w1') (e2 : w2 = w2') (e3 : w3 = w3') (e4 : w4 = w4') :
    v.read (Elt F) (v.writes (Elt F) f [⟨r1, w1⟩, ⟨r2, w2⟩, ⟨r3, w3⟩, ⟨r4, w4⟩]) = View.canon [⟨r1, w1'⟩, ⟨r2, w2'⟩, ⟨r3, w3'⟩, ⟨r4, w4'⟩] := by
  subst e1 e2 e3 e4
  refine View.read_writes_eq_canon v f _ fun y => ?_
  rcases h y with h | h | h | h
  exacts [⟨⟨r1, w1⟩, by simp, h⟩, ⟨⟨r2, w2⟩, by simp, h⟩, ⟨⟨r3, w3⟩, by simp, h⟩, ⟨⟨r4, w4⟩, by simp, h⟩]

theorem read2 {s : Shape} {e : EltTy} {κ : Kind} {sp : Space} (v : View sig κ sp s e) (f : v.ty.Contents (Elt F))
    (r1 r2 : Rect s) {w1 w1' : r1.shape.Idx → Elt F e} {w2 w2' : r2.shape.Idx → Elt F e} (L : List (View.Piece (Elt F) s e))
    (h : ∀ y, y ∈ r1.set ∨ y ∈ r2.set) (e1 : w1 = w1') (e2 : w2 = w2') :
    v.read (Elt F) (v.writes (Elt F) f (⟨r1, w1⟩ :: ⟨r2, w2⟩ :: L)) = View.canon [⟨r1, w1'⟩, ⟨r2, w2'⟩] := by
  subst e1 e2
  refine read_writes_covered v f [⟨r1, w1⟩, ⟨r2, w2⟩] L fun y => ?_
  rcases h y with h | h
  exacts [⟨⟨r1, w1⟩, by simp, h⟩, ⟨⟨r2, w2⟩, by simp, h⟩]

/-! ## The turn -/

set_option maxHeartbeats 4000000 in
/-- One turn takes the buffers from a state to `cstep` of it. -/
theorem trip (c : Dev nD) (i : grid0.Coords) (arg3 : Memref sig .tc .vmem S1x512x128 .bf16) (harg3 : arg3.IsWhole) (arg4 : Memref sig .tc .vmem S1x2x128x8192 .bf16) (harg4 : arg4.IsWhole) (arg5 : Memref sig .tc .vmem S1x8192x128 .bf16) (harg5 : arg5.IsWhole) (arg6 : Memref sig .tc .vmem S1x2x128 .f32) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S2x512x128 .bf16) (harg9 : arg9.IsWhole) (arg10 : Memref sig .tc .vmem S2x2x512x256 .f32) (harg10 : arg10.IsWhole) (arg11 : Memref sig .tc .vmem S2x2x512x256 .bf16) (harg11 : arg11.IsWhole) (arg12 : Memref sig .tc .vmem S2x2x512x256 .bf16) (harg12 : arg12.IsWhole) (arg13 : Memref sig .tc .vmem S2x2x512x1 .f32) (harg13 : arg13.IsWhole) (arg14 : Memref sig .tc .vmem S2x512x128 .f32) (harg14 : arg14.IsWhole) (arg15 : Memref sig .tc .vmem S2x512x1 .f32) (harg15 : arg15.IsWhole)
    (arg2 : BitVec 32) (v1 : BitVec 32) (v193 : FVec F S512x256 .f32) (v198 : FVec F S512x256 .bf16) (v199 : Vec F S1x1x512x256 .bf16)
    (x4 : Vec F S1x2x128x8192 .bf16) (x5 : Vec F S1x8192x128 .bf16) (x7 : Vec F S256x256 .bf16) (x9 : Vec F S2x512x128 .bf16)
    (f9 : Buf (Elt F) (arg9.view.loc (c : Thread nD τ))) (h9 : arg9.view.read (Elt F) f9 = x9)
    (f10 : Buf (Elt F) (arg10.view.loc (c : Thread nD τ))) (f11 : Buf (Elt F) (arg11.view.loc (c : Thread nD τ)))
    (f12 : Buf (Elt F) (arg12.view.loc (c : Thread nD τ))) (f13 : Buf (Elt F) (arg13.view.loc (c : Thread nD τ)))
    (f14 : Buf (Elt F) (arg14.view.loc (c : Thread nD τ))) (f15 : Buf (Elt F) (arg15.view.loc (c : Thread nD τ)))
    (P : Core F) (hP : P = coreOf (arg10.view.read (Elt F) f10) (arg11.view.read (Elt F) f11) (arg12.view.read (Elt F) f12)
      (arg13.view.read (Elt F) f13) (arg14.view.read (Elt F) f14) (arg15.view.read (Elt F) f15))
    (k : Fin (k0_t1_loop i).trips) :
    iprop((arg4.view.loc (c : Thread nD τ) ↦[arg4.view.set]{fullShare} harg4.unread x4) ∗ (arg5.view.loc (c : Thread nD τ) ↦[arg5.view.set]{fullShare} harg5.unread x5)
      ∗ (arg7.view.loc (c : Thread nD τ) ↦[arg7.view.set]{fullShare} harg7.unread x7) ∗ (arg9.view.loc (c : Thread nD τ) ↦[arg9.view.set]{fullShare} f9)
      ∗ (arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ (arg13.view.loc (c : Thread nD τ) ↦[arg13.view.set]{fullShare} f13)
      ∗ (arg14.view.loc (c : Thread nD τ) ↦[arg14.view.set]{fullShare} f14) ∗ (arg15.view.loc (c : Thread nD τ) ↦[arg15.view.set]{fullShare} f15))
    ⊢ wp (M := 𝕄) frame (wpE (defs₀ (F := F)) Variants.none (c : Thread nD τ) none) Set.univ
      (k0_t1_body (F := F) i arg3 harg3 arg4 harg4 arg5 harg5 arg6 harg6 arg7 harg7 arg8 harg8 arg9 harg9 arg10 harg10 arg11 harg11 arg12 harg12 arg13 harg13 arg14 harg14 arg15 harg15 arg2 v1 v193 v198 v199 k ())
      (fun _ => iprop((arg4.view.loc (c : Thread nD τ) ↦[arg4.view.set]{fullShare} harg4.unread x4) ∗ (arg5.view.loc (c : Thread nD τ) ↦[arg5.view.set]{fullShare} harg5.unread x5)
      ∗ (arg7.view.loc (c : Thread nD τ) ↦[arg7.view.set]{fullShare} harg7.unread x7) ∗ (arg9.view.loc (c : Thread nD τ) ↦[arg9.view.set]{fullShare} f9)
      ∗ owns (c : Thread nD τ) arg10 fullShare (zOf (cstep i x4 x5 x7 x9 k P)) ∗ owns (c : Thread nD τ) arg11 fullShare (sOf (cstep i x4 x5 x7 x9 k P))
      ∗ owns (c : Thread nD τ) arg12 fullShare (aOf x7 P (cstep i x4 x5 x7 x9 k P)) ∗ owns (c : Thread nD τ) arg13 fullShare (mOf x7 P (cstep i x4 x5 x7 x9 k P))
      ∗ owns (c : Thread nD τ) arg14 fullShare (accOf (cstep i x4 x5 x7 x9 k P)) ∗ owns (c : Thread nD τ) arg15 fullShare (rOf (cstep i x4 x5 x7 x9 k P)))) := by
  unfold k0_t1_body
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨H4, H5, H7, H9, H10, H11, H12, H13, H14, H15⟩
  have h4 := harg4.read_unread x4
  have h5 := harg5.read_unread x5
  have h7 := harg7.read_unread x7
  subst hP
  sl_exec
  sl_step
  isplitl [H4]; · iexact H4
  isplitl [H5]; · iexact H5
  isplitl [H7]; · iexact H7
  isplitl [H9]; · iexact H9
  isplitl [H10]
  · iexists _; isplitr [H10]; swap
    · iexact H10
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read4 arg10.view _ T11 T01 T10 T00 coverT ?_ ?_ ?_ ?_
      all_goals simp (decide := true) only [↓View.readCov_skip, View.readCov_cons_toLoadRect, View.readAt_eq_ld, h4, h5, h7, h9]
      all_goals rfl
  isplitl [H11]
  · iexists _; isplitr [H11]; swap
    · iexact H11
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read4 arg11.view _ T11 T01 T10 T00 coverT ?_ ?_ ?_ ?_
      all_goals simp (decide := true) only [↓View.readCov_skip, View.readCov_cons_toLoadRect, View.readAt_eq_ld, h4, h5, h7, h9]
      all_goals rfl
  isplitl [H12]
  · iexists _; isplitr [H12]; swap
    · iexact H12
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read4 arg12.view _ T10 T00 T11 T01 coverT2 ?_ ?_ ?_ ?_
      all_goals simp (decide := true) only [↓View.readCov_skip, View.readCov_cons_toLoadRect, View.readAt_eq_ld, h4, h5, h7, h9]
      all_goals rfl
  isplitl [H13]
  · iexists _; isplitr [H13]; swap
    · iexact H13
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read4 arg13.view _ M10 M00 M11 M01 coverM2 ?_ ?_ ?_ ?_
      all_goals simp (decide := true) only [↓View.readCov_skip, View.readCov_cons_toLoadRect, View.readAt_eq_ld, h4, h5, h7, h9]
      all_goals rfl
  isplitl [H14]
  · iexists _; isplitr [H14]; swap
    · iexact H14
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read2 arg14.view _ A1 A0 _ coverA ?_ ?_
      all_goals simp (decide := true) only [↓View.readCov_skip, View.readCov_cons_toLoadRect, View.readAt_eq_ld, h4, h5, h7, h9]
      all_goals rfl
  · iexists _; isplitr [H15]; swap
    · iexact H15
    · ipureintro
      delta trip.sl.v467 trip.sl.v470 trip.sl.v472 trip.sl.v481 trip.sl.v487 trip.sl.v492 trip.sl.v542 trip.sl.v545 trip.sl.v547 trip.sl.v556 trip.sl.v562 trip.sl.v567 trip.sl.v617 trip.sl.v620 trip.sl.v622 trip.sl.v631 trip.sl.v637 trip.sl.v642 trip.sl.r trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.H10_2 trip.sl.H10_3 trip.sl.H11_2 trip.sl.H11_3 trip.sl.H12_2 trip.sl.H12_3 trip.sl.H13_2 trip.sl.H13_3 trip.sl.H14_2 trip.sl.H14_3 trip.sl.H15_2 trip.sl.H15_3
      refine read2 arg15.view _ R1 R0 _ coverR ?_ ?_
      all_goals simp (decide := true) only [↓View.readCov_skip, View.readCov_cons_toLoadRect, View.readAt_eq_ld, h4, h5, h7, h9]
      all_goals rfl

end Cert.KernelIdeal.Sb
end
-- ==== Proof.Sb.Loop.lean ====
module

public import proofs.«01_k».proof.Proof.Sb.Trip

/-! # The attention loop

The loop's invariant: before turn `k` the buffers hold `coreAt k`, the state after `k`
turns. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state before turn `k`, from the state `C` at the start. -/
def coreAt (i : grid0.Coords) (x4 : Vec F S1x2x128x8192 .bf16) (x5 : Vec F S1x8192x128 .bf16) (x7 : Vec F S256x256 .bf16)
    (x9 : Vec F S2x512x128 .bf16) (C : Core F) : ℕ → Core F
  | 0 => C
  | k + 1 => if h : k < (k0_t1_loop i).trips then cstep i x4 x5 x7 x9 ⟨k, h⟩ (coreAt i x4 x5 x7 x9 C k) else coreAt i x4 x5 x7 x9 C k

theorem coreAt_succ (i : grid0.Coords) (x4 : Vec F S1x2x128x8192 .bf16) (x5 : Vec F S1x8192x128 .bf16) (x7 : Vec F S256x256 .bf16)
    (x9 : Vec F S2x512x128 .bf16) (C : Core F) (k : Fin (k0_t1_loop i).trips) :
    coreAt i x4 x5 x7 x9 C (k.val + 1) = cstep i x4 x5 x7 x9 k (coreAt i x4 x5 x7 x9 C k.val) := by
  rw [coreAt, dif_pos k.isLt]

section Loop

variable (c : Dev nD) (i : grid0.Coords) (arg3 : Memref sig .tc .vmem S1x512x128 .bf16) (harg3 : arg3.IsWhole) (arg4 : Memref sig .tc .vmem S1x2x128x8192 .bf16) (harg4 : arg4.IsWhole) (arg5 : Memref sig .tc .vmem S1x8192x128 .bf16) (harg5 : arg5.IsWhole) (arg6 : Memref sig .tc .vmem S1x2x128 .f32) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S2x512x128 .bf16) (harg9 : arg9.IsWhole) (arg10 : Memref sig .tc .vmem S2x2x512x256 .f32) (harg10 : arg10.IsWhole) (arg11 : Memref sig .tc .vmem S2x2x512x256 .bf16) (harg11 : arg11.IsWhole) (arg12 : Memref sig .tc .vmem S2x2x512x256 .bf16) (harg12 : arg12.IsWhole) (arg13 : Memref sig .tc .vmem S2x2x512x1 .f32) (harg13 : arg13.IsWhole) (arg14 : Memref sig .tc .vmem S2x512x128 .f32) (harg14 : arg14.IsWhole) (arg15 : Memref sig .tc .vmem S2x512x1 .f32) (harg15 : arg15.IsWhole)
  (arg2 : BitVec 32) (v1 : BitVec 32) (v193 : FVec F S512x256 .f32) (v198 : FVec F S512x256 .bf16) (v199 : Vec F S1x1x512x256 .bf16)
  (x4 : Vec F S1x2x128x8192 .bf16) (x5 : Vec F S1x8192x128 .bf16) (x7 : Vec F S256x256 .bf16) (x9 : Vec F S2x512x128 .bf16)
  (G10 : Buf (Elt F) (arg10.view.loc (c : Thread nD τ))) (G11 : Buf (Elt F) (arg11.view.loc (c : Thread nD τ))) (G12 : Buf (Elt F) (arg12.view.loc (c : Thread nD τ))) (G13 : Buf (Elt F) (arg13.view.loc (c : Thread nD τ))) (G14 : Buf (Elt F) (arg14.view.loc (c : Thread nD τ))) (G15 : Buf (Elt F) (arg15.view.loc (c : Thread nD τ)))

/-- The state the buffers hold at the start. -/
abbrev core0 : Core F := coreOf (arg10.view.read (Elt F) G10) (arg11.view.read (Elt F) G11) (arg12.view.read (Elt F) G12) (arg13.view.read (Elt F) G13) (arg14.view.read (Elt F) G14) (arg15.view.read (Elt F) G15)

/-- What scratch buffer 1 holds before a turn. -/
def b10 : ℕ → Buf (Elt F) (arg10.view.loc (c : Thread nD τ))
  | 0 => G10
  | k + 1 => harg10.unread (zOf (coreAt i x4 x5 x7 x9 (core0 c arg10 arg11 arg12 arg13 arg14 arg15 G10 G11 G12 G13 G14 G15) (k + 1)))
/-- What scratch buffer 2 holds before a turn. -/
def b11 : ℕ → Buf (Elt F) (arg11.view.loc (c : Thread nD τ))
  | 0 => G11
  | k + 1 => harg11.unread (sOf (coreAt i x4 x5 x7 x9 (core0 c arg10 arg11 arg12 arg13 arg14 arg15 G10 G11 G12 G13 G14 G15) (k + 1)))
/-- What scratch buffer 3 holds before a turn. -/
def b12 : ℕ → Buf (Elt F) (arg12.view.loc (c : Thread nD τ))
  | 0 => G12
  | k + 1 => harg12.unread (aOf x7 (coreAt i x4 x5 x7 x9 (core0 c arg10 arg11 arg12 arg13 arg14 arg15 G10 G11 G12 G13 G14 G15) k) (coreAt i x4 x5 x7 x9 (core0 c arg10 arg11 arg12 arg13 arg14 arg15 G10 G11 G12 G13 G14 G15) (k + 1)))
/-- What scratch buffer 4 holds before a turn. -/
def b13 : ℕ → Buf (Elt F) (arg13.view.loc (c : Thread nD τ))
  | 0 => G13
  | k + 1 => harg13.unread (mOf x7 (coreAt i x4 x5 x7 x9 (core0 c arg10 arg11 arg12 arg13 arg14 arg15 G10 G11 G12 G13 G14 G15) k) (coreAt i x4 x5 x7 x9 (core0 c arg10 arg11 arg12 arg13 arg14 arg15 G10 G11 G12 G13 G14 G15) (k + 1)))
/-- What scratch buffer 5 holds before a turn. -/
def b14 : ℕ → Buf (Elt F) (arg14.view.loc (c : Thread nD τ))
  | 0 => G14
  | k + 1 => harg14.unread (accOf (coreAt i x4 x5 x7 x9 (core0 c arg10 arg11 arg12 arg13 arg14 arg15 G10 G11 G12 G13 G14 G15) (k + 1)))
/-- What scratch buffer 6 holds before a turn. -/
def b15 : ℕ → Buf (Elt F) (arg15.view.loc (c : Thread nD τ))
  | 0 => G15
  | k + 1 => harg15.unread (rOf (coreAt i x4 x5 x7 x9 (core0 c arg10 arg11 arg12 arg13 arg14 arg15 G10 G11 G12 G13 G14 G15) (k + 1)))

theorem read_b (k : ℕ) : coreAt i x4 x5 x7 x9 (core0 c arg10 arg11 arg12 arg13 arg14 arg15 G10 G11 G12 G13 G14 G15) k
    = coreOf (arg10.view.read (Elt F) (b10 c i arg10 harg10 arg11 arg12 arg13 arg14 arg15 x4 x5 x7 x9 G10 G11 G12 G13 G14 G15 k)) (arg11.view.read (Elt F) (b11 c i arg10 arg11 harg11 arg12 arg13 arg14 arg15 x4 x5 x7 x9 G10 G11 G12 G13 G14 G15 k)) (arg12.view.read (Elt F) (b12 c i arg10 arg11 arg12 harg12 arg13 arg14 arg15 x4 x5 x7 x9 G10 G11 G12 G13 G14 G15 k)) (arg13.view.read (Elt F) (b13 c i arg10 arg11 arg12 arg13 harg13 arg14 arg15 x4 x5 x7 x9 G10 G11 G12 G13 G14 G15 k)) (arg14.view.read (Elt F) (b14 c i arg10 arg11 arg12 arg13 arg14 harg14 arg15 x4 x5 x7 x9 G10 G11 G12 G13 G14 G15 k)) (arg15.view.read (Elt F) (b15 c i arg10 arg11 arg12 arg13 arg14 arg15 harg15 x4 x5 x7 x9 G10 G11 G12 G13 G14 G15 k)) := by
  cases k with
  | zero => rfl
  | succ k =>
    simp only [b10, b11, b12, b13, b14, b15, harg10.read_unread, harg11.read_unread, harg12.read_unread, harg13.read_unread, harg14.read_unread, harg15.read_unread]
    exact (coreOf_of x7 _ _).symm

set_option warn.classDefReducibility false in
@[sl_loop] def loopInv1 (G9 : Buf (Elt F) (arg9.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 v1 v193 v198 v199 where
  inv k _ := iprop((arg4.view.loc (c : Thread nD τ) ↦[arg4.view.set]{fullShare} harg4.unread x4) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} G9)
    ∗ (arg10.view.loc (c : Thread nD τ) ↦[arg10.view.set]{fullShare} (b10 c i arg10 harg10 arg11 arg12 arg13 arg14 arg15 x4 x5 x7 (arg9.view.read (Elt F) G9) G10 G11 G12 G13 G14 G15 k)) ∗ (arg11.view.loc (c : Thread nD τ) ↦[arg11.view.set]{fullShare} (b11 c i arg10 arg11 harg11 arg12 arg13 arg14 arg15 x4 x5 x7 (arg9.view.read (Elt F) G9) G10 G11 G12 G13 G14 G15 k)) ∗ (arg12.view.loc (c : Thread nD τ) ↦[arg12.view.set]{fullShare} (b12 c i arg10 arg11 arg12 harg12 arg13 arg14 arg15 x4 x5 x7 (arg9.view.read (Elt F) G9) G10 G11 G12 G13 G14 G15 k)) ∗ (arg13.view.loc (c : Thread nD τ) ↦[arg13.view.set]{fullShare} (b13 c i arg10 arg11 arg12 arg13 harg13 arg14 arg15 x4 x5 x7 (arg9.view.read (Elt F) G9) G10 G11 G12 G13 G14 G15 k)) ∗ (arg14.view.loc (c : Thread nD τ) ↦[arg14.view.set]{fullShare} (b14 c i arg10 arg11 arg12 arg13 arg14 harg14 arg15 x4 x5 x7 (arg9.view.read (Elt F) G9) G10 G11 G12 G13 G14 G15 k)) ∗ (arg15.view.loc (c : Thread nD τ) ↦[arg15.view.set]{fullShare} (b15 c i arg10 arg11 arg12 arg13 arg14 arg15 harg15 x4 x5 x7 (arg9.view.read (Elt F) G9) G10 G11 G12 G13 G14 G15 k)))
  step k _ := by
    have hk := read_b c i arg10 harg10 arg11 harg11 arg12 harg12 arg13 harg13 arg14 harg14 arg15 harg15 x4 x5 x7 (arg9.view.read (Elt F) G9) G10 G11 G12 G13 G14 G15 k.val
    iintro H
    iapply (wp_wand_r Idealize.ShloMosaic.frame (wpE (defs₀ (F := F)) Variants.none (c : Thread nD τ) none) Set.univ)
    isplitl [H]
    · iapply (trip c i arg3 harg3 arg4 harg4 arg5 harg5 arg6 harg6 arg7 harg7 arg8 harg8 arg9 harg9 arg10 harg10 arg11 harg11 arg12 harg12 arg13 harg13 arg14 harg14 arg15 harg15 arg2 v1 v193 v198 v199 x4 x5 x7 _ _ rfl _ _ _ _ _ _ _ hk k); iexact H
    · unfold owns
      iintro %_ ⟨H4, H5, H7, H9, ⟨%f10, %hf10, H10⟩, ⟨%f11, %hf11, H11⟩, ⟨%f12, %hf12, H12⟩, ⟨%f13, %hf13, H13⟩, ⟨%f14, %hf14, H14⟩, ⟨%f15, %hf15, H15⟩⟩
      rw [← coreAt_succ] at hf10 hf11 hf12 hf13 hf14 hf15
      obtain rfl := harg10.eq_unread hf10; obtain rfl := harg11.eq_unread hf11; obtain rfl := harg12.eq_unread hf12; obtain rfl := harg13.eq_unread hf13; obtain rfl := harg14.eq_unread hf14; obtain rfl := harg15.eq_unread hf15
      isplitl [H4]; · iexact H4
      isplitl [H5]; · iexact H5
      isplitl [H7]; · iexact H7
      isplitl [H9]; · iexact H9
      isplitl [H10]; · iexact H10
      isplitl [H11]; · iexact H11
      isplitl [H12]; · iexact H12
      isplitl [H13]; · iexact H13
      isplitl [H14]; · iexact H14
      iexact H15

end Loop

end Cert.KernelIdeal.Sb
end
-- ==== Proof.Sb.Body.lean ====
module

public import proofs.«01_k».proof.Proof.Sb.Loop
public import Idealize.ShloMosaic.Lib.VecWindow

/-! # The body of the attention call

The body scores and masks the two diagonal tiles, runs the loop, and adds the last
two tiles.  `outVal` is what it stores, as a function of what its windows hold. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

/-- The query rows and the bias rows. -/
abbrev WQ : Rect S1x512x128 := Rect.unit ![0, 0, 0] S1x512x128.size inb_S1x512x128_S1x512x128_0_0_0
abbrev WB0 : Rect S1x2x128 := Rect.unit ![0, 0, 0] S1x1x128.size inb_S1x2x128_S1x1x128_0_0_0
abbrev WB1 : Rect S1x2x128 := Rect.unit ![0, 1, 0] S1x1x128.size inb_S1x2x128_S1x1x128_0_1_0

/-- The two heads' query rows: a head's own lanes hold its queries, the others its bias. -/
def headQ (x3 : Vec F S1x512x128 .bf16) (x6 : Vec F S1x2x128 .f32) : Fin 2 → Vec F S1x512x128 .bf16 :=
  ![k0_pay95 (View.ld x3 WQ) (View.ld x6 WB0), k0_pay96 (View.ld x3 WQ) (View.ld x6 WB1)]
def qRows (x3 : Vec F S1x512x128 .bf16) (x6 : Vec F S1x2x128 .f32) : Vec F S2x512x128 .bf16 :=
  View.canon [⟨A1, headQ x3 x6 1⟩, ⟨A0, headQ x3 x6 0⟩]

/-- The key tiles of the two diagonal tiles. -/
def keyD0 (i : grid0.Coords) (x4 : Vec F S1x2x128x8192 .bf16) : Fin 2 → Vec F S1x1x128x256 .bf16 :=
  ![View.ld x4 (Rect.unit (s := S1x2x128x8192) (k0_off1 i 0#32) S1x1x128x256.size (k0_off1_inb i 0)),
    View.ld x4 (Rect.unit (s := S1x2x128x8192) (k0_off2 i 0#32) S1x1x128x256.size (k0_off2_inb i 0))]
def keyD1 (i : grid0.Coords) (x4 : Vec F S1x2x128x8192 .bf16) : Fin 2 → Vec F S1x1x128x256 .bf16 :=
  ![View.ld x4 (Rect.unit (s := S1x2x128x8192) (k0_off1 i 1#32) S1x1x128x256.size (k0_off1_inb i 1)),
    View.ld x4 (Rect.unit (s := S1x2x128x8192) (k0_off2 i 1#32) S1x1x128x256.size (k0_off2_inb i 1))]

/-- A diagonal tile's scores and softplus. -/
def diagZ0 (kt : Vec F S1x1x128x256 .bf16) (qa : Vec F S1x512x128 .bf16) : Vec F S1x1x512x256 .f32 :=
  k0_pay103 (k0_pay100 kt qa) k0_pay101 (Named.named κ "mask" 0xF149F2CA#32)
def diagS0 (kt : Vec F S1x1x128x256 .bf16) (qa : Vec F S1x512x128 .bf16) : Vec F S1x1x512x256 .bf16 := k0_pay104 (k0_pay102 kt qa)
def diagZ1 (kt : Vec F S1x1x128x256 .bf16) (qa : Vec F S1x512x128 .bf16) : Vec F S1x1x512x256 .f32 := k0_pay114 (k0_pay111 kt qa)
def diagS1 (kt : Vec F S1x1x128x256 .bf16) (qa : Vec F S1x512x128 .bf16) : Vec F S1x1x512x256 .bf16 := k0_pay115 (k0_pay112 kt qa)

/-- The state before the loop. -/
def coreStart (i : grid0.Coords) (x3 : Vec F S1x512x128 .bf16) (x4 : Vec F S1x2x128x8192 .bf16) (x6 : Vec F S1x2x128 .f32)
    (x7 : Vec F S256x256 .bf16) : Core F where
  z0 e := diagZ0 (keyD0 i x4 e) (headQ x3 x6 e)
  s0 e := diagS0 (keyD0 i x4 e) (headQ x3 x6 e)
  z1 e := diagZ1 (keyD1 i x4 e) (headQ x3 x6 e)
  s1 e := diagS1 (keyD1 i x4 e) (headQ x3 x6 e)
  a0 e := wts x7 (diagS0 (keyD0 i x4 e) (headQ x3 x6 e)) (diagZ0 (keyD0 i x4 e) (headQ x3 x6 e))
  m0 e := sums x7 (diagS0 (keyD0 i x4 e) (headQ x3 x6 e))
  acc _ := fun _ => Scalar.ofBits .f32 0x00000000#32
  r _ := fun _ => Scalar.ofBits .f32 0x00000000#32

/-- The value tiles that the two last tiles use. -/
def valY (i : grid0.Coords) (x5 : Vec F S1x8192x128 .bf16) : Vec F S1x256x128 .bf16 :=
  View.ld x5 (Rect.unit (s := S1x8192x128) (k0_off11 i 2#32) S1x256x128.size (k0_off11_inb i 1))
def valZ (i : grid0.Coords) (x5 : Vec F S1x8192x128 .bf16) : Vec F S1x256x128 .bf16 :=
  View.ld x5 (Rect.unit (s := S1x8192x128) (k0_off11 i 1#32) S1x256x128.size (k0_off11_inb i 0))

/-- A head's sum at the end, from the state after the loop. -/
def accFin (i : grid0.Coords) (x5 : Vec F S1x8192x128 .bf16) (x7 : Vec F S256x256 .bf16) (C : Core F) (e : Fin 2) : Vec F S1x512x128 .f32 :=
  k0_pay4 (valZ i x5) (wts x7 (C.s1 e) (C.z1 e)) (k0_pay5 (C.r e) (C.m0 e)) (k0_pay4 (valY i x5) (C.a0 e) (C.r e) (C.acc e))

/-- The stored block, from the state after the loop. -/
def outOf (i : grid0.Coords) (x5 : Vec F S1x8192x128 .bf16) (x7 : Vec F S256x256 .bf16) (C : Core F) : Vec F S1x512x128 .bf16 :=
  k0_pay2 (iota .tc S512x128 32 [1] iota_S512x128_d1_w32) (accFin i x5 x7 C 0) (accFin i x5 x7 C 1)

/-- The stored block. -/
def outVal (i : grid0.Coords) (x3 : Vec F S1x512x128 .bf16) (x4 : Vec F S1x2x128x8192 .bf16) (x5 : Vec F S1x8192x128 .bf16) (x6 : Vec F S1x2x128 .f32) (x7 : Vec F S256x256 .bf16) : Vec F S1x512x128 .bf16 :=
  outOf i x5 x7 (coreAt i x4 x5 x7 (qRows x3 x6) (coreStart i x3 x4 x6 x7) (k0_t1_loop i).trips)

theorem outOf_congr (i : grid0.Coords) (x4 : Vec F S1x2x128x8192 .bf16) (x5 : Vec F S1x8192x128 .bf16) (x7 : Vec F S256x256 .bf16)
    {q q' : Vec F S2x512x128 .bf16} {C C' : Core F} (hq : q = q') (hC : C = C') {w : Vec F S1x512x128 .bf16}
    (hw : w = outOf i x5 x7 (coreAt i x4 x5 x7 q C (k0_t1_loop i).trips)) :
    w = outOf i x5 x7 (coreAt i x4 x5 x7 q' C' (k0_t1_loop i).trips) := by
  subst hq hC; exact hw

theorem core_ext {C : Core F} {x10 : Vec F S2x2x512x256 .f32} {x11 x12 : Vec F S2x2x512x256 .bf16} {x13 : Vec F S2x2x512x1 .f32}
    {x14 : Vec F S2x512x128 .f32} {x15 : Vec F S2x512x1 .f32}
    (h1 : View.ld x10 T00 = C.z0 0) (h2 : View.ld x10 T10 = C.z0 1) (h3 : View.ld x10 T01 = C.z1 0) (h4 : View.ld x10 T11 = C.z1 1)
    (h5 : View.ld x11 T00 = C.s0 0) (h6 : View.ld x11 T10 = C.s0 1) (h7 : View.ld x11 T01 = C.s1 0) (h8 : View.ld x11 T11 = C.s1 1)
    (h9 : View.ld x12 T00 = C.a0 0) (h10 : View.ld x12 T10 = C.a0 1) (h11 : View.ld x13 M00 = C.m0 0) (h12 : View.ld x13 M10 = C.m0 1)
    (h13 : View.ld x14 A0 = C.acc 0) (h14 : View.ld x14 A1 = C.acc 1) (h15 : View.ld x15 R0 = C.r 0) (h16 : View.ld x15 R1 = C.r 1) :
    coreOf x10 x11 x12 x13 x14 x15 = C := by
  unfold coreOf
  rw [h1, h2, h3, h4, h5, h6, h7, h8, h9, h10, h11, h12, h13, h14, h15, h16]
  simp only [two]

section Reads

variable (c : Dev nD) (i : grid0.Coords) (arg3 : Memref sig .tc .vmem S1x512x128 .bf16) (harg3 : arg3.IsWhole) (arg4 : Memref sig .tc .vmem S1x2x128x8192 .bf16) (harg4 : arg4.IsWhole) (arg5 : Memref sig .tc .vmem S1x8192x128 .bf16) (harg5 : arg5.IsWhole) (arg6 : Memref sig .tc .vmem S1x2x128 .f32) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S2x512x128 .bf16) (harg9 : arg9.IsWhole) (arg10 : Memref sig .tc .vmem S2x2x512x256 .f32) (harg10 : arg10.IsWhole) (arg11 : Memref sig .tc .vmem S2x2x512x256 .bf16) (harg11 : arg11.IsWhole) (arg12 : Memref sig .tc .vmem S2x2x512x256 .bf16) (harg12 : arg12.IsWhole) (arg13 : Memref sig .tc .vmem S2x2x512x1 .f32) (harg13 : arg13.IsWhole) (arg14 : Memref sig .tc .vmem S2x512x128 .f32) (harg14 : arg14.IsWhole) (arg15 : Memref sig .tc .vmem S2x512x1 .f32) (harg15 : arg15.IsWhole)
  (arg2 : BitVec 32) (v1 : BitVec 32) (v193 : FVec F S512x256 .f32) (v198 : FVec F S512x256 .bf16) (v199 : Vec F S1x1x512x256 .bf16)
  (x4 : Vec F S1x2x128x8192 .bf16) (x5 : Vec F S1x8192x128 .bf16) (x7 : Vec F S256x256 .bf16) (x9 : Vec F S2x512x128 .bf16)
  (G10 : Buf (Elt F) (arg10.view.loc (c : Thread nD τ))) (G11 : Buf (Elt F) (arg11.view.loc (c : Thread nD τ))) (G12 : Buf (Elt F) (arg12.view.loc (c : Thread nD τ))) (G13 : Buf (Elt F) (arg13.view.loc (c : Thread nD τ))) (G14 : Buf (Elt F) (arg14.view.loc (c : Thread nD τ))) (G15 : Buf (Elt F) (arg15.view.loc (c : Thread nD τ)))

include harg10 harg11 harg12 harg13 harg14 harg15

theorem ld_b10_T00 (k : ℕ) : View.ld (arg10.view.read (Elt F) (b10 c i arg10 harg10 arg11 arg12 arg13 arg14 arg15 x4 x5 x7 x9 G10 G11 G12 G13 G14 G15 k)) T00
    = (coreAt i x4 x5 x7 x9 (core0 c arg10 arg11 arg12 arg13 arg14 arg15 G10 G11 G12 G13 G14 G15) k).z0 0 := by
  rw [read_b c i arg10 harg10 arg11 harg11 arg12 harg12 arg13 harg13 arg14 harg14 arg15 harg15 x4 x5 x7 x9 G10 G11 G12 G13 G14 G15 k]; rfl

theorem ld_b10_T10 (k : ℕ) : View.ld (arg10.view.read (Elt F) (b10 c i arg10 harg10 arg11 arg12 arg13 arg14 arg15 x4 x5 x7 x9 G10 G11 G12 G13 G14 G15 k)) T10
    = (coreAt i x4 x5 x7 x9 (core0 c arg10 arg11 arg12 arg13 arg14 arg15 G10 G11 G12 G13 G14 G15) k).z0 1 := by
  rw [read_b c i arg10 harg10 arg11 harg11 arg12 harg12 arg13 harg13 arg14 harg14 arg15 harg15 x4 x5 x7 x9 G10 G11 G12 G13 G14 G15 k]; rfl

theorem ld_b10_T01 (k : ℕ) : View.ld (arg10.view.read (Elt F) (b10 c i arg10 harg10 arg11 arg12 arg13 arg14 arg15 x4 x5 x7 x9 G10 G11 G12 G13 G14 G15 k)) T01
    = (coreAt i x4 x5 x7 x9 (core0 c arg10 arg11 arg12 arg13 arg14 arg15 G10 G11 G12 G13 G14 G15) k).z1 0 := by
  rw [read_b c i arg10 harg10 arg11 harg11 arg12 harg12 arg13 harg13 arg14 harg14 arg15 harg15 x4 x5 x7 x9 G10 G11 G12 G13 G14 G15 k]; rfl

theorem ld_b10_T11 (k : ℕ) : View.ld (arg10.view.read (Elt F) (b10 c i arg10 harg10 arg11 arg12 arg13 arg14 arg15 x4 x5 x7 x9 G10 G11 G12 G13 G14 G15 k)) T11
    = (coreAt i x4 x5 x7 x9 (core0 c arg10 arg11 arg12 arg13 arg14 arg15 G10 G11 G12 G13 G14 G15) k).z1 1 := by
  rw [read_b c i arg10 harg10 arg11 harg11 arg12 harg12 arg13 harg13 arg14 harg14 arg15 harg15 x4 x5 x7 x9 G10 G11 G12 G13 G14 G15 k]; rfl

theorem ld_b11_T01 (k : ℕ) : View.ld (arg11.view.read (Elt F) (b11 c i arg10 arg11 harg11 arg12 arg13 arg14 arg15 x4 x5 x7 x9 G10 G11 G12 G13 G14 G15 k)) T01
    = (coreAt i x4 x5 x7 x9 (core0 c arg10 arg11 arg12 arg13 arg14 arg15 G10 G11 G12 G13 G14 G15) k).s1 0 := by
  rw [read_b c i arg10 harg10 arg11 harg11 arg12 harg12 arg13 harg13 arg14 harg14 arg15 harg15 x4 x5 x7 x9 G10 G11 G12 G13 G14 G15 k]; rfl

theorem ld_b11_T11 (k : ℕ) : View.ld (arg11.view.read (Elt F) (b11 c i arg10 arg11 harg11 arg12 arg13 arg14 arg15 x4 x5 x7 x9 G10 G11 G12 G13 G14 G15 k)) T11
    = (coreAt i x4 x5 x7 x9 (core0 c arg10 arg11 arg12 arg13 arg14 arg15 G10 G11 G12 G13 G14 G15) k).s1 1 := by
  rw [read_b c i arg10 harg10 arg11 harg11 arg12 harg12 arg13 harg13 arg14 harg14 arg15 harg15 x4 x5 x7 x9 G10 G11 G12 G13 G14 G15 k]; rfl

theorem ld_b12_T00 (k : ℕ) : View.ld (arg12.view.read (Elt F) (b12 c i arg10 arg11 arg12 harg12 arg13 arg14 arg15 x4 x5 x7 x9 G10 G11 G12 G13 G14 G15 k)) T00
    = (coreAt i x4 x5 x7 x9 (core0 c arg10 arg11 arg12 arg13 arg14 arg15 G10 G11 G12 G13 G14 G15) k).a0 0 := by
  rw [read_b c i arg10 harg10 arg11 harg11 arg12 harg12 arg13 harg13 arg14 harg14 arg15 harg15 x4 x5 x7 x9 G10 G11 G12 G13 G14 G15 k]; rfl

theorem ld_b12_T10 (k : ℕ) : View.ld (arg12.view.read (Elt F) (b12 c i arg10 arg11 arg12 harg12 arg13 arg14 arg15 x4 x5 x7 x9 G10 G11 G12 G13 G14 G15 k)) T10
    = (coreAt i x4 x5 x7 x9 (core0 c arg10 arg11 arg12 arg13 arg14 arg15 G10 G11 G12 G13 G14 G15) k).a0 1 := by
  rw [read_b c i arg10 harg10 arg11 harg11 arg12 harg12 arg13 harg13 arg14 harg14 arg15 harg15 x4 x5 x7 x9 G10 G11 G12 G13 G14 G15 k]; rfl

theorem ld_b13_M00 (k : ℕ) : View.ld (arg13.view.read (Elt F) (b13 c i arg10 arg11 arg12 arg13 harg13 arg14 arg15 x4 x5 x7 x9 G10 G11 G12 G13 G14 G15 k)) M00
    = (coreAt i x4 x5 x7 x9 (core0 c arg10 arg11 arg12 arg13 arg14 arg15 G10 G11 G12 G13 G14 G15) k).m0 0 := by
  rw [read_b c i arg10 harg10 arg11 harg11 arg12 harg12 arg13 harg13 arg14 harg14 arg15 harg15 x4 x5 x7 x9 G10 G11 G12 G13 G14 G15 k]; rfl

theorem ld_b13_M10 (k : ℕ) : View.ld (arg13.view.read (Elt F) (b13 c i arg10 arg11 arg12 arg13 harg13 arg14 arg15 x4 x5 x7 x9 G10 G11 G12 G13 G14 G15 k)) M10
    = (coreAt i x4 x5 x7 x9 (core0 c arg10 arg11 arg12 arg13 arg14 arg15 G10 G11 G12 G13 G14 G15) k).m0 1 := by
  rw [read_b c i arg10 harg10 arg11 harg11 arg12 harg12 arg13 harg13 arg14 harg14 arg15 harg15 x4 x5 x7 x9 G10 G11 G12 G13 G14 G15 k]; rfl

theorem ld_b14_A0 (k : ℕ) : View.ld (arg14.view.read (Elt F) (b14 c i arg10 arg11 arg12 arg13 arg14 harg14 arg15 x4 x5 x7 x9 G10 G11 G12 G13 G14 G15 k)) A0
    = (coreAt i x4 x5 x7 x9 (core0 c arg10 arg11 arg12 arg13 arg14 arg15 G10 G11 G12 G13 G14 G15) k).acc 0 := by
  rw [read_b c i arg10 harg10 arg11 harg11 arg12 harg12 arg13 harg13 arg14 harg14 arg15 harg15 x4 x5 x7 x9 G10 G11 G12 G13 G14 G15 k]; rfl

theorem ld_b14_A1 (k : ℕ) : View.ld (arg14.view.read (Elt F) (b14 c i arg10 arg11 arg12 arg13 arg14 harg14 arg15 x4 x5 x7 x9 G10 G11 G12 G13 G14 G15 k)) A1
    = (coreAt i x4 x5 x7 x9 (core0 c arg10 arg11 arg12 arg13 arg14 arg15 G10 G11 G12 G13 G14 G15) k).acc 1 := by
  rw [read_b c i arg10 harg10 arg11 harg11 arg12 harg12 arg13 harg13 arg14 harg14 arg15 harg15 x4 x5 x7 x9 G10 G11 G12 G13 G14 G15 k]; rfl

theorem ld_b15_R0 (k : ℕ) : View.ld (arg15.view.read (Elt F) (b15 c i arg10 arg11 arg12 arg13 arg14 arg15 harg15 x4 x5 x7 x9 G10 G11 G12 G13 G14 G15 k)) R0
    = (coreAt i x4 x5 x7 x9 (core0 c arg10 arg11 arg12 arg13 arg14 arg15 G10 G11 G12 G13 G14 G15) k).r 0 := by
  rw [read_b c i arg10 harg10 arg11 harg11 arg12 harg12 arg13 harg13 arg14 harg14 arg15 harg15 x4 x5 x7 x9 G10 G11 G12 G13 G14 G15 k]; rfl

theorem ld_b15_R1 (k : ℕ) : View.ld (arg15.view.read (Elt F) (b15 c i arg10 arg11 arg12 arg13 arg14 arg15 harg15 x4 x5 x7 x9 G10 G11 G12 G13 G14 G15 k)) R1
    = (coreAt i x4 x5 x7 x9 (core0 c arg10 arg11 arg12 arg13 arg14 arg15 G10 G11 G12 G13 G14 G15) k).r 1 := by
  rw [read_b c i arg10 harg10 arg11 harg11 arg12 harg12 arg13 harg13 arg14 harg14 arg15 harg15 x4 x5 x7 x9 G10 G11 G12 G13 G14 G15 k]; rfl

end Reads

theorem ld_write_hit {s : Shape} {e : EltTy} {κ : Kind} {sp : Space} (v : View sig κ sp s e) (f : v.ty.Contents (Elt F))
    (r : Rect s) (w : r.shape.Idx → Elt F e) (L : List (View.Piece (Elt F) s e)) :
    View.ld (v.read (Elt F) (v.writes (Elt F) f (⟨r, w⟩ :: L))) r = w := by
  funext j
  have := View.readCov_cons_toLoadRect (Val := Elt F) v r w L
  exact View.read_writes_cons_emb v f r w L j

theorem ld_write_skip {s : Shape} {e : EltTy} {κ : Kind} {sp : Space} (v : View sig κ sp s e) (f : v.ty.Contents (Elt F))
    (r : Rect s) (w : r.shape.Idx → Elt F e) (L : List (View.Piece (Elt F) s e)) (r' : Rect s)
    (h : LoadRect.disj r r'.toLoadRect = true) :
    View.ld (v.read (Elt F) (v.writes (Elt F) f (⟨r, w⟩ :: L))) r' = View.ld (v.read (Elt F) (v.writes (Elt F) f L)) r' :=
  funext fun j => View.read_writes_cons_miss v f ⟨r, w⟩ L _ (LoadRect.idx_not_mem_of_disj h j)

theorem ld_put_hit {s : Shape} {e : EltTy} {κ : Kind} {sp : Space} (v : View sig κ sp s e) (f : v.ty.Contents (Elt F))
    (r : Rect s) (w : r.shape.Idx → Elt F e) :
    View.ld (v.read (Elt F) (View.write (Elt F) (v.slice r) f w Finset.univ)) r = w := ld_write_hit v f r w []

theorem ld_put_skip {s : Shape} {e : EltTy} {κ : Kind} {sp : Space} (v : View sig κ sp s e) (f : v.ty.Contents (Elt F))
    (r : Rect s) (w : r.shape.Idx → Elt F e) (r' : Rect s) (h : LoadRect.disj r r'.toLoadRect = true) :
    View.ld (v.read (Elt F) (View.write (Elt F) (v.slice r) f w Finset.univ)) r' = View.ld (v.read (Elt F) f) r' :=
  ld_write_skip v f r w [] r' h

/-! ## The body -/

set_option maxHeartbeats 8000000 in
/-- The body stores `outVal` of what its windows hold, and leaves the scratch buffers at something. -/
theorem run (c : Dev nD) (i : grid0.Coords) (arg3 : Memref sig .tc .vmem S1x512x128 .bf16) (harg3 : arg3.IsWhole) (arg4 : Memref sig .tc .vmem S1x2x128x8192 .bf16) (harg4 : arg4.IsWhole) (arg5 : Memref sig .tc .vmem S1x8192x128 .bf16) (harg5 : arg5.IsWhole) (arg6 : Memref sig .tc .vmem S1x2x128 .f32) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S2x512x128 .bf16) (harg9 : arg9.IsWhole) (arg10 : Memref sig .tc .vmem S2x2x512x256 .f32) (harg10 : arg10.IsWhole) (arg11 : Memref sig .tc .vmem S2x2x512x256 .bf16) (harg11 : arg11.IsWhole) (arg12 : Memref sig .tc .vmem S2x2x512x256 .bf16) (harg12 : arg12.IsWhole) (arg13 : Memref sig .tc .vmem S2x2x512x1 .f32) (harg13 : arg13.IsWhole) (arg14 : Memref sig .tc .vmem S2x512x128 .f32) (harg14 : arg14.IsWhole) (arg15 : Memref sig .tc .vmem S2x512x1 .f32) (harg15 : arg15.IsWhole)
  (x3 : Vec F S1x512x128 .bf16) (x4 : Vec F S1x2x128x8192 .bf16) (x5 : Vec F S1x8192x128 .bf16) (x6 : Vec F S1x2x128 .f32) (x7 : Vec F S256x256 .bf16)
  (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7)
    ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ wp (M := 𝕄) frame (wpE (defs₀ (F := F)) Variants.none (c : Thread nD τ) none) Set.univ
      (cc0_sb_prompt (F := F) i arg3 harg3 arg4 harg4 arg5 harg5 arg6 harg6 arg7 harg7 arg8 harg8 arg9 harg9 arg10 harg10 arg11 harg11 arg12 harg12 arg13 harg13 arg14 harg14 arg15 harg15)
      (fun _ => iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7)
    ∗ owns (c : Thread nD τ) arg8 fullShare (outVal i x3 x4 x5 x6 x7)
    ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))) := by
  simp only [cc0_sb_prompt_eq_skeleton]; unfold cc0_sb_prompt_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨H3, H4, H5, H6, H7, H8, H9, H10, H11, H12, H13, H14, H15⟩
  have h3 := harg3.read_unread x3
  have h4 := harg4.read_unread x4
  have h5 := harg5.read_unread x5
  have h6 := harg6.read_unread x6
  have h7 := harg7.read_unread x7
  sl_exec
  sl_step
  isplitl [H3]; · iexact H3
  isplitl [H4]; · iexact H4
  isplitl [H5]; · iexact H5
  isplitl [H6]; · iexact H6
  isplitl [H7]; · iexact H7
  isplitl [H8]
  · iexists _; isplitr [H8]; swap
    · iexact H8
    · ipureintro
      delta run.sl.v2 run.sl.v236 run.sl.v239 run.sl.v241 run.sl.v250 run.sl.v264 run.sl.v267 run.sl.v269 run.sl.v278 run.sl.v284 run.sl.v289 run.sl.v301 run.sl.v306 run.sl.v326 run.sl.v329 run.sl.v331 run.sl.v340 run.sl.v354 run.sl.v357 run.sl.v359 run.sl.v368 run.sl.v376 run.sl.v378 run.sl.r_12 run.sl.r_13 run.sl.r_14 run.sl.r_15 run.sl.r_16 run.sl.H12_2 run.sl.H13_2 run.sl.H14_2 run.sl.H14_3 run.sl.H14_4 run.sl.H15_2 run.sl.H15_3
      simp (decide := true) only [↓View.readCov_skip, View.readCov_cons_toLoadRect, View.readAt_eq_ld, h3, h4, h5, h6, h7, ld_b10_T00 c i arg10 harg10 arg11 harg11 arg12 harg12 arg13 harg13 arg14 harg14 arg15 harg15, ld_b10_T10 c i arg10 harg10 arg11 harg11 arg12 harg12 arg13 harg13 arg14 harg14 arg15 harg15, ld_b10_T01 c i arg10 harg10 arg11 harg11 arg12 harg12 arg13 harg13 arg14 harg14 arg15 harg15, ld_b10_T11 c i arg10 harg10 arg11 harg11 arg12 harg12 arg13 harg13 arg14 harg14 arg15 harg15, ld_b11_T01 c i arg10 harg10 arg11 harg11 arg12 harg12 arg13 harg13 arg14 harg14 arg15 harg15, ld_b11_T11 c i arg10 harg10 arg11 harg11 arg12 harg12 arg13 harg13 arg14 harg14 arg15 harg15, ld_b12_T00 c i arg10 harg10 arg11 harg11 arg12 harg12 arg13 harg13 arg14 harg14 arg15 harg15, ld_b12_T10 c i arg10 harg10 arg11 harg11 arg12 harg12 arg13 harg13 arg14 harg14 arg15 harg15, ld_b13_M00 c i arg10 harg10 arg11 harg11 arg12 harg12 arg13 harg13 arg14 harg14 arg15 harg15, ld_b13_M10 c i arg10 harg10 arg11 harg11 arg12 harg12 arg13 harg13 arg14 harg14 arg15 harg15, ld_b14_A0 c i arg10 harg10 arg11 harg11 arg12 harg12 arg13 harg13 arg14 harg14 arg15 harg15, ld_b14_A1 c i arg10 harg10 arg11 harg11 arg12 harg12 arg13 harg13 arg14 harg14 arg15 harg15, ld_b15_R0 c i arg10 harg10 arg11 harg11 arg12 harg12 arg13 harg13 arg14 harg14 arg15 harg15, ld_b15_R1 c i arg10 harg10 arg11 harg11 arg12 harg12 arg13 harg13 arg14 harg14 arg15 harg15]
      refine (View.read_writes_full arg8.view f8 inb_S1x512x128_S1x512x128_0_0_0 _ []).trans ?_
      unfold outVal
      refine outOf_congr i x4 x5 x7 (q := ?q) (C := ?C) ?hq ?hC ?hw
      case hw => rfl
      case hq =>
        delta run.sl.v44 run.sl.v82 run.sl.v100 run.sl.v189 run.sl.v194 run.sl.v206 run.sl.v211 run.sl.r_1 run.sl.r_2 run.sl.r_3 run.sl.r_4 run.sl.r_5 run.sl.r_6 run.sl.r_7 run.sl.r_8 run.sl.r_9 run.sl.r_10 run.sl.r_11 run.sl.r run.sl.H9_2 run.sl.H10_4 run.sl.H11_4 run.sl.cst_38
        refine read2 arg9.view _ A1 A0 [] coverA ?_ ?_
        all_goals simp only [View.readAt_eq_ld, h3, h6]
        all_goals rfl
      case hC =>
        delta run.sl.v44 run.sl.v82 run.sl.v100 run.sl.v189 run.sl.v194 run.sl.v206 run.sl.v211 run.sl.r_1 run.sl.r_2 run.sl.r_3 run.sl.r_4 run.sl.r_5 run.sl.r_6 run.sl.r_7 run.sl.r_8 run.sl.r_9 run.sl.r_10 run.sl.r_11 run.sl.r run.sl.H9_2 run.sl.H10_4 run.sl.H11_4 run.sl.cst_38
        refine core_ext ?_ ?_ ?_ ?_ ?_ ?_ ?_ ?_ ?_ ?_ ?_ ?_
          ((congrArg (View.ld · A0) (View.read_writes_full arg14.view _ inb_S2x512x128_S2x512x128_0_0_0 _ [])).trans rfl)
          ((congrArg (View.ld · A1) (View.read_writes_full arg14.view _ inb_S2x512x128_S2x512x128_0_0_0 _ [])).trans rfl)
          ((congrArg (View.ld · R0) (View.read_writes_full arg15.view _ inb_S2x512x1_S2x512x1_0_0_0 _ [])).trans rfl)
          ((congrArg (View.ld · R1) (View.read_writes_full arg15.view _ inb_S2x512x1_S2x512x1_0_0_0 _ [])).trans rfl)
        all_goals simp (decide := true) only [↓View.readCov_skip, View.readCov_cons_toLoadRect, ↓ld_put_skip, ↓ld_write_skip, ld_put_hit, ld_write_hit, View.readAt_eq_ld, h3, h4, h5, h6, h7]
        all_goals rfl
  isplitl [H9]
  · iexists _, _; isplitr [H9]; swap
    · iexact H9
    · ipureintro; rfl
  isplitl [H10]
  · iexists _, _; isplitr [H10]; swap
    · iexact H10
    · ipureintro; rfl
  isplitl [H11]
  · iexists _, _; isplitr [H11]; swap
    · iexact H11
    · ipureintro; rfl
  isplitl [H12]
  · iexists _, _; isplitr [H12]; swap
    · iexact H12
    · ipureintro; rfl
  isplitl [H13]
  · iexists _, _; isplitr [H13]; swap
    · iexact H13
    · ipureintro; rfl
  isplitl [H14]
  · iexists _, _; isplitr [H14]; swap
    · iexact H14
    · ipureintro; rfl
  iexists _, _; isplitr [H15]; swap
  · iexact H15
  · ipureintro; rfl

end Cert.KernelIdeal.Sb
end
-- ==== Proof.Sb.Frame.lean ====
module

public import proofs.«01_k».proof.Proof.Sb.Body
public import Idealize.ShloMosaic.Lib.Claim

/-! # The run of the attention call

The proof data of the pipeline: every input window's block, and `outVal` of them for
the output window; the scratch buffers are handed over at some contents. -/

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body's triple, with every buffer as what it is known to hold. -/
theorem run_owns (c : Dev nD) (i : grid0.Coords) (arg3 : Memref sig .tc .vmem S1x512x128 .bf16) (harg3 : arg3.IsWhole) (arg4 : Memref sig .tc .vmem S1x2x128x8192 .bf16) (harg4 : arg4.IsWhole) (arg5 : Memref sig .tc .vmem S1x8192x128 .bf16) (harg5 : arg5.IsWhole) (arg6 : Memref sig .tc .vmem S1x2x128 .f32) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S2x512x128 .bf16) (harg9 : arg9.IsWhole) (arg10 : Memref sig .tc .vmem S2x2x512x256 .f32) (harg10 : arg10.IsWhole) (arg11 : Memref sig .tc .vmem S2x2x512x256 .bf16) (harg11 : arg11.IsWhole) (arg12 : Memref sig .tc .vmem S2x2x512x256 .bf16) (harg12 : arg12.IsWhole) (arg13 : Memref sig .tc .vmem S2x2x512x1 .f32) (harg13 : arg13.IsWhole) (arg14 : Memref sig .tc .vmem S2x512x128 .f32) (harg14 : arg14.IsWhole) (arg15 : Memref sig .tc .vmem S2x512x1 .f32) (harg15 : arg15.IsWhole)
    (x3 : Vec F S1x512x128 .bf16) (x4 : Vec F S1x2x128x8192 .bf16) (x5 : Vec F S1x8192x128 .bf16) (x6 : Vec F S1x2x128 .f32) (x7 : Vec F S256x256 .bf16) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
    ⊢ wp (M := 𝕄) frame (wpE (defs₀ (F := F)) Variants.none (c : Thread nD τ) none) Set.univ (cc0_sb_prompt (F := F) i arg3 harg3 arg4 harg4 arg5 harg5 arg6 harg6 arg7 harg7 arg8 harg8 arg9 harg9 arg10 harg10 arg11 harg11 arg12 harg12 arg13 harg13 arg14 harg14 arg15 harg15)
      (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outVal i x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))) := by
  unfold owns
  iintro ⟨⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩⟩
  obtain rfl := harg3.eq_unread e3; obtain rfl := harg4.eq_unread e4; obtain rfl := harg5.eq_unread e5; obtain rfl := harg6.eq_unread e6; obtain rfl := harg7.eq_unread e7
  iapply (wp_wand_r Idealize.ShloMosaic.frame (wpE (defs₀ (F := F)) Variants.none (c : Thread nD τ) none) Set.univ)
  isplitl [H3 H4 H5 H6 H7 H8 H9 H10 H11 H12 H13 H14 H15]
  · iapply (run c i arg3 harg3 arg4 harg4 arg5 harg5 arg6 harg6 arg7 harg7 arg8 harg8 arg9 harg9 arg10 harg10 arg11 harg11 arg12 harg12 arg13 harg13 arg14 harg14 arg15 harg15 x3 x4 x5 x6 x7 f8 f9 f10 f11 f12 f13 f14 f15)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · unfold owns
    iintro %_ ⟨H3, H4, H5, H6, H7, H8, H9, H10, H11, H12, H13, H14, H15⟩
    isplitl [H3]
    · iexists _; isplitr [H3]; swap
      · iexact H3
      · ipureintro; exact harg3.read_unread x3
    isplitl [H4]
    · iexists _; isplitr [H4]; swap
      · iexact H4
      · ipureintro; exact harg4.read_unread x4
    isplitl [H5]
    · iexists _; isplitr [H5]; swap
      · iexact H5
      · ipureintro; exact harg5.read_unread x5
    isplitl [H6]
    · iexists _; isplitr [H6]; swap
      · iexact H6
      · ipureintro; exact harg6.read_unread x6
    isplitl [H7]
    · iexists _; isplitr [H7]; swap
      · iexact H7
      · ipureintro; exact harg7.read_unread x7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-! ## The pipeline's proof data -/

variable (m : (ℓ : Loc nD τ sig) → Buf (Elt F) ℓ) (ρ : Dev nD → PrngReg)

abbrev ms0_0 (t : Fin cfg0.N) : Memref sig .tc .vmem S1x512x128 .bf16 := win0_0.stage (cfg0.slots t 0)
abbrev ms0_1 (t : Fin cfg0.N) : Memref sig .tc .vmem S1x2x128x8192 .bf16 := win0_1.stage (cfg0.slots t 1)
abbrev ms0_2 (t : Fin cfg0.N) : Memref sig .tc .vmem S1x8192x128 .bf16 := win0_2.stage (cfg0.slots t 2)
abbrev ms0_3 (t : Fin cfg0.N) : Memref sig .tc .vmem S1x2x128 .f32 := win0_3.stage (cfg0.slots t 3)
abbrev ms0_4 (t : Fin cfg0.N) : Memref sig .tc .vmem S256x256 .bf16 := win0_4.stage (cfg0.slots t 4)
abbrev ms0_5 (t : Fin cfg0.N) : Memref sig .tc .vmem S1x512x128 .bf16 := win0_5.stage (cfg0.slots t 5)
abbrev scM0_0 : Memref sig .tc .vmem S2x512x128 .bf16 := Memref.whole cc0_scratch0
abbrev scM0_1 : Memref sig .tc .vmem S2x2x512x256 .f32 := Memref.whole cc0_scratch1
abbrev scM0_2 : Memref sig .tc .vmem S2x2x512x256 .bf16 := Memref.whole cc0_scratch2
abbrev scM0_3 : Memref sig .tc .vmem S2x2x512x256 .bf16 := Memref.whole cc0_scratch3
abbrev scM0_4 : Memref sig .tc .vmem S2x2x512x1 .f32 := Memref.whole cc0_scratch4
abbrev scM0_5 : Memref sig .tc .vmem S2x512x128 .f32 := Memref.whole cc0_scratch5
abbrev scM0_6 : Memref sig .tc .vmem S2x512x1 .f32 := Memref.whole cc0_scratch6

/-- What the body stores at point `t`. -/
def outAt (c : Dev nD) (t : Fin cfg0.N) : Vec F S1x512x128 .bf16 :=
  outVal (grid0.coords t) (iblk m c 0 t) (iblk m c 1 t) (iblk m c 2 t) (iblk m c 3 t) (iblk m c 4 t)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The proof data: the arrays as the region finds them, each input's block left in place, the output's block as stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 HS0 HS1 HS2 HS3 HS4 HS5 HS6]
  · iapply (run_owns c (grid0.coords t) _ _ _ _ _ _ _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iexact HS6
  · iintro %_ ⟨H0, H1, H2, H3, H4, H5, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Sb
end
-- ==== Proof.Math.lean ====
module

public import Idealize.ShloMosaic.Lib.Pointwise

/-! The mathematics of one row of stick-breaking attention, over the extended reals.

A row has scores `z c` and values `W c` at the columns `c`, and attends to the columns below
`t`.  The reference adds the logarithms of the weights from the right end of the row
(`weight`).  The kernel walks tiles of 256 columns from the right to the left in units of
log 2, with a running sum of softplus for the tiles it has passed (`rest`), sums within a
tile (`inTile`) and an accumulator (`accum`).  `accum_eq` says that the two agree. -/

@[expose] public section

noncomputable section

namespace Cert.StickBreaking

open Idealize.ShloMosaic

/-! ## Comparisons of small numbers -/

theorem toInt_small {a : ℕ} (ha : a < 2 ^ 31) : (BitVec.ofNat 32 a).toInt = a := by
  rw [BitVec.toInt_eq_toNat_cond, BitVec.toNat_ofNat, Nat.mod_eq_of_lt (by omega), if_pos (by omega)]

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by
    show BitVec.ofBool (BitVec.slt _ _) = _
    rw [BitVec.slt_eq_decide, toInt_small ha, toInt_small hb]; simp
  rw [h]
  by_cases hab : a < b <;> simp [hab, Scalar.select]

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  have h : IntOp.cmpi .sge (BitVec.ofNat 32 a) (BitVec.ofNat 32 b) = BitVec.ofBool (decide (b ≤ a)) := by
    show BitVec.ofBool (BitVec.sle _ _) = _
    rw [BitVec.sle_eq_decide, toInt_small ha, toInt_small hb]; simp
  rw [h]
  by_cases hab : b ≤ a <;> simp [hab, Scalar.select]

theorem addi_small (a b : ℕ) : IntOp.addi (BitVec.ofNat 32 a) (BitVec.ofNat 32 b) = BitVec.ofNat 32 (a + b) := by
  show BitVec.ofNat 32 a + BitVec.ofNat 32 b = _
  rw [BitVec.ofNat_add]

/-! ## Softplus -/

/-- One over log 2. -/
def κ2 : ℝ := (Real.log 2)⁻¹

theorem log2_pos : 0 < Real.log 2 := Real.log_pos (by norm_num)
theorem κ2_pos : 0 < κ2 := inv_pos.mpr log2_pos

/-- Softplus as the reference writes it. -/
def sf (x : EReal) : EReal := max x 0 + Ideal.log1p (Ideal.exp (-(max (x - 0) (-(x - 0)))))
/-- Softplus in units of log 2, as the kernel writes it. -/
def sp2 (x : EReal) : EReal := max x 0 + Ideal.log (1 + Ideal.exp2 (0 - max x (-x))) * (κ2 : EReal)
/-- Softplus on the reals. -/
def spR (x : ℝ) : ℝ := max x 0 + Real.log (1 + Real.exp (-|x|))

theorem rpow_two (x : ℝ) : Real.rpow 2 x = Real.exp (Real.log 2 * x) := by
  show (2 : ℝ) ^ x = _
  rw [Real.rpow_def_of_pos (by norm_num)]

theorem log_one_add (y : ℝ) (hy : 0 < y) : Ideal.log (1 + (y : EReal)) = (Real.log (1 + y) : ℝ) := by
  have : (1 + (y : EReal)) = ((1 + y : ℝ) : EReal) := by push_cast; rfl
  rw [this, Ideal.log_coe, if_neg (by linarith)]

theorem max_neg_coe (x : ℝ) : max (x : EReal) (-(x : EReal)) = ((|x| : ℝ) : EReal) := by
  rw [abs_eq_max_neg, ← EReal.coe_neg]; exact (EReal.coe_strictMono.monotone.map_max).symm

theorem max_zero_coe (x : ℝ) : max (x : EReal) 0 = ((max x 0 : ℝ) : EReal) := by
  rw [← EReal.coe_zero]; exact (EReal.coe_strictMono.monotone.map_max).symm

theorem sf_coe (x : ℝ) : sf x = (spR x : ℝ) := by
  have h0 : ((x : EReal) - 0) = (x : EReal) := sub_zero _
  unfold sf Ideal.log1p spR
  rw [h0, max_neg_coe, max_zero_coe, ← EReal.coe_neg, Ideal.exp_coe, log_one_add _ (Real.exp_pos _), EReal.coe_add]

theorem log_one : Ideal.log 1 = 0 := by
  have : (1 : EReal) = ((1 : ℝ) : EReal) := rfl
  rw [this, Ideal.log_coe, if_neg (by norm_num)]; simp

theorem sf_bot : sf ⊥ = 0 := by
  simp [sf, Ideal.log1p, log_one]
theorem sf_top : sf ⊤ = ⊤ := by
  simp [sf, Ideal.log1p, log_one]

theorem sp2_bot : sp2 ⊥ = 0 := by
  simp [sp2, log_one]
theorem sp2_top : sp2 ⊤ = ⊤ := by
  simp [sp2, log_one]

theorem sp2_coe (x : ℝ) : sp2 x = ((max x 0 + Real.log (1 + Real.rpow 2 (-|x|)) * κ2 : ℝ) : EReal) := by
  unfold sp2
  rw [max_neg_coe, max_zero_coe, zero_sub, ← EReal.coe_neg, Ideal.exp2_coe, log_one_add _ (by rw [rpow_two]; exact Real.exp_pos _), EReal.coe_add, EReal.coe_mul]

theorem spR_nonneg (x : ℝ) : 0 ≤ spR x := by
  unfold spR
  have h := Real.exp_pos (-|x|)
  have := Real.log_nonneg (show 1 ≤ 1 + Real.exp (-|x|) by linarith)
  have := le_max_right x 0
  linarith

theorem sf_nonneg (x : EReal) : 0 ≤ sf x := by
  induction x with
  | bot => rw [sf_bot]
  | top => rw [sf_top]; exact le_top
  | coe x => rw [sf_coe]; exact_mod_cast spR_nonneg x

theorem spR_sub (x : ℝ) : spR x - spR (-x) = x := by
  unfold spR; rw [abs_neg]
  rcases le_total x 0 with h | h
  · rw [max_eq_right h, max_eq_left (by linarith)]; ring
  · rw [max_eq_left h, max_eq_right (by linarith)]; ring

/-- In units of log 2 the kernel's softplus is the reference's. -/
theorem sp2_mul (z : EReal) : sp2 (z * (κ2 : EReal)) = sf z * (κ2 : EReal) := by
  have hk := κ2_pos
  induction z with
  | bot => rw [EReal.bot_mul_coe_of_pos hk, sp2_bot, sf_bot, zero_mul]
  | top => rw [EReal.top_mul_coe_of_pos hk, sp2_top, sf_top, EReal.top_mul_coe_of_pos hk]
  | coe z =>
    rw [← EReal.coe_mul, sp2_coe, sf_coe, ← EReal.coe_mul]
    congr 1
    unfold spR
    rw [rpow_two, abs_mul, abs_of_pos hk]
    have h1 : Real.log 2 * -(|z| * κ2) = -|z| := by
      unfold κ2; field_simp
    rw [h1, add_mul, max_mul_of_nonneg _ _ hk.le, zero_mul]

theorem mul_κ_ne_top {x : EReal} (h : x ≠ ⊤) (h0 : 0 ≤ x) : ∃ r : ℝ, 0 ≤ r ∧ x = r := by
  induction x with
  | bot => simp at h0
  | top => exact absurd rfl h
  | coe r => exact ⟨r, by exact_mod_cast h0, rfl⟩

/-- The logarithm of the logistic function, as the reference writes it. -/
def ls (x : EReal) : EReal := -sf (-x)

/-- One weight: the kernel's product of two powers of two is the reference's exponential. -/
theorem weight_eq (z GR GM : EReal) (hR : 0 ≤ GR) (hM : 0 ≤ GM) (hz : sf z ≤ GM) :
    Ideal.exp2 (-(GR * (κ2 : EReal))) * Ideal.exp2 (z * (κ2 : EReal) - GM * (κ2 : EReal))
      = Ideal.exp (ls z + (-(GR + GM) - -sf z)) := by
  have hk := κ2_pos
  by_cases hRt : GR = ⊤
  · subst hRt
    have h1 : (⊤ : EReal) + GM = ⊤ := EReal.top_add_of_ne_bot (by rintro rfl; simp at hM)
    rw [h1, EReal.top_mul_coe_of_pos hk]
    simp [sub_eq_add_neg]
  by_cases hMt : GM = ⊤
  · subst hMt
    have h1 : GR + ⊤ = (⊤ : EReal) := EReal.add_top_of_ne_bot (by rintro rfl; simp at hR)
    rw [h1, EReal.top_mul_coe_of_pos hk]
    simp [sub_eq_add_neg]
  obtain ⟨r, hr, rfl⟩ := mul_κ_ne_top hRt hR
  obtain ⟨q, hq, rfl⟩ := mul_κ_ne_top hMt hM
  induction z with
  | top => rw [sf_top] at hz; exact absurd (top_le_iff.mp hz) hMt
  | bot =>
    have : ls ⊥ = ⊥ := by simp [ls, sf_top]
    rw [EReal.bot_mul_coe_of_pos hk, this]
    simp [sub_eq_add_neg]
  | coe z =>
    have hl : ls z = ((-spR (-z) : ℝ) : EReal) := by
      unfold ls; rw [← EReal.coe_neg, sf_coe, ← EReal.coe_neg]
    rw [hl, sf_coe]
    have e1 : (-((r : EReal) * (κ2 : EReal))) = ((-(r * κ2) : ℝ) : EReal) := by push_cast; rfl
    have e2 : ((z : EReal) * (κ2 : EReal) - (q : EReal) * (κ2 : EReal)) = ((z * κ2 - q * κ2 : ℝ) : EReal) := by push_cast; rfl
    have e3 : (((-spR (-z) : ℝ) : EReal) + (-((r : EReal) + (q : EReal)) - -((spR z : ℝ) : EReal)))
        = ((-spR (-z) + (-(r + q) - -spR z) : ℝ) : EReal) := by push_cast; rfl
    rw [e1, e2, e3, Ideal.exp2_coe, Ideal.exp2_coe, Ideal.exp_coe, ← EReal.coe_mul]
    congr 1
    rw [rpow_two, rpow_two, ← Real.exp_add]
    congr 1
    have := spR_sub z
    have hl2 : Real.log 2 * κ2 = 1 := mul_inv_cancel₀ log2_pos.ne'
    linear_combination (z - r - q) * hl2 - this

/-! ## One row -/

theorem mul_sum_real {ι : Type} (s : Finset ι) (p : EReal) (hp : 0 ≤ p) (hp' : p ≠ ⊤) (f : ι → EReal) :
    p * ∑ i ∈ s, f i = ∑ i ∈ s, p * f i := by
  classical
  induction s using Finset.induction_on with
  | empty => simp
  | insert a s ha ih =>
    rw [Finset.sum_insert ha, Finset.sum_insert ha, EReal.left_distrib_of_nonneg_of_ne_top hp hp', ih]

theorem sum_mul_real {ι : Type} (s : Finset ι) (p : EReal) (hp : 0 ≤ p) (hp' : p ≠ ⊤) (f : ι → EReal) :
    (∑ i ∈ s, f i) * p = ∑ i ∈ s, f i * p := by
  rw [mul_comm, mul_sum_real s p hp hp']
  exact Finset.sum_congr rfl fun i _ => mul_comm _ _

theorem sum_neg_nonneg {ι : Type} (s : Finset ι) (f : ι → EReal) (hf : ∀ i, 0 ≤ f i) :
    ∑ i ∈ s, -f i = -∑ i ∈ s, f i := by
  classical
  induction s using Finset.induction_on with
  | empty => simp
  | insert a s ha ih =>
    have h1 : f a ≠ ⊥ := fun h => by simpa [h] using hf a
    have h2 : ∑ i ∈ s, f i ≠ ⊥ := fun h => by simpa [h] using Finset.sum_nonneg (s := s) fun i _ => hf i
    rw [Finset.sum_insert ha, Finset.sum_insert ha, ih, EReal.neg_add (Or.inl h1) (Or.inr h2), sub_eq_add_neg]

section Row

variable (z W : ℕ → EReal) (t : ℕ)

/-- The softplus of a score the row attends to, zero elsewhere. -/
def g (c : ℕ) : EReal := if c < t then sf (z c) else 0
/-- The masked score in units of log 2. -/
def mz (c : ℕ) : EReal := if c < t then z c * (κ2 : EReal) else ⊥
/-- The masked softplus in units of log 2. -/
def ms (c : ℕ) : EReal := if c < t then sp2 (z c * (κ2 : EReal)) else 0
/-- The sum of the masked softplus from a column to the end of its tile. -/
def inTile (c0 l : ℕ) : EReal := ∑ i : Fin 256, ms z t (c0 + i) * (if l ≤ (i : ℕ) then 1 else 0)
/-- The first column of the tile at a step of the walk, which begins at the last of `N` tiles. -/
def first (N n : ℕ) : ℕ := 256 * (N - 1 - n)
/-- Minus the sum of the tiles passed. -/
def rest (N : ℕ) : ℕ → EReal
  | 0 => 0
  | n + 1 => rest N n - inTile z t (first N n) 0
/-- What one tile adds, before its factor. -/
def tile (c0 : ℕ) : EReal := ∑ l : Fin 256, Ideal.exp2 (mz z t (c0 + l) - inTile z t c0 l) * W (c0 + l)
/-- The accumulator after some steps. -/
def accum (N : ℕ) : ℕ → EReal
  | 0 => 0
  | n + 1 => accum N n + Ideal.exp2 (rest z t N n) * tile z W t (first N n)

/-- The logarithms the reference adds. -/
def lg (c : ℕ) : EReal := if c < t then -sf (z c) else 0
/-- The reference's weight of a column, in a row of `M` columns. -/
def weight (M c : ℕ) : EReal :=
  if c < t then Ideal.exp (ls (z c) + ((∑ s ∈ Finset.Ico c M, lg z t s) - lg z t c)) else 0

theorem g_nonneg (c : ℕ) : 0 ≤ g z t c := by
  unfold g; split
  · exact sf_nonneg _
  · exact le_refl _

theorem ms_eq (c : ℕ) : ms z t c = g z t c * (κ2 : EReal) := by
  unfold ms g; split
  · exact sp2_mul _
  · rw [zero_mul]

theorem lg_eq (c : ℕ) : lg z t c = -g z t c := by
  unfold lg g; split <;> simp

theorem κ2_nonneg' : (0 : EReal) ≤ (κ2 : EReal) := by exact_mod_cast κ2_pos.le

/-- The sum of `g` over an interval of columns. -/
def gsum (a b : ℕ) : EReal := ∑ s ∈ Finset.Ico a b, g z t s

theorem gsum_nonneg (a b : ℕ) : 0 ≤ gsum z t a b := Finset.sum_nonneg fun i _ => g_nonneg z t i

theorem gsum_add {a b c : ℕ} (h : a ≤ b) (h' : b ≤ c) : gsum z t a b + gsum z t b c = gsum z t a c :=
  Finset.sum_Ico_consecutive _ h h'

theorem inTile_eq (c0 l : ℕ) (hl : l < 256) : inTile z t c0 l = gsum z t (c0 + l) (c0 + 256) * (κ2 : EReal) := by
  unfold inTile gsum
  rw [sum_mul_real _ _ κ2_nonneg' (EReal.coe_ne_top _)]
  rw [Fin.sum_univ_eq_sum_range (fun i => ms z t (c0 + i) * (if l ≤ i then 1 else 0)) 256]
  have h1 : Finset.Ico (c0 + l) (c0 + 256) = (Finset.Ico l 256).map (addLeftEmbedding c0) := by
    rw [Finset.map_add_left_Ico]
  rw [h1, Finset.sum_map, ← Finset.sum_subset (show Finset.Ico l 256 ⊆ Finset.range 256 from fun x hx => by
    simp only [Finset.mem_Ico, Finset.mem_range] at *; omega)]
  · refine Finset.sum_congr rfl fun i hi => ?_
    rw [if_pos (Finset.mem_Ico.mp hi).1, mul_one, ms_eq]; rfl
  · intro x hx hx'
    rw [if_neg, mul_zero]
    simp only [Finset.mem_Ico, Finset.mem_range] at *; omega

theorem rest_eq (N n : ℕ) (hn : n ≤ N) : rest z t N n = -(gsum z t (256 * (N - n)) (256 * N) * (κ2 : EReal)) := by
  induction n with
  | zero => simp [rest, gsum]
  | succ n ih =>
    rw [rest, ih (by omega), inTile_eq _ _ _ _ (by omega), Nat.add_zero]
    have e1 : first N n = 256 * (N - (n + 1)) := by unfold first; congr 1; omega
    have e2 : first N n + 256 = 256 * (N - n) := by unfold first; omega
    rw [e2, e1, ← gsum_add z t (show 256 * (N - (n + 1)) ≤ 256 * (N - n) by omega) (show 256 * (N - n) ≤ 256 * N by omega)]
    have h0 := gsum_nonneg z t (256 * (N - (n + 1))) (256 * (N - n))
    have h1 := gsum_nonneg z t (256 * (N - n)) (256 * N)
    rw [EReal.right_distrib_of_nonneg h0 h1, EReal.neg_add, sub_eq_add_neg, sub_eq_add_neg, add_comm]
    · exact Or.inl fun h => by simpa [h] using mul_nonneg h0 κ2_nonneg'
    · exact Or.inr fun h => by simpa [h] using mul_nonneg h1 κ2_nonneg'

/-- The reference's weight with its sum cut where the kernel's walk starts. -/
def weight' (B c : ℕ) : EReal :=
  if c < t then Ideal.exp (ls (z c) + (-gsum z t c B - -sf (z c))) else 0

theorem exp2_neg_nonneg (x : EReal) : 0 ≤ Ideal.exp2 x := by
  induction x with
  | bot => simp
  | top => simp
  | coe x => rw [Ideal.exp2_coe, rpow_two]; exact_mod_cast (Real.exp_pos _).le

theorem exp2_neg_ne_top (x : EReal) (hx : 0 ≤ x) : Ideal.exp2 (-x) ≠ ⊤ := by
  induction x with
  | bot => simp at hx
  | top => simp
  | coe x => rw [← EReal.coe_neg, Ideal.exp2_coe]; exact EReal.coe_ne_top _

theorem accum_eq' (N n : ℕ) (hn : n ≤ N) :
    accum z W t N n = ∑ c ∈ Finset.Ico (256 * (N - n)) (256 * N), weight' z t (256 * N) c * W c := by
  induction n with
  | zero => simp [accum]
  | succ n ih =>
    rw [accum, ih (by omega), ← Finset.sum_Ico_consecutive _ (show 256 * (N - (n + 1)) ≤ 256 * (N - n) by omega)
      (show 256 * (N - n) ≤ 256 * N by omega), add_comm]
    congr 1
    have e1 : first N n = 256 * (N - (n + 1)) := by unfold first; congr 1; omega
    have e2 : first N n + 256 = 256 * (N - n) := by unfold first; omega
    have hp := mul_nonneg (gsum_nonneg z t (256 * (N - n)) (256 * N)) κ2_nonneg'
    rw [rest_eq z t N n (by omega), tile, mul_sum_real _ _ (exp2_neg_nonneg _) (exp2_neg_ne_top _ hp),
      ← e1, ← e2]
    rw [Fin.sum_univ_eq_sum_range (fun l => Ideal.exp2 (-(gsum z t (first N n + 256) (256 * N) * (κ2 : EReal)))
      * (Ideal.exp2 (mz z t (first N n + l) - inTile z t (first N n) l) * W (first N n + l))) 256]
    have h1 : Finset.Ico (first N n) (first N n + 256) = (Finset.range 256).map (addLeftEmbedding (first N n)) := by
      rw [Finset.range_eq_Ico, Finset.map_add_left_Ico]; rfl
    rw [h1, Finset.sum_map]
    refine Finset.sum_congr rfl fun l hl => ?_
    have hl : l < 256 := Finset.mem_range.mp hl
    rw [← mul_assoc]
    show _ = weight' z t (256 * N) (first N n + l) * W (first N n + l)
    congr 1
    rw [inTile_eq z t _ _ hl]
    unfold weight' mz
    split
    · rename_i hc
      rw [weight_eq _ _ _ (gsum_nonneg _ _ _ _) (gsum_nonneg _ _ _ _), add_comm (gsum z t (first N n + 256) _),
        gsum_add z t (by omega) (by omega)]
      have : sf (z (first N n + l)) = g z t (first N n + l) := by unfold g; rw [if_pos hc]
      rw [this]
      exact Finset.single_le_sum (f := g z t) (fun i _ => g_nonneg z t i) (Finset.mem_Ico.mpr ⟨le_refl _, by omega⟩)
    · simp [sub_eq_add_neg]

/-- The kernel's walk over the tiles is the reference's sum over the columns. -/
theorem accum_eq (N M : ℕ) (ht : t ≤ 256 * N) (hM : 256 * N ≤ M) :
    accum z W t N N = ∑ c ∈ Finset.range M, W c * weight z t M c := by
  rw [accum_eq' z W t N N (le_refl _), Nat.sub_self, Nat.mul_zero, ← Finset.range_eq_Ico,
    ← Finset.sum_subset (Finset.range_subset_range.mpr hM)]
  · refine Finset.sum_congr rfl fun c hc => ?_
    have hc : c < 256 * N := Finset.mem_range.mp hc
    rw [mul_comm]; congr 1
    unfold weight weight'
    split
    · rename_i hct
      have e : ∑ s ∈ Finset.Ico c M, lg z t s = -gsum z t c (256 * N) := by
        rw [← Finset.sum_Ico_consecutive _ hc.le hM, Finset.sum_eq_zero (s := Finset.Ico (256 * N) M), add_zero]
        · unfold gsum
          rw [← sum_neg_nonneg _ _ (g_nonneg z t)]
          exact Finset.sum_congr rfl fun s _ => lg_eq z t s
        · intro s hs
          unfold lg; rw [if_neg]; have := (Finset.mem_Ico.mp hs).1; omega
      rw [e]; unfold lg; rw [if_pos hct]
    · rfl
  · intro c _ hc
    have : ¬ c < t := fun h => hc (Finset.mem_range.mpr (by omega))
    unfold weight; rw [if_neg this, mul_zero]

end Row

end Cert.StickBreaking
-- ==== Proof.Spec.lean ====
module

public import proofs.«01_k».proof.Proof.Math

/-! Stick-breaking attention as one formula of its arguments.

The queries, keys and values have eight heads of 64 lanes side by side in 512 lanes. -/

@[expose] public section

noncomputable section

namespace Cert.StickBreaking

open Idealize.ShloMosaic

abbrev Rows : Type := (⟨3, ![2, 8192, 512]⟩ : Shape).Idx → EReal
abbrev Heads : Type := (⟨1, ![8]⟩ : Shape).Idx → EReal

/-- Lane `d` of head `h`. -/
def lane (h : Fin 8) (d : Fin 64) : Fin 512 := ⟨64 * h + d, by omega⟩
/-- The head a lane is of. -/
def headOf (x : Fin 512) : Fin 8 := ⟨x / 64, by omega⟩

/-- The score of query row `s` and column `c` in head `h`, and zero past the last column. -/
def score (q k : Rows) (β : Heads) (b : Fin 2) (h : Fin 8) (s : Fin 8192) (c : ℕ) : EReal :=
  if hc : c < 8192 then
    (∑ d : Fin 64, q (ix3 b s (lane h d)) * k (ix3 b ⟨c, hc⟩ (lane h d))) * ((1 / 8 : ℝ) : EReal) + β (ix1 h)
  else 0
/-- The values of a lane, and zero past the last column. -/
def column (v : Rows) (b : Fin 2) (x : Fin 512) (c : ℕ) : EReal := if hc : c < 8192 then v (ix3 b ⟨c, hc⟩ x) else 0
/-- The attention. -/
def attn (q k v : Rows) (β : Heads) (b : Fin 2) (s : Fin 8192) (x : Fin 512) : EReal :=
  ∑ c ∈ Finset.range 8192, column v b x c * weight (score q k β b (headOf x) s) s 8192 c

/-! ## The constants -/

theorem bits_two : Ideal.ofBits .f32 0x40000000#32 = ((2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_top : Ideal.ofBits .f32 0x7F800000#32 = ⊤ := by
  simp [Ideal.ofBits, Ideal.ieee, -EReal.coe_mul]

theorem log2e_eq : Ideal.div 1 (Ideal.log (Ideal.ofBits .f32 0x40000000#32)) = ((κ2 : ℝ) : EReal) := by
  rw [bits_two, Ideal.log_coe, if_neg (by norm_num), show (1 : EReal) = ((1 : ℝ) : EReal) from rfl, Ideal.div_coe (ne_of_gt log2_pos)]
  unfold κ2
  rw [← EReal.coe_mul, one_mul, one_div]

/-! ## The scores of the kernel -/

theorem κ2_nonneg : (0 : EReal) ≤ ((κ2 : ℝ) : EReal) := by exact_mod_cast κ2_pos.le

theorem scaled (Q K : Fin 64 → EReal) :
    ∑ d, (Q d * ((1 / 8 * κ2 : ℝ) : EReal)) * K d = (∑ d, Q d * K d) * ((1 / 8 : ℝ) : EReal) * (κ2 : EReal) := by
  have h : (0 : EReal) ≤ ((1 / 8 * κ2 : ℝ) : EReal) := by exact_mod_cast (mul_pos (by norm_num) κ2_pos).le
  rw [mul_assoc, ← EReal.coe_mul, sum_mul_real _ _ h (EReal.coe_ne_top _)]
  exact Finset.sum_congr rfl fun d _ => by rw [mul_assoc, mul_comm _ (K d), ← mul_assoc]

theorem add_mul_κ2 (x : EReal) (β : ℝ) : (x + (β : EReal)) * (κ2 : EReal) = x * (κ2 : EReal) + (β : EReal) * (κ2 : EReal) := by
  have h := sum_mul_real (Finset.univ : Finset (Fin 2)) (κ2 : EReal) κ2_nonneg (EReal.coe_ne_top _) ![x, (β : EReal)]
  simpa [Fin.sum_univ_two] using h

/-- The head's lanes come first and the lanes of the bias after them. -/
theorem score_low (Q K : Fin 64 → EReal) (β : ℝ) (x y : Fin 128 → EReal)
    (hx : ∀ d : Fin 64, x ⟨d, by omega⟩ = Q d * ((1 / 8 * κ2 : ℝ) : EReal)) (hy : ∀ d : Fin 64, y ⟨d, by omega⟩ = K d)
    (hx' : ∀ d : Fin 64, x ⟨64 + d, by omega⟩ = if (d : ℕ) = 0 then (β : EReal) * (κ2 : EReal) else 0) (hy' : y ⟨64, by omega⟩ = 1) :
    ∑ d, x d * y d = ((∑ d, Q d * K d) * ((1 / 8 : ℝ) : EReal) + (β : EReal)) * (κ2 : EReal) := by
  rw [add_mul_κ2, ← scaled]
  refine (Fin.sum_univ_add (a := 64) (b := 64) fun d => x d * y d).trans ?_
  congr 1
  · exact Finset.sum_congr rfl fun d _ => congrArg₂ (· * ·) (hx d) (hy d)
  · rw [Finset.sum_eq_single (0 : Fin 64)]
    · exact (congrArg₂ (· * ·) (hx' 0) hy').trans (by simp)
    · intro d _ hd
      have hd' : (d : ℕ) ≠ 0 := fun h => hd (Fin.ext h)
      exact (congrArg (· * _) ((hx' d).trans (if_neg hd'))).trans (zero_mul _)
    · simp

/-- The lanes of the bias come first and the head's lanes after them. -/
theorem score_high (Q K : Fin 64 → EReal) (β : ℝ) (x y : Fin 128 → EReal)
    (hx : ∀ d : Fin 64, x ⟨64 + d, by omega⟩ = Q d * ((1 / 8 * κ2 : ℝ) : EReal)) (hy : ∀ d : Fin 64, y ⟨64 + d, by omega⟩ = K d)
    (hx' : ∀ d : Fin 64, x ⟨d, by omega⟩ = if (d : ℕ) = 0 then (β : EReal) * (κ2 : EReal) else 0) (hy' : y ⟨0, by omega⟩ = 1) :
    ∑ d, x d * y d = ((∑ d, Q d * K d) * ((1 / 8 : ℝ) : EReal) + (β : EReal)) * (κ2 : EReal) := by
  rw [add_mul_κ2, ← scaled, add_comm]
  refine (Fin.sum_univ_add (a := 64) (b := 64) fun d => x d * y d).trans ?_
  congr 1
  · rw [Finset.sum_eq_single (0 : Fin 64)]
    · exact (congrArg₂ (· * ·) (hx' 0) hy').trans (by simp)
    · intro d _ hd
      have hd' : (d : ℕ) ≠ 0 := fun h => hd (Fin.ext h)
      exact (congrArg (· * _) ((hx' d).trans (if_neg hd'))).trans (zero_mul _)
    · simp
  · exact Finset.sum_congr rfl fun d _ => congrArg₂ (· * ·) (hx d) (hy d)

end Cert.StickBreaking

end
-- ==== Proof.Sb.Host.lean ====
module

public import proofs.«01_k».proof.Proof.Sb.Frame
public import proofs.«01_k».proof.Proof.Spec

/-! What the attention call is given, from the arguments of the program. -/

@[expose] public section

set_option maxRecDepth 16384
set_option maxHeartbeats 400000

noncomputable section

namespace Cert.KernelIdeal.Sb

open Cert.KernelIdeal Cert.KernelIdeal.Gen
open Idealize.ShloMosaic Idealize.ShloMosaic.TcCoe
open Cert.StickBreaking

variable (m : (ℓ : Loc nD τ sig) → Buf (Elt Ideal) ℓ) (c : Dev nD)

abbrev argQ : Rows := m (c, Proc.tc.devRef main_arg0)
abbrev argK : Rows := m (c, Proc.tc.devRef main_arg1)
abbrev argV : Rows := m (c, Proc.tc.devRef main_arg2)
abbrev argB : Heads := m (c, Proc.tc.devRef main_arg3)

theorem host_q (b : Fin 2) (s : Fin 8192) (h : Fin 512) :
    (V m c main_v5 : Vec Ideal S2x8192x512 .bf16) (ix3 b s h) = argQ m c (ix3 b s h) * ((1 / 8 * κ2 : ℝ) : EReal) := by
  simp only [V, hostOps0, hostOps0_1, hostOps0_2, List.flatten_cons, List.flatten_nil, List.append_nil, List.cons_append, List.nil_append]
  after_results
  pointwise []
  rw [log2e_eq, bits_eighth, ← EReal.coe_mul]

theorem host_v (b : Fin 2) (s : Fin 8192) (h : Fin 512) :
    (V m c main_v59 : Vec Ideal S2x8192x512 .bf16) (ix3 b s h) = argV m c (ix3 b s h) := by
  simp only [V, hostOps0, hostOps0_1, hostOps0_2, List.flatten_cons, List.flatten_nil, List.append_nil, List.cons_append, List.nil_append]
  after_results
  pointwise []

theorem sge_float {a b : ℕ} (ha : a < 2 ^ 31) (hb : b < 2 ^ 31) :
    (FloatOps.uitofp .bf16 (IntOp.cmpi .sge (BitVec.ofNat 32 a) (BitVec.ofNat 32 b)) : Ideal .bf16) = (if b ≤ a then 1 else 0 : EReal) := by
  have h : IntOp.cmpi .sge (BitVec.ofNat 32 a) (BitVec.ofNat 32 b) = BitVec.ofBool (decide (b ≤ a)) := by
    show BitVec.ofBool (BitVec.sle _ _) = _
    rw [BitVec.sle_eq_decide, toInt_small ha, toInt_small hb]; simp
  rw [h]
  by_cases hab : b ≤ a
  · rw [if_pos hab, decide_eq_true hab]; show ((((1#1).toNat : ℕ) : ℝ) : EReal) = 1; simp
  · rw [if_neg hab, decide_eq_false hab]; show ((((0#1).toNat : ℕ) : ℝ) : EReal) = 0; simp

theorem host_u (a b : Fin 256) :
    (V m c main_v57 : Vec Ideal S256x256 .bf16) (ix2 a b) = (if (b : ℕ) ≤ a then 1 else 0 : EReal) := by
  simp only [V, hostOps0, hostOps0_1, hostOps0_2, List.flatten_cons, List.flatten_nil, List.append_nil, List.cons_append, List.nil_append]
  after_results
  pointwise []
  exact sge_float (by omega) (by omega)

theorem host_k (b : Fin 8) (s : Fin 2) (h : Fin 128) (t : Fin 8192) :
    (V m c main_v58 : Vec Ideal S8x2x128x8192 .bf16) (ix4 b s h t)
      = (if (s : ℕ) < 1 then
          if (h : ℕ) < 64 then argK m c (ix3 ⟨(b : ℕ) / 4, by omega⟩ t ⟨(b : ℕ) % 4 * 128 + h, by omega⟩)
          else if (h : ℕ) - 64 < 3 then 1 else 0
        else
          if hh : (h : ℕ) < 64 then if (h : ℕ) < 3 then 1 else 0
          else argK m c (ix3 ⟨(b : ℕ) / 4, by omega⟩ t ⟨(b : ℕ) % 4 * 128 + 64 + ((h : ℕ) - 64), by omega⟩) : EReal) := by
  simp only [V, hostOps0, hostOps0_1, hostOps0_2, List.flatten_cons, List.flatten_nil, List.append_nil, List.cons_append, List.nil_append]
  after_results
  pointwise []
  split_ifs <;> rfl

private theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l₁ ih => exact ih (op.result σ)

/-- The bias in three parts: all of it, and twice what is left over, which is nothing. -/
theorem parts (σ : Valuation τ sig (Elt Ideal)) (b : Fin 4) (s : Fin 2) (h : Fin 3) (β : ℝ)
    (hβ : (σ (Proc.devRef .tc main_arg3) : Heads) (ix1 ⟨(b : ℕ) * 2 + s, by omega⟩) = (β : EReal)) :
    (StableHlo.after hostOps0 σ (Proc.devRef .tc main_v22) : Vec Ideal S4x2x3 .f32) (ix3 b s h)
      = (if (h : ℕ) = 0 then (β : EReal) * (κ2 : EReal) else 0 : EReal) := by
  have hs : ((β : EReal) * (κ2 : EReal)) - ((β : EReal) * (κ2 : EReal)) = 0 := by
    rw [← EReal.coe_mul, ← EReal.coe_sub, sub_self]; rfl
  by_cases h0 : (h : ℕ) = 0
  · rw [if_pos h0]
    simp only [hostOps0]
    after_results
    pointwise []
    have h1 : (h : ℕ) < 1 := by omega
    rw [dif_pos h1]
    after_results_simp
    after_results_loop
    pointwise []
    rw [log2e_eq, hβ]
  · rw [if_neg h0]
    simp only [hostOps0]
    after_results
    pointwise []
    have h1 : ¬ (h : ℕ) < 1 := by omega
    rw [dif_neg h1]
    split_ifs
    all_goals
      after_results_simp
      after_results_loop
      pointwise []
      rw [log2e_eq, hβ]
      simp only [hs, sub_zero]

theorem zero_word (σ : Valuation τ sig (Elt Ideal)) (j : S_.Idx) :
    (FloatOps.sitofp .f32 ((StableHlo.after hostOps0 σ (Proc.devRef .tc main_c) : Vec Ideal S_ .i32) j) : Ideal .f32) = (0 : EReal) := by
  simp only [hostOps0]
  after_results
  show ((((0#32).toInt : ℤ) : ℝ) : EReal) = 0
  simp

theorem bias_rows_eq (σ : Valuation τ sig (Elt Ideal)) (b : Fin 4) (s : Fin 2) (h : Fin 128) :
    (StableHlo.after hostOps0_2 (StableHlo.after hostOps0_1 σ) (Proc.devRef .tc main_v35) : Vec Ideal S4x2x128 .f32) (ix3 b s h)
      = (if (s : ℕ) < 1 then
          if (h : ℕ) < 64 then 0
          else if hh : (h : ℕ) - 64 < 3 then (σ (Proc.devRef .tc main_v22) : Vec Ideal S4x2x3 .f32) (ix3 b 0 ⟨(h : ℕ) - 64, hh⟩)
            else (FloatOps.sitofp .f32 ((σ (Proc.devRef .tc main_c) : Vec Ideal S_ .i32) (Shape.Idx.first h_S_)) : Ideal .f32)
        else
          if (h : ℕ) < 64 then
            if hh : (h : ℕ) < 3 then (σ (Proc.devRef .tc main_v22) : Vec Ideal S4x2x3 .f32) (ix3 b 1 ⟨(h : ℕ), hh⟩)
            else (FloatOps.sitofp .f32 ((σ (Proc.devRef .tc main_c) : Vec Ideal S_ .i32) (Shape.Idx.first h_S_)) : Ideal .f32)
          else 0 : EReal) := by
  simp only [hostOps0_1, hostOps0_2]
  after_results
  simp only [StableHlo.TRef.ofBuf, StableHlo.TRef.toBuf, StableHlo.TRef.of, cast_eq]
  pointwise []
  split_ifs <;> rfl

theorem host_b (b : Fin 4) (s : Fin 2) (h : Fin 128) (β : ℝ)
    (hβ : argB m c (ix1 ⟨(b : ℕ) * 2 + s, by omega⟩) = (β : EReal)) :
    (V m c main_v35 : Vec Ideal S4x2x128 .f32) (ix3 b s h)
      = (if (s : ℕ) < 1 then (if (h : ℕ) = 64 then (β : EReal) * (κ2 : EReal) else 0)
        else if (h : ℕ) = 0 then (β : EReal) * (κ2 : EReal) else 0 : EReal) := by
  simp only [V, List.flatten_cons, List.flatten_nil, List.append_nil]
  rw [after_two, after_two]
  refine (bias_rows_eq _ b s h).trans ?_
  have hp := fun k => parts (fun b => m (c, b)) b s k β hβ
  have hz := zero_word (fun b => m (c, b)) (Shape.Idx.first h_S_)
  generalize (β : EReal) * (κ2 : EReal) = y at hp ⊢
  rw [hz]
  by_cases hs : (s : ℕ) < 1
  · obtain rfl : s = 0 := Fin.ext (by simpa using hs)
    rw [if_pos hs, if_pos hs]
    by_cases h1 : (h : ℕ) < 64
    · have h2 : (h : ℕ) ≠ 64 := by omega
      rw [if_pos h1, if_neg h2]
    · rw [if_neg h1]
      by_cases h2 : (h : ℕ) - 64 < 3
      · rw [dif_pos h2, hp]
        by_cases h3 : (h : ℕ) = 64
        · rw [if_pos h3, if_pos (show (h : ℕ) - 64 = 0 by omega)]
        · rw [if_neg h3, if_neg (show ¬ (h : ℕ) - 64 = 0 by omega)]
      · have h3 : (h : ℕ) ≠ 64 := by omega
        rw [dif_neg h2, if_neg h3]
  · obtain rfl : s = 1 := Fin.ext (by have := s.isLt; simp; omega)
    rw [if_neg hs, if_neg hs]
    by_cases h1 : (h : ℕ) < 64
    · rw [if_pos h1]
      by_cases h2 : (h : ℕ) < 3
      · rw [dif_pos h2, hp]
      · have h3 : (h : ℕ) ≠ 0 := by omega
        rw [dif_neg h2, if_neg h3]
    · have h2 : (h : ℕ) ≠ 0 := by omega
      rw [if_neg h1, if_neg h2]

end Cert.KernelIdeal.Sb

end
-- ==== Proof.Sb.Tile.lean ====
module

public import proofs.«01_k».proof.Proof.Sb.Body
public import proofs.«01_k».proof.Proof.Math
public import Idealize.ShloMosaic.Lib.Pointwise
public import Idealize.ShloMosaic.PureOps.IdealRules

/-! The attention body's steps, read at one element. -/

@[expose] public section

set_option maxRecDepth 16384

noncomputable section

namespace Cert.KernelIdeal.Sb

open Cert.KernelIdeal Cert.KernelIdeal.Gen
open Idealize.ShloMosaic
open Cert.StickBreaking (sp2 κ2 select_slt select_sge addi_small)

theorem named_log2e : Named.named (F := Ideal) κ "log2e" (φ := .f32) 0x3FB8AA3B#32 = (κ2 : EReal) :=
  IdealRules.named_const.ideal_named_scalar _ _ _ _ rfl
theorem named_mask : Named.named (F := Ideal) κ "mask" (φ := .f32) 0xF149F2CA#32 = (⊥ : EReal) :=
  IdealRules.named_const.ideal_named_scalar _ _ _ _ rfl

/-- One score: a query row against a key column. -/
def score (kt : Vec Ideal S1x1x128x256 .bf16) (qa : Vec Ideal S1x512x128 .bf16) (r : Fin 512) (l : Fin 256) : EReal :=
  ∑ d : Fin 128, qa (ix3 0 r d) * kt (ix4 0 0 d l)

theorem pay24_apply (kt : Vec Ideal S1x1x128x256 .bf16) (qa : Vec Ideal S1x512x128 .bf16) (r : Fin 512) (l : Fin 256) :
    k0_pay24 (F := Ideal) kt qa (ix4 0 0 r l) = score kt qa r l := by
  pointwise [k0_pay24, k0_pay23, score]

theorem pay25_apply (kt : Vec Ideal S1x1x128x256 .bf16) (qa : Vec Ideal S1x512x128 .bf16) (r : Fin 512) (l : Fin 256) :
    k0_pay25 (F := Ideal) kt qa (ix4 0 0 r l) = sp2 (score kt qa r l) := by
  pointwise [k0_pay25, k0_pay23, score, sp2]
  simp only [named_log2e]
  rfl

theorem diagZ0_apply (kt : Vec Ideal S1x1x128x256 .bf16) (qa : Vec Ideal S1x512x128 .bf16) (r : Fin 512) (l : Fin 256) :
    diagZ0 (F := Ideal) kt qa (ix4 0 0 r l) = if (l : ℕ) + 256 < r then score kt qa r l else ⊥ := by
  pointwise [diagZ0, k0_pay103, k0_pay100, k0_pay101, score]
  simp only [named_mask]
  rw [show (256#32) = BitVec.ofNat 32 256 from rfl, addi_small, select_slt (by omega) (by omega)]

theorem diagS0_apply (kt : Vec Ideal S1x1x128x256 .bf16) (qa : Vec Ideal S1x512x128 .bf16) (r : Fin 512) (l : Fin 256) :
    diagS0 (F := Ideal) kt qa (ix4 0 0 r l) = if (l : ℕ) + 256 < r then sp2 (score kt qa r l) else 0 := by
  pointwise [diagS0, k0_pay104, k0_pay102, k0_pay100, k0_pay101, score, sp2]
  simp only [named_log2e]
  rw [show (256#32) = BitVec.ofNat 32 256 from rfl, addi_small, select_slt (by omega) (by omega)]
  rfl

theorem diagZ1_apply (kt : Vec Ideal S1x1x128x256 .bf16) (qa : Vec Ideal S1x512x128 .bf16) (r : Fin 512) (l : Fin 256) :
    diagZ1 (F := Ideal) kt qa (ix4 0 0 r l) = if (l : ℕ) < r then score kt qa r l else ⊥ := by
  pointwise [diagZ1, k0_pay114, k0_pay111, k0_pay113, score]
  simp only [named_mask]
  rw [show (0#32) = BitVec.ofNat 32 0 from rfl, addi_small, select_slt (by omega) (by omega)]
  simp only [Nat.add_zero]

theorem diagS1_apply (kt : Vec Ideal S1x1x128x256 .bf16) (qa : Vec Ideal S1x512x128 .bf16) (r : Fin 512) (l : Fin 256) :
    diagS1 (F := Ideal) kt qa (ix4 0 0 r l) = if (l : ℕ) < r then sp2 (score kt qa r l) else 0 := by
  pointwise [diagS1, k0_pay115, k0_pay112, k0_pay111, k0_pay113, score, sp2]
  simp only [named_log2e]
  rw [show (0#32) = BitVec.ofNat 32 0 from rfl, addi_small, select_slt (by omega) (by omega)]
  simp only [Nat.add_zero]
  rfl

theorem pay7_apply (s : Vec Ideal S1x1x512x256 .bf16) (U : Vec Ideal S256x256 .bf16) (z : Vec Ideal S1x1x512x256 .f32) (r : Fin 512) (l : Fin 256) :
    k0_pay7 (F := Ideal) s U z (ix4 0 0 r l) = Ideal.exp2 (z (ix4 0 0 r l) - ∑ i : Fin 256, s (ix4 0 0 r i) * U (ix2 i l)) := by
  pointwise [k0_pay7, k0_pay6]
  rfl

theorem pay8_apply (s : Vec Ideal S1x1x512x256 .bf16) (U : Vec Ideal S256x256 .bf16) (r : Fin 512) :
    k0_pay8 (F := Ideal) s U (ix4 0 0 r 0) = ∑ i : Fin 256, s (ix4 0 0 r i) * U (ix2 i 0) := by
  pointwise [k0_pay8, k0_pay6]

theorem pay5_apply (a : Vec Ideal S1x512x1 .f32) (b : Vec Ideal S1x1x512x1 .f32) (r : Fin 512) :
    k0_pay5 (F := Ideal) a b (ix3 0 r 0) = a (ix3 0 r 0) - b (ix4 0 0 r 0) := by
  pointwise [k0_pay5, k0_pay3]

theorem pay4_apply (v : Vec Ideal S1x256x128 .bf16) (a : Vec Ideal S1x1x512x256 .bf16) (p : Vec Ideal S1x512x1 .f32) (acc : Vec Ideal S1x512x128 .f32)
    (r : Fin 512) (d : Fin 128) :
    k0_pay4 (F := Ideal) v a p acc (ix3 0 r d)
      = acc (ix3 0 r d) + Ideal.exp2 (p (ix3 0 r 0)) * ∑ l : Fin 256, a (ix4 0 0 r l) * v (ix3 0 l d) := by
  pointwise [k0_pay4, k0_pay3]
  rfl

theorem pay2_apply (a b : Vec Ideal S1x512x128 .f32) (r : Fin 512) (d : Fin 128) :
    k0_pay2 (F := Ideal) (iota .tc S512x128 32 [1] iota_S512x128_d1_w32) a b (ix3 0 r d)
      = if (d : ℕ) < 64 then a (ix3 0 r d) else b (ix3 0 r d) := by
  pointwise [k0_pay2]
  rw [show (64#32) = BitVec.ofNat 32 64 from rfl, select_slt (by omega) (by omega)]

theorem pay95_apply (q : Vec Ideal S1x512x128 .bf16) (b : Vec Ideal S1x1x128 .f32) (r : Fin 512) (d : Fin 128) :
    k0_pay95 (F := Ideal) q b (ix3 0 r d) = if (d : ℕ) < 64 then q (ix3 0 r d) else b (ix3 0 0 d) := by
  pointwise [k0_pay95]
  rw [show (64#32) = BitVec.ofNat 32 64 from rfl, select_slt (by omega) (by omega)]

theorem pay96_apply (q : Vec Ideal S1x512x128 .bf16) (b : Vec Ideal S1x1x128 .f32) (r : Fin 512) (d : Fin 128) :
    k0_pay96 (F := Ideal) q b (ix3 0 r d) = if 64 ≤ (d : ℕ) then q (ix3 0 r d) else b (ix3 0 0 d) := by
  pointwise [k0_pay96]
  rw [show (64#32) = BitVec.ofNat 32 64 from rfl, select_sge (by omega) (by omega)]

end Cert.KernelIdeal.Sb
-- ==== Proof.Sb.Off.lean ====
module
public import proofs.«01_k».proof.Proof.Sb.Tile
/-! Where the tiles that the attention body loads begin. -/

@[expose] public section
set_option maxRecDepth 16384
noncomputable section
namespace Cert.KernelIdeal.Sb
open Cert.KernelIdeal Cert.KernelIdeal.Gen
open Idealize.ShloMosaic

theorem trips_eq : ∀ i : grid0.Coords, (k0_t1_loop i).trips = (i 2).val := by decide +kernel
theorem off3_eq : ∀ (i : grid0.Coords) (k : Fin (k0_t1_loop i).trips), k0_off3 i k = ![0, 256 * (2 * (i 2).val + 1 - 2 * k.val), 0] := by decide +kernel
theorem off6_eq : ∀ (i : grid0.Coords) (k : Fin (k0_t1_loop i).trips), k0_off6 i k = ![0, 256 * (2 * (i 2).val + 1 - (2 * k.val + 1)), 0] := by decide +kernel
theorem off4_eq : ∀ (i : grid0.Coords) (k : Fin (k0_t1_loop i).trips) (j : Fin 2),
    k0_off4 i k (BitVec.ofNat 32 (j.val + 2)) = ![0, 0, 0, 256 * (2 * (i 2).val + 1 - (2 * k.val + 2 + j.val))] := by decide +kernel
theorem off5_eq : ∀ (i : grid0.Coords) (k : Fin (k0_t1_loop i).trips) (j : Fin 2),
    k0_off5 i k (BitVec.ofNat 32 (j.val + 2)) = ![0, 1, 0, 256 * (2 * (i 2).val + 1 - (2 * k.val + 2 + j.val))] := by decide +kernel
theorem off1_eq : ∀ (i : grid0.Coords) (j : Fin 2),
    k0_off1 i (BitVec.ofNat 32 j.val) = ![0, 0, 0, 256 * (2 * (i 2).val + 1 - j.val)] := by decide +kernel
theorem off2_eq : ∀ (i : grid0.Coords) (j : Fin 2),
    k0_off2 i (BitVec.ofNat 32 j.val) = ![0, 1, 0, 256 * (2 * (i 2).val + 1 - j.val)] := by decide +kernel
theorem off11_eq : ∀ (i : grid0.Coords) (j : Fin 2),
    k0_off11 i (BitVec.ofNat 32 (j.val + 1)) = ![0, 256 * j.val, 0] := by decide +kernel
end Cert.KernelIdeal.Sb
-- ==== Proof.Sb.Row.lean ====
module

public import proofs.«01_k».proof.Proof.Sb.Off

/-! One row of what the attention body stores is the walk of `Cert.StickBreaking`. -/

@[expose] public section

set_option maxRecDepth 16384

noncomputable section

namespace Cert.KernelIdeal.Sb

open Cert.KernelIdeal Cert.KernelIdeal.Gen
open Idealize.ShloMosaic
open Cert.StickBreaking

theorem ld_key (x4 : Vec Ideal S1x2x128x8192 .bf16) (off : Fin 4 → ℕ) (inb : ∀ a, off a + S1x1x128x256.size a ≤ S1x2x128x8192.size a)
    (e : Fin 2) (c0 : ℕ) (h : off = ![0, e.val, 0, c0]) (d : Fin 128) (l : Fin 256) (hc : c0 + l < 8192) :
    View.ld x4 (Rect.unit (s := S1x2x128x8192) off S1x1x128x256.size inb) (ix4 0 0 d l) = x4 (ix4 0 e d ⟨c0 + l, hc⟩) := by
  subst h
  show x4 _ = _
  congr 1; funext a
  fin_cases a <;> apply Fin.ext <;> simp [ix4, LoadRect.idx]

theorem ld_val (x5 : Vec Ideal S1x8192x128 .bf16) (off : Fin 3 → ℕ) (inb : ∀ a, off a + S1x256x128.size a ≤ S1x8192x128.size a)
    (c0 : ℕ) (h : off = ![0, c0, 0]) (l : Fin 256) (d : Fin 128) (hc : c0 + l < 8192) :
    View.ld x5 (Rect.unit (s := S1x8192x128) off S1x256x128.size inb) (ix3 0 l d) = x5 (ix3 0 ⟨c0 + l, hc⟩ d) := by
  subst h
  show x5 _ = _
  congr 1; funext a
  fin_cases a <;> apply Fin.ext <;> simp [ix3, LoadRect.idx]

theorem ld_U (x7 : Vec Ideal S256x256 .bf16) : View.ld x7 WU = x7 :=
  View.ld_unit_zero (funext fun a => by fin_cases a <;> rfl) _ _

theorem queries_qRows (x3 : Vec Ideal S1x512x128 .bf16) (x6 : Vec Ideal S1x2x128 .f32) (e : Fin 2) :
    queries (qRows x3 x6) e = headQ x3 x6 e := by
  have h0 : View.ld (qRows x3 x6) A0 = headQ x3 x6 0 := by
    unfold qRows; rw [ld_canon_skip _ _ _ _ (by decide)]; exact ld_canon_hit _ _ _
  have h1 : View.ld (qRows x3 x6) A1 = headQ x3 x6 1 := by
    unfold qRows; exact ld_canon_hit _ _ _
  unfold queries
  rw [h0, h1]
  match e with
  | 0 => rfl
  | 1 => rfl

theorem first_lt (i : grid0.Coords) {N : ℕ} (hN : N = 2 * (i 2).val + 2) (n l : ℕ) (hl : l < 256) : first N n + l < 8192 := by
  have : (i 2).val < 16 := (i 2).isLt
  unfold first; omega

section Row

variable (z W : ℕ → EReal) (t N : ℕ) (e : Fin 2) (r : Fin 512) (d : Fin 128) (i : grid0.Coords)
  (x3 : Vec Ideal S1x512x128 .bf16) (x4 : Vec Ideal S1x2x128x8192 .bf16) (x5 : Vec Ideal S1x8192x128 .bf16)
  (x6 : Vec Ideal S1x2x128 .f32) (x7 : Vec Ideal S256x256 .bf16)

/-- The state holds the row's walk after `n` tiles, with the next two tiles scored. -/
structure Inv (n : ℕ) (C : Core Ideal) : Prop where
  z0 : ∀ l : Fin 256, C.z0 e (ix4 0 0 r l) = mz z t (first N n + l)
  z1 : ∀ l : Fin 256, C.z1 e (ix4 0 0 r l) = mz z t (first N (n + 1) + l)
  s0 : ∀ l : Fin 256, C.s0 e (ix4 0 0 r l) = ms z t (first N n + l)
  s1 : ∀ l : Fin 256, C.s1 e (ix4 0 0 r l) = ms z t (first N (n + 1) + l)
  a0 : ∀ l : Fin 256, C.a0 e (ix4 0 0 r l) = Ideal.exp2 (mz z t (first N n + l) - inTile z t (first N n) l)
  m0 : C.m0 e (ix4 0 0 r 0) = inTile z t (first N n) 0
  acc : C.acc e (ix3 0 r d) = accum z W t N n
  r : C.r e (ix3 0 r 0) = rest z t N n

variable (hU : ∀ a b : Fin 256, x7 (ix2 a b) = if (b : ℕ) ≤ a then 1 else 0)
include hU

theorem wts_apply (s : Vec Ideal S1x1x512x256 .bf16) (y : Vec Ideal S1x1x512x256 .f32) (c0 : ℕ)
    (hs : ∀ l : Fin 256, s (ix4 0 0 r l) = ms z t (c0 + l)) (hy : ∀ l : Fin 256, y (ix4 0 0 r l) = mz z t (c0 + l)) (l : Fin 256) :
    wts x7 s y (ix4 0 0 r l) = Ideal.exp2 (mz z t (c0 + l) - inTile z t c0 l) := by
  unfold wts inTile
  rw [ld_U, pay7_apply, hy]
  simp only [hs, hU]

theorem sums_apply (s : Vec Ideal S1x1x512x256 .bf16) (c0 : ℕ)
    (hs : ∀ l : Fin 256, s (ix4 0 0 r l) = ms z t (c0 + l)) :
    sums x7 s (ix4 0 0 r 0) = inTile z t c0 0 := by
  unfold sums inTile
  rw [ld_U, pay8_apply]
  simp only [hs, hU]
  rfl

omit hU in
theorem acc_step (v : Vec Ideal S1x256x128 .bf16) (a : Vec Ideal S1x1x512x256 .bf16) (p : Vec Ideal S1x512x1 .f32) (acc : Vec Ideal S1x512x128 .f32) (n : ℕ)
    (ha : ∀ l : Fin 256, a (ix4 0 0 r l) = Ideal.exp2 (mz z t (first N n + l) - inTile z t (first N n) l))
    (hv : ∀ l : Fin 256, v (ix3 0 l d) = W (first N n + l))
    (hp : p (ix3 0 r 0) = rest z t N n) (hacc : acc (ix3 0 r d) = accum z W t N n) :
    k0_pay4 (F := Ideal) v a p acc (ix3 0 r d) = accum z W t N (n + 1) := by
  rw [pay4_apply, hacc, hp, accum, tile]
  simp only [ha, hv]

omit hU in
theorem rest_step (p : Vec Ideal S1x512x1 .f32) (q : Vec Ideal S1x1x512x1 .f32) (n : ℕ)
    (hp : p (ix3 0 r 0) = rest z t N n) (hq : q (ix4 0 0 r 0) = inTile z t (first N n) 0) :
    k0_pay5 (F := Ideal) p q (ix3 0 r 0) = rest z t N (n + 1) := by
  rw [pay5_apply, hp, hq, rest]

variable (hN : N = 2 * (i 2).val + 2) (ht : t = 512 * (i 2).val + r.val)
  (hz : ∀ c (hc : c < 8192), ∑ k : Fin 128, headQ x3 x6 e (ix3 0 r k) * x4 (ix4 0 e k ⟨c, hc⟩) = z c * (κ2 : EReal))
  (hW : ∀ c (hc : c < 8192), x5 (ix3 0 ⟨c, hc⟩ d) = W c)

omit hU in
include hz in
theorem score_eq (kt : Vec Ideal S1x1x128x256 .bf16) (n : ℕ)
    (hk : ∀ (k : Fin 128) (l : Fin 256), kt (ix4 0 0 k l) = x4 (ix4 0 e k ⟨first N n + l, first_lt i hN n l l.isLt⟩)) (l : Fin 256) :
    score kt (headQ x3 x6 e) r l = z (first N n + l) * (κ2 : EReal) := by
  unfold score
  rw [← hz _ (first_lt i hN n l l.isLt)]
  exact Finset.sum_congr rfl fun k _ => by rw [hk]

include hN

omit hU in
theorem first_eq (n : ℕ) : first N n = 256 * (2 * (i 2).val + 1 - n) := by
  unfold first; rw [hN]; rfl

omit hU in
theorem keyD0_apply (k : Fin 128) (l : Fin 256) :
    keyD0 i x4 e (ix4 0 0 k l) = x4 (ix4 0 e k ⟨first N 0 + l, first_lt i hN 0 l l.isLt⟩) := by
  unfold keyD0
  match e with
  | 0 => exact ld_key x4 _ _ 0 (first N 0) ((off1_eq i 0).trans (by rw [first_eq N i hN]; rfl)) k l _
  | 1 => exact ld_key x4 _ _ 1 (first N 0) ((off2_eq i 0).trans (by rw [first_eq N i hN]; rfl)) k l _

omit hU in
theorem keyD1_apply (k : Fin 128) (l : Fin 256) :
    keyD1 i x4 e (ix4 0 0 k l) = x4 (ix4 0 e k ⟨first N 1 + l, first_lt i hN 1 l l.isLt⟩) := by
  unfold keyD1
  match e with
  | 0 => exact ld_key x4 _ _ 0 (first N 1) ((off1_eq i 1).trans (by rw [first_eq N i hN]; rfl)) k l _
  | 1 => exact ld_key x4 _ _ 1 (first N 1) ((off2_eq i 1).trans (by rw [first_eq N i hN]; rfl)) k l _

omit hU in
theorem keyA_apply (n : Fin (k0_t1_loop i).trips) (k : Fin 128) (l : Fin 256) :
    keyA i n x4 e (ix4 0 0 k l) = x4 (ix4 0 e k ⟨first N (2 * n + 2) + l, first_lt i hN _ l l.isLt⟩) := by
  unfold keyA
  match e with
  | 0 => exact ld_key x4 _ _ 0 (first N (2 * n + 2)) ((off4_eq i n 0).trans (by rw [first_eq N i hN]; rfl)) k l _
  | 1 => exact ld_key x4 _ _ 1 (first N (2 * n + 2)) ((off5_eq i n 0).trans (by rw [first_eq N i hN]; rfl)) k l _

omit hU in
theorem keyB_apply (n : Fin (k0_t1_loop i).trips) (k : Fin 128) (l : Fin 256) :
    keyB i n x4 e (ix4 0 0 k l) = x4 (ix4 0 e k ⟨first N (2 * n + 3) + l, first_lt i hN _ l l.isLt⟩) := by
  unfold keyB
  match e with
  | 0 => exact ld_key x4 _ _ 0 (first N (2 * n + 3)) ((off4_eq i n 1).trans (by rw [first_eq N i hN]; rfl)) k l _
  | 1 => exact ld_key x4 _ _ 1 (first N (2 * n + 3)) ((off5_eq i n 1).trans (by rw [first_eq N i hN]; rfl)) k l _

omit hU in
include hW in
theorem valA_apply (n : Fin (k0_t1_loop i).trips) (l : Fin 256) : valA i n x5 (ix3 0 l d) = W (first N (2 * n) + l) := by
  rw [← hW _ (first_lt i hN _ l l.isLt)]
  exact ld_val x5 _ _ (first N (2 * n)) ((off3_eq i n).trans (by rw [first_eq N i hN])) l d _

omit hU in
include hW in
theorem valB_apply (n : Fin (k0_t1_loop i).trips) (l : Fin 256) : valB i n x5 (ix3 0 l d) = W (first N (2 * n + 1) + l) := by
  rw [← hW _ (first_lt i hN _ l l.isLt)]
  exact ld_val x5 _ _ (first N (2 * n + 1)) ((off6_eq i n).trans (by rw [first_eq N i hN])) l d _

omit hU in
include hW in
theorem valY_apply (l : Fin 256) : valY i x5 (ix3 0 l d) = W (first N (2 * (i 2).val) + l) := by
  rw [← hW _ (first_lt i hN _ l l.isLt)]
  refine ld_val x5 _ _ (first N (2 * (i 2).val)) ((off11_eq i 1).trans ?_) l d _
  rw [first_eq N i hN, show 2 * (i 2).val + 1 - 2 * (i 2).val = 1 by omega]; rfl

omit hU in
include hW in
theorem valZ_apply (l : Fin 256) : valZ i x5 (ix3 0 l d) = W (first N (2 * (i 2).val + 1) + l) := by
  rw [← hW _ (first_lt i hN _ l l.isLt)]
  refine ld_val x5 _ _ (first N (2 * (i 2).val + 1)) ((off11_eq i 0).trans ?_) l d _
  rw [first_eq N i hN, show 2 * (i 2).val + 1 - (2 * (i 2).val + 1) = 0 by omega]; rfl

include ht hz

omit hU in
theorem diag0 (l : Fin 256) : diagZ0 (keyD0 i x4 e) (headQ x3 x6 e) (ix4 0 0 r l) = mz z t (first N 0 + l)
    ∧ diagS0 (keyD0 i x4 e) (headQ x3 x6 e) (ix4 0 0 r l) = ms z t (first N 0 + l) := by
  have hs := score_eq z N e r i x3 x4 x6 hN hz _ 0 (keyD0_apply N e i x4 hN) l
  have hc : (l : ℕ) + 256 < r ↔ first N 0 + l < t := by unfold first; omega
  rw [diagZ0_apply, diagS0_apply, hs]
  unfold mz ms
  simp only [hc, and_self]

omit hU in
theorem diag1 (l : Fin 256) : diagZ1 (keyD1 i x4 e) (headQ x3 x6 e) (ix4 0 0 r l) = mz z t (first N 1 + l)
    ∧ diagS1 (keyD1 i x4 e) (headQ x3 x6 e) (ix4 0 0 r l) = ms z t (first N 1 + l) := by
  have hs := score_eq z N e r i x3 x4 x6 hN hz _ 1 (keyD1_apply N e i x4 hN) l
  have hc : (l : ℕ) < r ↔ first N 1 + l < t := by unfold first; omega
  rw [diagZ1_apply, diagS1_apply, hs]
  unfold mz ms
  simp only [hc, and_self]

omit hU in
theorem below (n : ℕ) (hn : 2 ≤ n) (hn' : n < N) (kt : Vec Ideal S1x1x128x256 .bf16)
    (hk : ∀ (k : Fin 128) (l : Fin 256), kt (ix4 0 0 k l) = x4 (ix4 0 e k ⟨first N n + l, first_lt i hN n l l.isLt⟩)) (l : Fin 256) :
    k0_pay24 (F := Ideal) kt (headQ x3 x6 e) (ix4 0 0 r l) = mz z t (first N n + l)
    ∧ k0_pay25 (F := Ideal) kt (headQ x3 x6 e) (ix4 0 0 r l) = ms z t (first N n + l) := by
  have hs := score_eq z N e r i x3 x4 x6 hN hz kt n hk l
  have hc : first N n + l < t := by unfold first; omega
  rw [pay24_apply, pay25_apply, hs]
  unfold mz ms
  rw [if_pos hc, if_pos hc]
  exact ⟨rfl, rfl⟩

include hU in
theorem inv_start : Inv z W t N e r d 0 (coreStart i x3 x4 x6 x7) where
  z0 l := (diag0 z t N e r i x3 x4 x6 hN ht hz l).1
  z1 l := (diag1 z t N e r i x3 x4 x6 hN ht hz l).1
  s0 l := (diag0 z t N e r i x3 x4 x6 hN ht hz l).2
  s1 l := (diag1 z t N e r i x3 x4 x6 hN ht hz l).2
  a0 l := wts_apply z t r x7 hU _ _ (first N 0) (fun l => (diag0 z t N e r i x3 x4 x6 hN ht hz l).2) (fun l => (diag0 z t N e r i x3 x4 x6 hN ht hz l).1) l
  m0 := sums_apply z t r x7 hU _ (first N 0) (fun l => (diag0 z t N e r i x3 x4 x6 hN ht hz l).2)
  acc := Ideal.ofBits_zero_f32
  r := Ideal.ofBits_zero_f32

include hU hW in
theorem inv_step (n : Fin (k0_t1_loop i).trips) (C : Core Ideal) (h : Inv z W t N e r d (2 * n) C) :
    Inv z W t N e r d (2 * (n.val + 1)) (cstep i x4 x5 x7 (qRows x3 x6) n C) := by
  have hn : n.val < (i 2).val := (trips_eq i) ▸ n.isLt
  have hA := below z t N e r i x3 x4 x6 hN ht hz (2 * n + 2) (by omega) (by omega) _ (keyA_apply N e i x4 hN n)
  have hB := below z t N e r i x3 x4 x6 hN ht hz (2 * n + 3) (by omega) (by omega) _ (keyB_apply N e i x4 hN n)
  have hw := wts_apply z t r x7 hU _ _ _ h.s1 h.z1
  have hr := rest_step z t N r _ _ _ h.r h.m0
  constructor
  · intro l; show k0_pay24 _ (queries (qRows x3 x6) e) _ = _; rw [queries_qRows]; exact (hA l).1
  · intro l; show k0_pay24 _ (queries (qRows x3 x6) e) _ = _; rw [queries_qRows]; exact (hB l).1
  · intro l; show k0_pay25 _ (queries (qRows x3 x6) e) _ = _; rw [queries_qRows]; exact (hA l).2
  · intro l; show k0_pay25 _ (queries (qRows x3 x6) e) _ = _; rw [queries_qRows]; exact (hB l).2
  · intro l
    show wts x7 (k0_pay25 _ (queries (qRows x3 x6) e)) (k0_pay24 _ (queries (qRows x3 x6) e)) _ = _
    rw [queries_qRows]
    exact wts_apply z t r x7 hU _ _ _ (fun l => (hA l).2) (fun l => (hA l).1) l
  · show sums x7 (k0_pay25 _ (queries (qRows x3 x6) e)) _ = _
    rw [queries_qRows]
    exact sums_apply z t r x7 hU _ _ (fun l => (hA l).2)
  · exact acc_step z W t N r d _ _ _ _ (2 * n + 1) hw (valB_apply W N d i x5 hN hW n) hr
      (acc_step z W t N r d _ _ _ _ (2 * n) h.a0 (valA_apply W N d i x5 hN hW n) h.r h.acc)
  · exact rest_step z t N r _ _ (2 * n + 1) hr (sums_apply z t r x7 hU _ _ h.s1)

include hU hW in
theorem inv_at (n : ℕ) (hn : n ≤ (k0_t1_loop i).trips) :
    Inv z W t N e r d (2 * n) (coreAt i x4 x5 x7 (qRows x3 x6) (coreStart i x3 x4 x6 x7) n) := by
  induction n with
  | zero => exact inv_start z W t N e r d i x3 x4 x6 x7 hU hN ht hz
  | succ n ih =>
    have := coreAt_succ i x4 x5 x7 (qRows x3 x6) (coreStart i x3 x4 x6 x7) ⟨n, hn⟩
    rw [show n + 1 = (⟨n, hn⟩ : Fin (k0_t1_loop i).trips).val + 1 from rfl, this]
    exact inv_step z W t N e r d i x3 x4 x5 x6 x7 hU hN ht hz hW ⟨n, hn⟩ _ (ih (by omega))

include hU hW in
/-- A head's sum at the end is the whole walk. -/
theorem accFin_apply : accFin i x5 x7 (coreAt i x4 x5 x7 (qRows x3 x6) (coreStart i x3 x4 x6 x7) (k0_t1_loop i).trips) e (ix3 0 r d)
    = accum z W t N N := by
  have h := inv_at z W t N e r d i x3 x4 x5 x6 x7 hU hN ht hz hW _ (le_refl _)
  have ht' := trips_eq i
  have hw := wts_apply z t r x7 hU _ _ _ h.s1 h.z1
  have hr := rest_step z t N r _ _ _ h.r h.m0
  have hy := valY_apply W N d i x5 hN hW
  have hv := valZ_apply W N d i x5 hN hW
  rw [← ht'] at hy hv
  have := acc_step z W t N r d _ _ _ _ _ hw hv hr (acc_step z W t N r d _ _ _ _ _ h.a0 hy h.r h.acc)
  unfold accFin
  rw [this]
  congr 1
  omega

end Row

end Cert.KernelIdeal.Sb
-- ==== Proof.Sb.Blocks.lean ====
module

public import proofs.«01_k».proof.Proof.Sb.Frame
public import proofs.«01_k».proof.Proof.Sb.Host
public import proofs.«01_k».proof.Proof.Sb.Row
public import proofs.«01_k».proof.Proof.Spec
public import Idealize.ShloMosaic.Lib.Pipeline.ValueKit

/-! The blocks a grid point works on, at an index. -/

@[expose] public section

set_option maxRecDepth 16384

noncomputable section

namespace Cert.KernelIdeal.Sb

open Cert.KernelIdeal Cert.KernelIdeal.Gen
open Idealize.ShloMosaic Idealize.ShloMosaic.TcCoe
open Cert.StickBreaking (κ2 Rows Heads attn column lane headOf)

variable (m : (ℓ : Loc nD τ sig) → Buf (Elt Ideal) ℓ) (c : Dev nD) (t : Fin cfg0.N)

/-- The batch, the pair of heads and the tile of queries of a grid point. -/
def gb : Fin 2 := grid0.coords t 0
def gp : Fin 4 := grid0.coords t 1
def gq : Fin 16 := grid0.coords t 2

theorem index_0 : ∀ t : Fin cfg0.N, win0_0.index t = ![(gb t).val, (gq t).val, (gp t).val] := (by decide +kernel : ∀ t : Fin grid0.N, _)
theorem index_1 : ∀ t : Fin cfg0.N, win0_1.index t = ![4 * (gb t).val + (gp t).val, 0, 0, 0] := (by decide +kernel : ∀ t : Fin grid0.N, _)
theorem index_2 : ∀ t : Fin cfg0.N, win0_2.index t = ![(gb t).val, 0, (gp t).val] := (by decide +kernel : ∀ t : Fin grid0.N, _)
theorem index_3 : ∀ t : Fin cfg0.N, win0_3.index t = ![(gp t).val, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![(gb t).val, (gq t).val, (gp t).val] := (by decide +kernel : ∀ t : Fin grid0.N, _)

theorem win_q (A : Vec Ideal S2x8192x512 .bf16) (r : Fin 512) (l : Fin 128) :
    (((cfg0.win 0).blk t).view.read (Elt Ideal) A : Vec Ideal S1x512x128 .bf16) (ix3 (0 : Fin 1) r l) = A (ix3 (gb t) ⟨512 * (gq t).val + r, by omega⟩ ⟨128 * (gp t).val + l, by omega⟩) := by
  show A ((win0_0.blk t).view.emb (ix3 (0 : Fin 1) r l)) = _
  refine congrArg A (funext fun x => Fin.ext ?_)
  refine (Pipeline.Window.rect_emb_val win0_0 t (ix3 (0 : Fin 1) r l) x).trans ?_
  rw [index_0]
  match x with
  | 0 => show (gb t).val * 1 + 0 = (gb t).val; omega
  | 1 => show (gq t).val * 512 + r.val = 512 * (gq t).val + r; omega
  | 2 => show (gp t).val * 128 + l.val = 128 * (gp t).val + l; omega

theorem blk_q (r : Fin 512) (l : Fin 128) :
    (iblk m c 0 t : Vec Ideal S1x512x128 .bf16) (ix3 (0 : Fin 1) r l) = (V m c main_v5 : Vec Ideal S2x8192x512 .bf16) (ix3 (gb t) ⟨512 * (gq t).val + r, by omega⟩ ⟨128 * (gp t).val + l, by omega⟩) :=
  win_q t (V m c main_v5) r l

theorem win_k (A : Vec Ideal S8x2x128x8192 .bf16) (e : Fin 2) (h : Fin 128) (s : Fin 8192) :
    (((cfg0.win 1).blk t).view.read (Elt Ideal) A : Vec Ideal S1x2x128x8192 .bf16) (ix4 (0 : Fin 1) e h s) = A (ix4 ⟨4 * (gb t).val + (gp t).val, by omega⟩ e h s) := by
  show A ((win0_1.blk t).view.emb (ix4 (0 : Fin 1) e h s)) = _
  refine congrArg A (funext fun x => Fin.ext ?_)
  refine (Pipeline.Window.rect_emb_val win0_1 t (ix4 (0 : Fin 1) e h s) x).trans ?_
  rw [index_1]
  match x with
  | 0 => show (4 * (gb t).val + (gp t).val) * 1 + 0 = 4 * (gb t).val + (gp t).val; omega
  | 1 => show 0 * 2 + e.val = e.val; omega
  | 2 => show 0 * 128 + h.val = h.val; omega
  | 3 => show 0 * 8192 + s.val = s.val; omega

theorem blk_k (e : Fin 2) (h : Fin 128) (s : Fin 8192) :
    (iblk m c 1 t : Vec Ideal S1x2x128x8192 .bf16) (ix4 (0 : Fin 1) e h s) = (V m c main_v58 : Vec Ideal S8x2x128x8192 .bf16) (ix4 ⟨4 * (gb t).val + (gp t).val, by omega⟩ e h s) :=
  win_k t (V m c main_v58) e h s

theorem win_v (A : Vec Ideal S2x8192x512 .bf16) (s : Fin 8192) (l : Fin 128) :
    (((cfg0.win 2).blk t).view.read (Elt Ideal) A : Vec Ideal S1x8192x128 .bf16) (ix3 (0 : Fin 1) s l) = A (ix3 (gb t) s ⟨128 * (gp t).val + l, by omega⟩) := by
  show A ((win0_2.blk t).view.emb (ix3 (0 : Fin 1) s l)) = _
  refine congrArg A (funext fun x => Fin.ext ?_)
  refine (Pipeline.Window.rect_emb_val win0_2 t (ix3 (0 : Fin 1) s l) x).trans ?_
  rw [index_2]
  match x with
  | 0 => show (gb t).val * 1 + 0 = (gb t).val; omega
  | 1 => show 0 * 8192 + s.val = s.val; omega
  | 2 => show (gp t).val * 128 + l.val = 128 * (gp t).val + l; omega

theorem blk_v (s : Fin 8192) (l : Fin 128) :
    (iblk m c 2 t : Vec Ideal S1x8192x128 .bf16) (ix3 (0 : Fin 1) s l) = (V m c main_v59 : Vec Ideal S2x8192x512 .bf16) (ix3 (gb t) s ⟨128 * (gp t).val + l, by omega⟩) :=
  win_v t (V m c main_v59) s l

theorem win_b (A : Vec Ideal S4x2x128 .f32) (e : Fin 2) (l : Fin 128) :
    (((cfg0.win 3).blk t).view.read (Elt Ideal) A : Vec Ideal S1x2x128 .f32) (ix3 (0 : Fin 1) e l) = A (ix3 (gp t) e l) := by
  show A ((win0_3.blk t).view.emb (ix3 (0 : Fin 1) e l)) = _
  refine congrArg A (funext fun x => Fin.ext ?_)
  refine (Pipeline.Window.rect_emb_val win0_3 t (ix3 (0 : Fin 1) e l) x).trans ?_
  rw [index_3]
  match x with
  | 0 => show (gp t).val * 1 + 0 = (gp t).val; omega
  | 1 => show 0 * 2 + e.val = e.val; omega
  | 2 => show 0 * 128 + l.val = l.val; omega

theorem blk_b (e : Fin 2) (l : Fin 128) :
    (iblk m c 3 t : Vec Ideal S1x2x128 .f32) (ix3 (0 : Fin 1) e l) = (V m c main_v35 : Vec Ideal S4x2x128 .f32) (ix3 (gp t) e l) :=
  win_b t (V m c main_v35) e l

theorem win_u (A : Vec Ideal S256x256 .bf16) (a b : Fin 256) :
    (((cfg0.win 4).blk t).view.read (Elt Ideal) A : Vec Ideal S256x256 .bf16) (ix2 a b) = A (ix2 a b) := by
  show A ((win0_4.blk t).view.emb (ix2 a b)) = _
  refine congrArg A (funext fun x => Fin.ext ?_)
  refine (Pipeline.Window.rect_emb_val win0_4 t (ix2 a b) x).trans ?_
  rw [index_4]
  match x with
  | 0 => show 0 * 256 + a.val = a.val; omega
  | 1 => show 0 * 256 + b.val = b.val; omega

theorem blk_u (a b : Fin 256) :
    (iblk m c 4 t : Vec Ideal S256x256 .bf16) (ix2 a b) = (V m c main_v57 : Vec Ideal S256x256 .bf16) (ix2 a b) :=
  win_u t (V m c main_v57) a b

end Cert.KernelIdeal.Sb
end
-- ==== Proof.Sb.Final.lean ====
module

public import proofs.«01_k».proof.Proof.Sb.Blocks

/-! The call stores stick-breaking attention, when every head's bias is a real number. -/

@[expose] public section

set_option maxRecDepth 16384

noncomputable section

namespace Cert.KernelIdeal.Sb

open Cert.KernelIdeal Cert.KernelIdeal.Gen
open Idealize.ShloMosaic Idealize.ShloMosaic.TcCoe
open Idealize.SL.Sem
open Cert.StickBreaking (κ2 Rows Heads attn column lane headOf weight accum accum_eq score_low score_high)

theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-! ## The scores of a query row -/

theorem headQ_low (x3 : Vec Ideal S1x512x128 .bf16) (x6 : Vec Ideal S1x2x128 .f32) (r : Fin 512) (k : Fin 128) :
    headQ x3 x6 0 (ix3 0 r k) = if (k : ℕ) < 64 then x3 (ix3 0 r k) else x6 (ix3 0 0 k) := by
  have hq : View.ld x3 WQ = x3 := View.ld_unit_zero (funext fun a => by fin_cases a <;> rfl) _ _
  have hb : View.ld x6 WB0 (ix3 0 0 k) = x6 (ix3 0 0 k) := by
    show x6 _ = _
    congr 1; funext a
    fin_cases a <;> apply Fin.ext <;> simp [ix3, LoadRect.idx]
  refine (pay95_apply _ _ r k).trans ?_
  rw [hq, hb]

theorem headQ_high (x3 : Vec Ideal S1x512x128 .bf16) (x6 : Vec Ideal S1x2x128 .f32) (r : Fin 512) (k : Fin 128) :
    headQ x3 x6 1 (ix3 0 r k) = if 64 ≤ (k : ℕ) then x3 (ix3 0 r k) else x6 (ix3 0 1 k) := by
  have hq : View.ld x3 WQ = x3 := View.ld_unit_zero (funext fun a => by fin_cases a <;> rfl) _ _
  have hb : View.ld x6 WB1 (ix3 0 0 k) = x6 (ix3 0 1 k) := by
    show x6 _ = _
    congr 1; funext a
    fin_cases a <;> apply Fin.ext <;> simp [ix3, LoadRect.idx]
  refine (pay96_apply _ _ r k).trans ?_
  rw [hq, hb]

theorem sum_low (x3 : Vec Ideal S1x512x128 .bf16) (x4 : Vec Ideal S1x2x128x8192 .bf16) (x6 : Vec Ideal S1x2x128 .f32) (r : Fin 512) (s : Fin 8192)
    (Q K : Fin 64 → EReal) (β : ℝ)
    (hq : ∀ d : Fin 64, x3 (ix3 0 r ⟨d, by omega⟩) = Q d * ((1 / 8 * κ2 : ℝ) : EReal))
    (hk : ∀ d : Fin 64, x4 (ix4 0 0 ⟨d, by omega⟩ s) = K d) (hk' : x4 (ix4 0 0 ⟨64, by omega⟩ s) = (1 : EReal))
    (hb : ∀ d : Fin 64, x6 (ix3 0 0 ⟨64 + d, by omega⟩) = if (d : ℕ) = 0 then (β : EReal) * (κ2 : EReal) else 0) :
    ∑ k : Fin 128, headQ x3 x6 0 (ix3 0 r k) * x4 (ix4 0 0 k s)
      = ((∑ d, Q d * K d) * ((1 / 8 : ℝ) : EReal) + (β : EReal)) * (κ2 : EReal) :=
  score_low Q K β (fun k => headQ x3 x6 0 (ix3 0 r k)) (fun k => x4 (ix4 0 0 k s))
    (fun d => (headQ_low x3 x6 r ⟨d, by omega⟩).trans ((if_pos d.isLt).trans (hq d))) hk
    (fun d => (headQ_low x3 x6 r ⟨64 + d, by omega⟩).trans ((if_neg (by simp)).trans (hb d))) hk'

theorem sum_high (x3 : Vec Ideal S1x512x128 .bf16) (x4 : Vec Ideal S1x2x128x8192 .bf16) (x6 : Vec Ideal S1x2x128 .f32) (r : Fin 512) (s : Fin 8192)
    (Q K : Fin 64 → EReal) (β : ℝ)
    (hq : ∀ d : Fin 64, x3 (ix3 0 r ⟨64 + d, by omega⟩) = Q d * ((1 / 8 * κ2 : ℝ) : EReal))
    (hk : ∀ d : Fin 64, x4 (ix4 0 1 ⟨64 + d, by omega⟩ s) = K d) (hk' : x4 (ix4 0 1 ⟨0, by omega⟩ s) = (1 : EReal))
    (hb : ∀ d : Fin 64, x6 (ix3 0 1 ⟨d, by omega⟩) = if (d : ℕ) = 0 then (β : EReal) * (κ2 : EReal) else 0) :
    ∑ k : Fin 128, headQ x3 x6 1 (ix3 0 r k) * x4 (ix4 0 1 k s)
      = ((∑ d, Q d * K d) * ((1 / 8 : ℝ) : EReal) + (β : EReal)) * (κ2 : EReal) :=
  score_high Q K β (fun k => headQ x3 x6 1 (ix3 0 r k)) (fun k => x4 (ix4 0 1 k s))
    (fun d => (headQ_high x3 x6 r ⟨64 + d, by omega⟩).trans ((if_pos (by simp)).trans (hq d))) hk
    (fun d => (headQ_high x3 x6 r ⟨d, by omega⟩).trans ((if_neg (by simp)).trans (hb d))) hk'

variable (m : (ℓ : Loc nD τ sig) → Buf (Elt Ideal) ℓ) (ρ : Dev nD → PrngReg) (c : Dev nD) (t : Fin cfg0.N)

/-- The row of the array a query row of the tile is. -/
def row (r : Fin 512) : Fin 8192 := ⟨512 * (gq t).val + r, by omega⟩
/-- The lane of the array a lane of the block is. -/
def col (l : Fin 128) : Fin 512 := ⟨128 * (gp t).val + l, by omega⟩
/-- The two heads of the pair. -/
def hd (e : Fin 2) : Fin 8 := ⟨(gp t).val * 2 + e, by omega⟩

theorem q_at (r : Fin 512) (l : Fin 128) (e : Fin 2) (d : Fin 64) (hl : (l : ℕ) = 64 * e + d) :
    (iblk m c 0 t : Vec Ideal S1x512x128 .bf16) (ix3 0 r l)
      = argQ m c (ix3 (gb t) (row t r) (lane (hd t e) d)) * ((1 / 8 * κ2 : ℝ) : EReal) := by
  refine (blk_q m c t r l).trans ((host_q m c _ _ _).trans ?_)
  refine congrArg (fun i => argQ m c i * ((1 / 8 * κ2 : ℝ) : EReal)) (ix3_congr rfl rfl ?_)
  show 128 * (gp t).val + l.val = 64 * ((gp t).val * 2 + e.val) + d.val
  omega

theorem k_low (k : Fin 128) (d : Fin 64) (s : Fin 8192) (hk : (k : ℕ) = d) :
    (iblk m c 1 t : Vec Ideal S1x2x128x8192 .bf16) (ix4 0 0 k s) = argK m c (ix3 (gb t) s (lane (hd t 0) d)) := by
  refine (blk_k m c t 0 k s).trans ((host_k m c _ 0 k s).trans ?_)
  rw [if_pos (by decide), if_pos (by omega)]
  refine congrArg (argK m c) (ix3_congr ?_ rfl ?_)
  · show (4 * (gb t).val + (gp t).val) / 4 = (gb t).val; omega
  · show (4 * (gb t).val + (gp t).val) % 4 * 128 + k.val = 64 * ((gp t).val * 2 + 0) + d.val; omega

theorem k_low' (s : Fin 8192) : (iblk m c 1 t : Vec Ideal S1x2x128x8192 .bf16) (ix4 0 0 ⟨64, by omega⟩ s) = (1 : EReal) := by
  refine (blk_k m c t 0 _ s).trans ((host_k m c _ 0 _ s).trans ?_)
  rw [if_pos (by decide), if_neg (by decide), if_pos (by decide)]

theorem k_high (k : Fin 128) (d : Fin 64) (s : Fin 8192) (hk : (k : ℕ) = 64 + d) :
    (iblk m c 1 t : Vec Ideal S1x2x128x8192 .bf16) (ix4 0 1 k s) = argK m c (ix3 (gb t) s (lane (hd t 1) d)) := by
  refine (blk_k m c t 1 k s).trans ((host_k m c _ 1 k s).trans ?_)
  rw [if_neg (by decide), dif_neg (by omega)]
  refine congrArg (argK m c) (ix3_congr ?_ rfl ?_)
  · show (4 * (gb t).val + (gp t).val) / 4 = (gb t).val; omega
  · show (4 * (gb t).val + (gp t).val) % 4 * 128 + 64 + (k.val - 64) = 64 * ((gp t).val * 2 + 1) + d.val; omega

theorem k_high' (s : Fin 8192) : (iblk m c 1 t : Vec Ideal S1x2x128x8192 .bf16) (ix4 0 1 ⟨0, by omega⟩ s) = (1 : EReal) := by
  refine (blk_k m c t 1 _ s).trans ((host_k m c _ 1 _ s).trans ?_)
  rw [if_neg (by decide), dif_pos (by decide), if_pos (by decide)]

theorem b_low (β : ℝ) (hβ : argB m c (ix1 (hd t 0)) = (β : EReal)) (d : Fin 64) :
    (iblk m c 3 t : Vec Ideal S1x2x128 .f32) (ix3 0 0 ⟨64 + d, by omega⟩) = (if (d : ℕ) = 0 then (β : EReal) * (κ2 : EReal) else 0 : EReal) := by
  refine (blk_b m c t 0 _).trans ((host_b m c (gp t) 0 _ β hβ).trans ?_)
  rw [if_pos (by decide)]
  by_cases h : (d : ℕ) = 0
  · rw [if_pos h, if_pos (by show 64 + d.val = 64; omega)]
  · rw [if_neg h, if_neg (by show ¬ 64 + d.val = 64; omega)]

theorem b_high (β : ℝ) (hβ : argB m c (ix1 (hd t 1)) = (β : EReal)) (d : Fin 64) :
    (iblk m c 3 t : Vec Ideal S1x2x128 .f32) (ix3 0 1 ⟨d, by omega⟩) = (if (d : ℕ) = 0 then (β : EReal) * (κ2 : EReal) else 0 : EReal) := by
  refine (blk_b m c t 1 _).trans ((host_b m c (gp t) 1 _ β hβ).trans ?_)
  rw [if_neg (by decide)]

theorem spec_score (e : Fin 2) (r : Fin 512) (s : ℕ) (hs : s < 8192) (β : ℝ) (hβ : argB m c (ix1 (hd t e)) = (β : EReal)) :
    Cert.StickBreaking.score (argQ m c) (argK m c) (argB m c) (gb t) (hd t e) (row t r) s
      = (∑ d : Fin 64, argQ m c (ix3 (gb t) (row t r) (lane (hd t e) d)) * argK m c (ix3 (gb t) ⟨s, hs⟩ (lane (hd t e) d))) * ((1 / 8 : ℝ) : EReal) + (β : EReal) := by
  unfold Cert.StickBreaking.score
  rw [dif_pos hs, hβ]

theorem sum_eq (e : Fin 2) (r : Fin 512) (s : ℕ) (hs : s < 8192) (β : ℝ) (hβ : argB m c (ix1 (hd t e)) = (β : EReal)) :
    ∑ k : Fin 128, headQ (iblk m c 0 t) (iblk m c 3 t) e (ix3 0 r k) * (iblk m c 1 t : Vec Ideal S1x2x128x8192 .bf16) (ix4 0 e k ⟨s, hs⟩)
      = Cert.StickBreaking.score (argQ m c) (argK m c) (argB m c) (gb t) (hd t e) (row t r) s * (κ2 : EReal) := by
  rw [spec_score m c t e r s hs β hβ]
  match e, hβ with
  | 0, hβ =>
    exact sum_low (iblk m c 0 t) (iblk m c 1 t) (iblk m c 3 t) r ⟨s, hs⟩ _ _ β (fun d => q_at m c t r _ 0 d (by show d.val = 64 * 0 + d.val; omega))
      (fun d => k_low m c t _ d _ rfl) (k_low' m c t _) (b_low m c t β hβ)
  | 1, hβ =>
    exact sum_high (iblk m c 0 t) (iblk m c 1 t) (iblk m c 3 t) r ⟨s, hs⟩ _ _ β (fun d => q_at m c t r _ 1 d (by show 64 + d.val = 64 * 1 + d.val; omega))
      (fun d => k_high m c t _ d _ rfl) (k_high' m c t _) (b_high m c t β hβ)

/-! ## The stored block -/

theorem v_at (s : ℕ) (hs : s < 8192) (l : Fin 128) :
    (iblk m c 2 t : Vec Ideal S1x8192x128 .bf16) (ix3 0 ⟨s, hs⟩ l) = column (argV m c) (gb t) (col t l) s := by
  refine (blk_v m c t ⟨s, hs⟩ l).trans ((host_v m c _ _ _).trans ?_)
  unfold column
  rw [dif_pos hs]
  rfl

theorem u_at (a b : Fin 256) : (iblk m c 4 t : Vec Ideal S256x256 .bf16) (ix2 a b) = (if (b : ℕ) ≤ a then 1 else 0 : EReal) :=
  (blk_u m c t a b).trans (host_u m c a b)

variable (hfin : ∀ h : Fin 8, ∃ β : ℝ, argB m c (ix1 h) = (β : EReal))
include hfin

theorem head_apply (e : Fin 2) (r : Fin 512) (l : Fin 128) :
    accFin (grid0.coords t) (iblk m c 2 t) (iblk m c 4 t)
        (coreAt (grid0.coords t) (iblk m c 1 t) (iblk m c 2 t) (iblk m c 4 t) (qRows (iblk m c 0 t) (iblk m c 3 t))
          (coreStart (grid0.coords t) (iblk m c 0 t) (iblk m c 1 t) (iblk m c 3 t) (iblk m c 4 t)) (k0_t1_loop (grid0.coords t)).trips) e (ix3 0 r l)
      = ∑ s ∈ Finset.range 8192, column (argV m c) (gb t) (col t l) s
          * weight (Cert.StickBreaking.score (argQ m c) (argK m c) (argB m c) (gb t) (hd t e) (row t r)) (row t r) 8192 s := by
  obtain ⟨β, hβ⟩ := hfin (hd t e)
  have hlt := (gq t).isLt
  refine (accFin_apply (Cert.StickBreaking.score (argQ m c) (argK m c) (argB m c) (gb t) (hd t e) (row t r)) (column (argV m c) (gb t) (col t l))
    (row t r) (2 * (gq t).val + 2) e r l (grid0.coords t) (iblk m c 0 t) (iblk m c 1 t) (iblk m c 2 t) (iblk m c 3 t) (iblk m c 4 t)
    (u_at m c t) rfl rfl (fun s hs => sum_eq m c t e r s hs β hβ) (fun s hs => v_at m c t s hs l)).trans ?_
  exact accum_eq _ _ _ _ _ (by show 512 * (gq t).val + r.val ≤ _; omega) (by omega)

theorem out_apply (r : Fin 512) (l : Fin 128) :
    outAt m c t (ix3 0 r l) = attn (argQ m c) (argK m c) (argV m c) (argB m c) (gb t) (row t r) (col t l) := by
  unfold outAt outVal outOf
  refine (pay2_apply _ _ r l).trans ?_
  unfold attn
  by_cases h : (l : ℕ) < 64
  · have hh : headOf (col t l) = hd t 0 := Fin.ext (by show (128 * (gp t).val + l.val) / 64 = (gp t).val * 2 + 0; omega)
    rw [if_pos h, hh]
    exact head_apply m c t hfin 0 r l
  · have hh : headOf (col t l) = hd t 1 := Fin.ext (by show (128 * (gp t).val + l.val) / 64 = (gp t).val * 2 + 1; omega)
    rw [if_neg h, hh]
    exact head_apply m c t hfin 1 r l

omit hfin

/-- What the call leaves: attention of the arguments. -/
def val : Vec Ideal S2x8192x512 .bf16 := fun i => attn (argQ m c) (argK m c) (argV m c) (argB m c) (i 0) (i 1) (i 2)

include hfin

theorem out_eq (y : S1x512x128.Idx) : outAt m c t y = val m c ((win0_5.blk t).view.emb y) := by
  have hy : y = ix3 (0 : Fin 1) (y 1) (y 2) := by
    funext a
    match a with
    | 0 => exact Subsingleton.elim (α := Fin 1) _ _
    | 1 => rfl
    | 2 => rfl
  have hb : gb t = (win0_5.blk t).view.emb y 0 := Fin.ext (by
    refine Eq.trans ?_ (Pipeline.Window.rect_emb_val win0_5 t y 0).symm
    rw [index_5]
    have : (y 0).val < 1 := (y 0).isLt
    show (gb t).val = (gb t).val * 1 + (y 0).val; omega)
  have hr : row t (y 1) = (win0_5.blk t).view.emb y 1 := Fin.ext (by
    refine Eq.trans ?_ (Pipeline.Window.rect_emb_val win0_5 t y 1).symm
    rw [index_5]
    show 512 * (gq t).val + (y 1).val = (gq t).val * 512 + (y 1).val; omega)
  have hl : col t (y 2) = (win0_5.blk t).view.emb y 2 := Fin.ext (by
    refine Eq.trans ?_ (Pipeline.Window.rect_emb_val win0_5 t y 2).symm
    rw [index_5]
    show 128 * (gp t).val + (y 2).val = (gp t).val * 128 + (y 2).val; omega)
  refine (congrArg (outAt m c t) hy).trans ((out_apply m c t hfin (y 1) (y 2)).trans ?_)
  rw [hb, hr, hl]
  rfl

theorem final_o : (dats m 0 c).arrAt 5 cfg0.N = val m c := by
  refine (dats m 0 c).arrAt_eq_of_covers 5 (val m c) (by decide +kernel) fun t _ y => ?_
  blk_simp
  rw [after0_5]
  exact out_eq m c t hfin y

omit hfin

/-- The launch leaves attention of the arguments, and the arguments. -/
theorem run_value (hall : ∀ c : Dev nD, ∀ h : Fin 8, ∃ β : ℝ, argB m c (ix1 h) = (β : EReal)) :
    θ_run defs (onTc (τ := τ) (main (F := Ideal))) ⟨m, fun _ => 0, ρ⟩ fun r => ∀ c : Dev nD,
      r.2.mem ((c.tc : Thread nD τ).loc main_v60) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h.2 c, h.1 c⟩)
    (θ_run_and (unchanged m ρ) (Q₂ := fun r => ∀ c : Dev nD, r.2.mem ((c.tc : Thread nD τ).loc main_v60) = val m c)
      ((θ_run defs _ _).mono (fun _ h c => ((h c).1 5).trans (final_o m c (hall c))) (run_main m ρ)))

end Cert.KernelIdeal.Sb
end
-- ==== Proof.Ref.lean ====
module

public import proofs.«01_k».proof.Defs
public import proofs.«01_k».proof.Proof.Gen.ReferenceIdeal
public import Idealize.ShloMosaic.Lib.StableHlo.Run
public import Idealize.ShloMosaic.Lib.Quiescent

/-! The reference's run: its operations as one list, and what its result array ends holding. -/

@[expose] public section

noncomputable section

open Idealize.ShloMosaic Idealize.ShloMosaic.TcCoe Idealize.SL.Sem

namespace Cert.ReferenceIdeal.Value

open Cert.ReferenceIdeal Cert.ReferenceIdeal.Gen Idealize.ShloMosaic.StableHlo

variable {F : FTy → Type} [FloatOps F]

abbrev ops : List (HloOp τ sig (Elt F)) := [
  StableHlo.nullary main_v0 (iotaInDim S8192 32 0),
  StableHlo.reshape main_arg0 main_v1 (rfl : (.f32 : EltTy) = .f32) shapeCasts_S2x8192x512_S2x8192x8x64,
  StableHlo.reshape main_arg1 main_v2 (rfl : (.f32 : EltTy) = .f32) shapeCasts_S2x8192x512_S2x8192x8x64,
  StableHlo.reshape main_arg2 main_v3 (rfl : (.f32 : EltTy) = .f32) shapeCasts_S2x8192x512_S2x8192x8x64,
  StableHlo.binary main_v1 main_v2 main_v4 ((fun l r => Host.dotGeneral dot_S2x8192x8x64_S2x8192x8x64_S2x8x8192x8192_3_3_1_1_02_02 none l r) : (⟨S2x8192x8x64, .f32⟩ : BufTy).Contents (Elt F) → (⟨S2x8192x8x64, .f32⟩ : BufTy).Contents (Elt F) → (⟨S2x8x8192x8192, .f32⟩ : BufTy).Contents (Elt F)),
  StableHlo.nullary main_cst (constant S_ .f32 0x3E000000#32),
  StableHlo.unary main_cst main_v5 (broadcastInDim S2x8x8192x8192 ![] bcast_S_S2x8x8192x8192 : (⟨S_, .f32⟩ : BufTy).Contents (Elt F) → (⟨S2x8x8192x8192, .f32⟩ : BufTy).Contents (Elt F)),
  StableHlo.binary main_v4 main_v5 main_v6 (mulf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_arg3 main_v7 (broadcastInDim S1x8x1x1 ![1] bcast_S8_S1x8x1x1_1 : (⟨S8, .f32⟩ : BufTy).Contents (Elt F) → (⟨S1x8x1x1, .f32⟩ : BufTy).Contents (Elt F)),
  StableHlo.unary main_v7 main_v8 (broadcastInDim S2x8x8192x8192 ![0, 1, 2, 3] bcast_S1x8x1x1_S2x8x8192x8192_0_1_2_3 : (⟨S1x8x1x1, .f32⟩ : BufTy).Contents (Elt F) → (⟨S2x8x8192x8192, .f32⟩ : BufTy).Contents (Elt F)),
  StableHlo.binary main_v6 main_v8 main_v9 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_v0 main_v10 (broadcastInDim S1x8192 ![1] bcast_S8192_S1x8192_1 : (⟨S8192, .i32⟩ : BufTy).Contents (Elt F) → (⟨S1x8192, .i32⟩ : BufTy).Contents (Elt F)),
  StableHlo.unary main_v0 main_v11 (broadcastInDim S8192x1 ![0] bcast_S8192_S8192x1_0 : (⟨S8192, .i32⟩ : BufTy).Contents (Elt F) → (⟨S8192x1, .i32⟩ : BufTy).Contents (Elt F)),
  StableHlo.unary main_v10 main_v12 (broadcastInDim S8192x8192 ![0, 1] bcast_S1x8192_S8192x8192_0_1 : (⟨S1x8192, .i32⟩ : BufTy).Contents (Elt F) → (⟨S8192x8192, .i32⟩ : BufTy).Contents (Elt F)),
  StableHlo.unary main_v11 main_v13 (broadcastInDim S8192x8192 ![0, 1] bcast_S8192x1_S8192x8192_0_1 : (⟨S8192x1, .i32⟩ : BufTy).Contents (Elt F) → (⟨S8192x8192, .i32⟩ : BufTy).Contents (Elt F)),
  StableHlo.binary main_v12 main_v13 main_v14 (cmpi .slt : (⟨S8192x8192, .i32⟩ : BufTy).Contents (Elt F) → (⟨S8192x8192, .i32⟩ : BufTy).Contents (Elt F) → (⟨S8192x8192, .i1⟩ : BufTy).Contents (Elt F)),
  StableHlo.unary main_v9 main_v15 (Host.negf : (⟨S2x8x8192x8192, .f32⟩ : BufTy).Contents (Elt F) → (⟨S2x8x8192x8192, .f32⟩ : BufTy).Contents (Elt F)),
  StableHlo.unary main_v15 main_call0_v0 (Host.negf : (⟨S2x8x8192x8192, .f32⟩ : BufTy).Contents (Elt F) → (⟨S2x8x8192x8192, .f32⟩ : BufTy).Contents (Elt F)),
  StableHlo.nullary main_call0_call0_cst ((constant S_ .f32 0x00000000#32) : (⟨S_, .f32⟩ : BufTy).Contents (Elt F)),
  StableHlo.unary main_call0_call0_cst main_call0_call0_v0 ((broadcastInDim S2x8x8192x8192 ![] bcast_S_S2x8x8192x8192) : (⟨S_, .f32⟩ : BufTy).Contents (Elt F) → (⟨S2x8x8192x8192, .f32⟩ : BufTy).Contents (Elt F)),
  StableHlo.binary main_call0_v0 main_call0_call0_v0 main_call0_call0_v1 (maximumf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call0_call0_cst main_call0_call0_v2 ((broadcastInDim S2x8x8192x8192 ![] bcast_S_S2x8x8192x8192) : (⟨S_, .f32⟩ : BufTy).Contents (Elt F) → (⟨S2x8x8192x8192, .f32⟩ : BufTy).Contents (Elt F)),
  StableHlo.binary main_call0_v0 main_call0_call0_v2 main_call0_call0_v3 (subf : (⟨S2x8x8192x8192, .f32⟩ : BufTy).Contents (Elt F) → (⟨S2x8x8192x8192, .f32⟩ : BufTy).Contents (Elt F) → (⟨S2x8x8192x8192, .f32⟩ : BufTy).Contents (Elt F)),
  StableHlo.binary main_call0_call0_v3 main_call0_call0_v3 main_call0_call0_v4 ((cmpf .une) : (⟨S2x8x8192x8192, .f32⟩ : BufTy).Contents (Elt F) → (⟨S2x8x8192x8192, .f32⟩ : BufTy).Contents (Elt F) → (⟨S2x8x8192x8192, .i1⟩ : BufTy).Contents (Elt F)),
  StableHlo.unary main_call0_call0_cst main_call0_call0_v5 ((broadcastInDim S2x8x8192x8192 ![] bcast_S_S2x8x8192x8192) : (⟨S_, .f32⟩ : BufTy).Contents (Elt F) → (⟨S2x8x8192x8192, .f32⟩ : BufTy).Contents (Elt F)),
  StableHlo.binary main_call0_v0 main_call0_call0_v5 main_call0_call0_v6 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call0_call0_v3 main_call0_call0_v7 (Host.absf : (⟨S2x8x8192x8192, .f32⟩ : BufTy).Contents (Elt F) → (⟨S2x8x8192x8192, .f32⟩ : BufTy).Contents (Elt F)),
  StableHlo.unary main_call0_call0_v7 main_call0_call0_v8 (Host.negf : (⟨S2x8x8192x8192, .f32⟩ : BufTy).Contents (Elt F) → (⟨S2x8x8192x8192, .f32⟩ : BufTy).Contents (Elt F)),
  StableHlo.unary main_call0_call0_v8 main_call0_call0_v9 (Host.exp : (⟨S2x8x8192x8192, .f32⟩ : BufTy).Contents (Elt F) → (⟨S2x8x8192x8192, .f32⟩ : BufTy).Contents (Elt F)),
  StableHlo.unary main_call0_call0_v9 main_call0_call0_v10 (Host.log1p : (⟨S2x8x8192x8192, .f32⟩ : BufTy).Contents (Elt F) → (⟨S2x8x8192x8192, .f32⟩ : BufTy).Contents (Elt F)),
  StableHlo.binary main_call0_call0_v1 main_call0_call0_v10 main_call0_call0_v11 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.ternary main_call0_call0_v4 main_call0_call0_v6 main_call0_call0_v11 main_call0_v1 (select : (⟨S2x8x8192x8192, .i1⟩ : BufTy).Contents (Elt F) → (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call0_v1 main_v16 (Host.negf : (⟨S2x8x8192x8192, .f32⟩ : BufTy).Contents (Elt F) → (⟨S2x8x8192x8192, .f32⟩ : BufTy).Contents (Elt F)),
  StableHlo.nullary main_cst_0 (constant S_ .f32 0x00000000#32),
  StableHlo.unary main_cst_0 main_call1_v0 (id : (⟨S_, .f32⟩ : BufTy).Contents (Elt F) → (⟨S_, .f32⟩ : BufTy).Contents (Elt F)),
  StableHlo.unary main_v14 main_call1_v1 ((broadcastInDim S2x8x8192x8192 ![2, 3] bcast_S8192x8192_S2x8x8192x8192_2_3) : (⟨S8192x8192, .i1⟩ : BufTy).Contents (Elt F) → (⟨S2x8x8192x8192, .i1⟩ : BufTy).Contents (Elt F)),
  StableHlo.unary main_call1_v0 main_call1_v2 ((broadcastInDim S2x8x8192x8192 ![] bcast_S_S2x8x8192x8192) : (⟨S_, .f32⟩ : BufTy).Contents (Elt F) → (⟨S2x8x8192x8192, .f32⟩ : BufTy).Contents (Elt F)),
  StableHlo.ternary main_call1_v1 main_v16 main_call1_v2 main_v17 (select : (⟨S2x8x8192x8192, .i1⟩ : BufTy).Contents (Elt F) → (⟨S2x8x8192x8192, .f32⟩ : BufTy).Contents (Elt F) → (⟨S2x8x8192x8192, .f32⟩ : BufTy).Contents (Elt F) → (⟨S2x8x8192x8192, .f32⟩ : BufTy).Contents (Elt F)),
  StableHlo.nullary main_call2_cst ((constant S_ .f32 0x00000000#32) : (⟨S_, .f32⟩ : BufTy).Contents (Elt F)),
  StableHlo.unary main_call2_cst main_call2_v0 ((broadcastInDim S_ ![] bcast_S_S_) : (⟨S_, .f32⟩ : BufTy).Contents (Elt F) → (⟨S_, .f32⟩ : BufTy).Contents (Elt F)),
  StableHlo.binary main_v17 main_call2_v0 main_v18 ((fun x v => Host.reduceWindowAdd ![1, 1, 1, 8192] ![1, 1, 1, 1] ![0, 0, 0, 0] ![0, 0, 0, 8191] x v reduceWindows_S2x8x8192x8192_S2x8x8192x8192_w1s1p0_0_w1s1p0_0_w1s1p0_0_w8192s1p0_8191 h_S_) : (⟨S2x8x8192x8192, .f32⟩ : BufTy).Contents (Elt F) → (⟨S_, .f32⟩ : BufTy).Contents (Elt F) → (⟨S2x8x8192x8192, .f32⟩ : BufTy).Contents (Elt F)),
  StableHlo.binary main_v18 main_v17 main_v19 (subf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_v9 main_call3_v0 (Host.negf : (⟨S2x8x8192x8192, .f32⟩ : BufTy).Contents (Elt F) → (⟨S2x8x8192x8192, .f32⟩ : BufTy).Contents (Elt F)),
  StableHlo.nullary main_call3_call0_cst ((constant S_ .f32 0x00000000#32) : (⟨S_, .f32⟩ : BufTy).Contents (Elt F)),
  StableHlo.unary main_call3_call0_cst main_call3_call0_v0 ((broadcastInDim S2x8x8192x8192 ![] bcast_S_S2x8x8192x8192) : (⟨S_, .f32⟩ : BufTy).Contents (Elt F) → (⟨S2x8x8192x8192, .f32⟩ : BufTy).Contents (Elt F)),
  StableHlo.binary main_call3_v0 main_call3_call0_v0 main_call3_call0_v1 (maximumf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call3_call0_cst main_call3_call0_v2 ((broadcastInDim S2x8x8192x8192 ![] bcast_S_S2x8x8192x8192) : (⟨S_, .f32⟩ : BufTy).Contents (Elt F) → (⟨S2x8x8192x8192, .f32⟩ : BufTy).Contents (Elt F)),
  StableHlo.binary main_call3_v0 main_call3_call0_v2 main_call3_call0_v3 (subf : (⟨S2x8x8192x8192, .f32⟩ : BufTy).Contents (Elt F) → (⟨S2x8x8192x8192, .f32⟩ : BufTy).Contents (Elt F) → (⟨S2x8x8192x8192, .f32⟩ : BufTy).Contents (Elt F)),
  StableHlo.binary main_call3_call0_v3 main_call3_call0_v3 main_call3_call0_v4 ((cmpf .une) : (⟨S2x8x8192x8192, .f32⟩ : BufTy).Contents (Elt F) → (⟨S2x8x8192x8192, .f32⟩ : BufTy).Contents (Elt F) → (⟨S2x8x8192x8192, .i1⟩ : BufTy).Contents (Elt F)),
  StableHlo.unary main_call3_call0_cst main_call3_call0_v5 ((broadcastInDim S2x8x8192x8192 ![] bcast_S_S2x8x8192x8192) : (⟨S_, .f32⟩ : BufTy).Contents (Elt F) → (⟨S2x8x8192x8192, .f32⟩ : BufTy).Contents (Elt F)),
  StableHlo.binary main_call3_v0 main_call3_call0_v5 main_call3_call0_v6 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call3_call0_v3 main_call3_call0_v7 (Host.absf : (⟨S2x8x8192x8192, .f32⟩ : BufTy).Contents (Elt F) → (⟨S2x8x8192x8192, .f32⟩ : BufTy).Contents (Elt F)),
  StableHlo.unary main_call3_call0_v7 main_call3_call0_v8 (Host.negf : (⟨S2x8x8192x8192, .f32⟩ : BufTy).Contents (Elt F) → (⟨S2x8x8192x8192, .f32⟩ : BufTy).Contents (Elt F)),
  StableHlo.unary main_call3_call0_v8 main_call3_call0_v9 (Host.exp : (⟨S2x8x8192x8192, .f32⟩ : BufTy).Contents (Elt F) → (⟨S2x8x8192x8192, .f32⟩ : BufTy).Contents (Elt F)),
  StableHlo.unary main_call3_call0_v9 main_call3_call0_v10 (Host.log1p : (⟨S2x8x8192x8192, .f32⟩ : BufTy).Contents (Elt F) → (⟨S2x8x8192x8192, .f32⟩ : BufTy).Contents (Elt F)),
  StableHlo.binary main_call3_call0_v1 main_call3_call0_v10 main_call3_call0_v11 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.ternary main_call3_call0_v4 main_call3_call0_v6 main_call3_call0_v11 main_call3_v1 (select : (⟨S2x8x8192x8192, .i1⟩ : BufTy).Contents (Elt F) → (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_call3_v1 main_v20 (Host.negf : (⟨S2x8x8192x8192, .f32⟩ : BufTy).Contents (Elt F) → (⟨S2x8x8192x8192, .f32⟩ : BufTy).Contents (Elt F)),
  StableHlo.binary main_v20 main_v19 main_v21 (addf : (⟨S2x8x8192x8192, .f32⟩ : BufTy).Contents (Elt F) → (⟨S2x8x8192x8192, .f32⟩ : BufTy).Contents (Elt F) → (⟨S2x8x8192x8192, .f32⟩ : BufTy).Contents (Elt F)),
  StableHlo.unary main_v21 main_v22 (Host.exp : (⟨S2x8x8192x8192, .f32⟩ : BufTy).Contents (Elt F) → (⟨S2x8x8192x8192, .f32⟩ : BufTy).Contents (Elt F)),
  StableHlo.nullary main_cst_1 (constant S_ .f32 0x00000000#32),
  StableHlo.unary main_cst_1 main_call4_v0 (id : (⟨S_, .f32⟩ : BufTy).Contents (Elt F) → (⟨S_, .f32⟩ : BufTy).Contents (Elt F)),
  StableHlo.unary main_v14 main_call4_v1 ((broadcastInDim S2x8x8192x8192 ![2, 3] bcast_S8192x8192_S2x8x8192x8192_2_3) : (⟨S8192x8192, .i1⟩ : BufTy).Contents (Elt F) → (⟨S2x8x8192x8192, .i1⟩ : BufTy).Contents (Elt F)),
  StableHlo.unary main_call4_v0 main_call4_v2 ((broadcastInDim S2x8x8192x8192 ![] bcast_S_S2x8x8192x8192) : (⟨S_, .f32⟩ : BufTy).Contents (Elt F) → (⟨S2x8x8192x8192, .f32⟩ : BufTy).Contents (Elt F)),
  StableHlo.ternary main_call4_v1 main_v22 main_call4_v2 main_v23 (select : (⟨S2x8x8192x8192, .i1⟩ : BufTy).Contents (Elt F) → (⟨S2x8x8192x8192, .f32⟩ : BufTy).Contents (Elt F) → (⟨S2x8x8192x8192, .f32⟩ : BufTy).Contents (Elt F) → (⟨S2x8x8192x8192, .f32⟩ : BufTy).Contents (Elt F)),
  StableHlo.binary main_v3 main_v23 main_v24 ((fun l r => Host.dotGeneral dot_S2x8192x8x64_S2x8x8192x8192_S2x8x64x8192_1_3_3_2_02_01 none l r) : (⟨S2x8192x8x64, .f32⟩ : BufTy).Contents (Elt F) → (⟨S2x8x8192x8192, .f32⟩ : BufTy).Contents (Elt F) → (⟨S2x8x64x8192, .f32⟩ : BufTy).Contents (Elt F)),
  StableHlo.unary main_v24 main_v25 ((transpose S2x8192x8x64 [0, 3, 1, 2] · transposes_S2x8x64x8192_S2x8192x8x64_0_3_1_2) : (⟨S2x8x64x8192, .f32⟩ : BufTy).Contents (Elt F) → (⟨S2x8192x8x64, .f32⟩ : BufTy).Contents (Elt F)),
  StableHlo.reshape main_v25 main_v26 (rfl : (.f32 : EltTy) = .f32) shapeCasts_S2x8192x8x64_S2x8192x512,
  StableHlo.unary main_v26 main_v27 ((truncf .bf16 · bitsLt_bf16_f32) : (⟨S2x8192x512, .f32⟩ : BufTy).Contents (Elt F) → (⟨S2x8192x512, .bf16⟩ : BufTy).Contents (Elt F))]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by simp

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

theorem args_eq (m : (ℓ : Loc nD τ sig) → Buf (Elt F) ℓ) (d : Dev nD) :
    after ops (launchContents m d) (Proc.devRef .tc main_arg0) = m ((d.tc : Thread nD τ).loc main_arg0)
    ∧ after ops (launchContents m d) (Proc.devRef .tc main_arg1) = m ((d.tc : Thread nD τ).loc main_arg1)
    ∧ after ops (launchContents m d) (Proc.devRef .tc main_arg2) = m ((d.tc : Thread nD τ).loc main_arg2)
    ∧ after ops (launchContents m d) (Proc.devRef .tc main_arg3) = m ((d.tc : Thread nD τ).loc main_arg3) := by
  refine ⟨?_, ?_, ?_, ?_⟩ <;> (after_results <;> rfl)

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => by
      obtain ⟨h0, h1, h2, h3⟩ := args_eq m c
      exact ⟨(h c _).trans h0, (h c _).trans h1, (h c _).trans h2, (h c _).trans h3⟩,
      Idealize.ShloMosaic.sem_eq_zero_of_no_sems (by decide) r.2⟩) (run m ρ)

end Cert.ReferenceIdeal.Value
-- ==== Proof.Window.lean ====
module

public import Idealize.ShloMosaic.Lib.Pointwise

/-! Sums to the end of a row, as the host writes them: a window as wide as the row. -/

@[expose] public section

noncomputable section

namespace Cert.StickBreaking

open Idealize.ShloMosaic

abbrev Grid (A B C n : ℕ) : Shape := ⟨4, ![A, B, C, n]⟩
abbrev Strip (n : ℕ) : Shape := ⟨4, ![1, 1, 1, n]⟩

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

theorem strip_bijective (n : ℕ) : Function.Bijective (fun k : Fin n => (ix4 0 0 0 k : (Strip n).Idx)) := by
  constructor
  · intro a b h
    exact congrFun h 3
  · intro i
    refine ⟨i 3, ?_⟩
    funext a
    match a with
    | 0 => exact (Fin.fin_one_eq_zero (i 0)).symm
    | 1 => exact (Fin.fin_one_eq_zero (i 1)).symm
    | 2 => exact (Fin.fin_one_eq_zero (i 2)).symm
    | 3 => rfl

/-- The sum from a column to the end of its row; what falls past the end counts as the initial value. -/
theorem window_sum {A B C n : ℕ} {u : Shape} (hi : Fin 4 → ℕ) (x : Vec Ideal (Grid A B C n) .f32) (v : Vec Ideal u .f32)
    (h : (Grid A B C n).ReduceWindows ![1, 1, 1, n] ![1, 1, 1, 1] ![0, 0, 0, 0] hi (Grid A B C n)) (hu : 0 < u.numel)
    (b : Fin A) (e : Fin B) (s : Fin C) (c : Fin n) :
    Host.reduceWindowAdd (F := Ideal) (φ := .f32) (s := Grid A B C n) (t := Grid A B C n) ![1, 1, 1, n] ![1, 1, 1, 1] ![0, 0, 0, 0] hi x v h hu (ix4 b e s c)
      = ((v (Shape.Idx.first hu) : EReal) + ∑ k : Fin n, (if hk : (c : ℕ) + k < n then x (ix4 b e s ⟨(c : ℕ) + k, hk⟩) else v (Shape.Idx.first hu) : EReal)) := by
  have hb := strip_bijective n
  let v0 : EReal := v (Shape.Idx.first hu)
  let f : (Strip n).Idx → EReal := fun w =>
    if hin : ∀ a : Fin 4, (![0, 0, 0, 0] : Fin 4 → ℕ) a ≤ ((ix4 b e s c : (Grid A B C n).Idx) a).val * (![1, 1, 1, 1] : Fin 4 → ℕ) a + (w a).val
        ∧ ((ix4 b e s c : (Grid A B C n).Idx) a).val * (![1, 1, 1, 1] : Fin 4 → ℕ) a + (w a).val - (![0, 0, 0, 0] : Fin 4 → ℕ) a < (Grid A B C n).size a then
      x (fun a => ⟨((ix4 b e s c : (Grid A B C n).Idx) a).val * (![1, 1, 1, 1] : Fin 4 → ℕ) a + (w a).val - (![0, 0, 0, 0] : Fin 4 → ℕ) a, (hin a).2⟩) else v0
  have h1 : Host.reduceWindowAdd (F := Ideal) (φ := .f32) (s := Grid A B C n) (t := Grid A B C n) ![1, 1, 1, n] ![1, 1, 1, 1] ![0, 0, 0, 0] hi x v h hu (ix4 b e s c)
      = (List.finRange (Strip n).numel).foldl (fun r k => r + f ((Strip n).rowMajor.symm k)) v0 := by
    show Host.reduceWindow (· + ·) _ _ _ hi x _ h _ _ = _
    unfold Host.reduceWindow
    refine congrArg (fun g => List.foldl g v0 _) ?_
    funext r k
    refine congrArg (r + ·) ?_
    by_cases hp : ∀ a : Fin 4, (![0, 0, 0, 0] : Fin 4 → ℕ) a ≤ ((ix4 b e s c : (Grid A B C n).Idx) a).val * (![1, 1, 1, 1] : Fin 4 → ℕ) a + (((Strip n).rowMajor.symm k) a).val
        ∧ ((ix4 b e s c : (Grid A B C n).Idx) a).val * (![1, 1, 1, 1] : Fin 4 → ℕ) a + (((Strip n).rowMajor.symm k) a).val - (![0, 0, 0, 0] : Fin 4 → ℕ) a < (Grid A B C n).size a
    · refine (dif_pos hp).trans ?_
      show _ = dite _ _ _
      rw [dif_pos hp]
      rfl
    · refine (dif_neg hp).trans ?_
      show _ = dite _ _ _
      rw [dif_neg hp]
  rw [h1, foldl_add]
  refine congrArg (v0 + ·) ?_
  rw [← List.ofFn_eq_map, List.sum_ofFn, Equiv.sum_comp (Strip n).rowMajor.symm f, ← hb.sum_comp f]
  refine Finset.sum_congr rfl fun k _ => ?_
  show dite _ _ _ = _
  by_cases hk : (c : ℕ) + k < n
  · rw [dif_pos hk, dif_pos]
    · congr 1; funext a
      apply Fin.ext
      fin_cases a <;> simp [ix4]
    · intro a
      have hs := s.isLt; have he := e.isLt; have hb := b.isLt
      fin_cases a <;> simp [ix4, Grid] <;> omega
  · rw [dif_neg hk, dif_neg]
    intro hin
    have := (hin 3).2
    simp [ix4, Grid] at this
    omega

end Cert.StickBreaking

end
-- ==== Proof.RefValue.lean ====
module

public import proofs.«01_k».proof.Proof.Ref
public import proofs.«01_k».proof.Proof.Spec
public import proofs.«01_k».proof.Proof.Window

/-! What the reference computes, at an index. -/

@[expose] public section

set_option maxRecDepth 16384
set_option maxHeartbeats 1000000

noncomputable section

namespace Cert.ReferenceIdeal.Value

open Cert.ReferenceIdeal Cert.ReferenceIdeal.Gen
open Idealize.ShloMosaic Idealize.ShloMosaic.TcCoe
open Cert.StickBreaking

theorem suffix_apply (x : Vec Ideal S2x8x8192x8192 .f32) (v : Vec Ideal S_ .f32) (b : Fin 2) (e : Fin 8) (s c : Fin 8192) :
    Host.reduceWindowAdd (F := Ideal) (φ := .f32) (s := S2x8x8192x8192) (t := S2x8x8192x8192) ![1, 1, 1, 8192] ![1, 1, 1, 1] ![0, 0, 0, 0] ![0, 0, 0, 8191] x v
        reduceWindows_S2x8x8192x8192_S2x8x8192x8192_w1s1p0_0_w1s1p0_0_w1s1p0_0_w8192s1p0_8191 h_S_ (ix4 b e s c)
      = ((v (Shape.Idx.first h_S_) : EReal) + ∑ k : Fin 8192, (if hk : (c : ℕ) + k < 8192 then x (ix4 b e s ⟨(c : ℕ) + k, hk⟩) else v (Shape.Idx.first h_S_) : EReal)) :=
  window_sum _ _ _ _ _ _ _ _ _

abbrev argQ (σ : Valuation τ sig (Elt Ideal)) : Rows := σ (Proc.devRef .tc main_arg0)
abbrev argK (σ : Valuation τ sig (Elt Ideal)) : Rows := σ (Proc.devRef .tc main_arg1)
abbrev argV (σ : Valuation τ sig (Elt Ideal)) : Rows := σ (Proc.devRef .tc main_arg2)
abbrev argB (σ : Valuation τ sig (Elt Ideal)) : Heads := σ (Proc.devRef .tc main_arg3)

theorem score_apply (σ : Valuation τ sig (Elt Ideal)) (b : Fin 2) (s c : Fin 8192) (x : Fin 512)
    (h0 : ∀ d : Fin 64, (x : ℕ) / 64 * 64 + d < 512) (h1 : (x : ℕ) / 64 < 8) :
    (∑ d : Fin 64, argQ σ (ix3 b s ⟨(x : ℕ) / 64 * 64 + d, h0 d⟩) * argK σ (ix3 b c ⟨(x : ℕ) / 64 * 64 + d, h0 d⟩)) * Ideal.ofBits .f32 1040187392#32
        + argB σ (ix1 ⟨(x : ℕ) / 64, h1⟩)
      = score (argQ σ) (argK σ) (argB σ) b (headOf x) s c := by
  have hl : ∀ d : Fin 64, (⟨(x : ℕ) / 64 * 64 + d, h0 d⟩ : Fin 512) = lane (headOf x) d := fun d => Fin.ext (by
    show (x : ℕ) / 64 * 64 + d = 64 * ((x : ℕ) / 64) + d; omega)
  unfold score
  rw [dif_pos c.isLt, show (1040187392#32) = 0x3E000000#32 from rfl, bits_eighth]
  simp only [hl]
  rfl

theorem sf_apply (x : EReal) : max x 0 + Ideal.log1p (Ideal.exp (-(FloatOps.absf (F := Ideal) (φ := .f32) x : EReal))) = sf x := by
  unfold sf; rw [sub_zero]; rfl
theorem select_apply (a c : ℕ) (ha : a < 8192) (hc : c < 8192) (x y : EReal) :
    Scalar.select (IntOp.cmpi .slt (BitVec.ofNat 32 a) (BitVec.ofNat 32 c)) x y = if a < c then x else y :=
  select_slt (by omega) (by omega) x y
theorem zero_apply (i : S_.Idx) : (id (constant (F := Ideal) S_ .f32 0#32) i : EReal) = 0 := Ideal.ofBits_zero_f32

theorem attn_fin (q k v : Rows) (β : Heads) (b : Fin 2) (s : Fin 8192) (x : Fin 512) :
    attn q k v β b s x = ∑ c : Fin 8192, column v b x c * weight (score q k β b (headOf x) s) s 8192 c :=
  Finset.sum_range _

/-- A sum to the end of the row, by the distance or by the column. -/
theorem sum_to_end (c : Fin 8192) (f : ℕ → EReal) :
    ∑ k : Fin 8192, (if (c : ℕ) + k < 8192 then f (c + k) else 0) = ∑ s ∈ Finset.Ico (c : ℕ) 8192, f s := by
  have hc := c.isLt
  rw [Finset.sum_Ico_eq_sum_range, Fin.sum_univ_eq_sum_range (fun k => if (c : ℕ) + k < 8192 then f (c + k) else 0) 8192,
    ← Finset.sum_filter]
  refine Finset.sum_congr ?_ fun _ _ => rfl
  ext k
  rw [Finset.mem_filter, Finset.mem_range, Finset.mem_range]
  omega

theorem sum_cols (f g : Fin 8192 → EReal) (h : ∀ c, f c = g c) : ∑ c, f c = ∑ c, g c := Finset.sum_congr rfl fun c _ => h c

/-- A column's weight, from a row of scores. -/
theorem weight_apply (z : ℕ → EReal) (s c : Fin 8192) (o : EReal) (ho : o = 0) :
    Scalar.select (IntOp.cmpi .slt (BitVec.ofNat 32 (c : ℕ)) (BitVec.ofNat 32 (s : ℕ)))
        (Ideal.exp (-sf (-z c) +
          ((∑ k : Fin 8192, if _h : (c : ℕ) + k < 8192 then
              Scalar.select (IntOp.cmpi .slt (BitVec.ofNat 32 ((c : ℕ) + k)) (BitVec.ofNat 32 (s : ℕ))) (-sf (z (c + k))) o
            else 0) - Scalar.select (IntOp.cmpi .slt (BitVec.ofNat 32 (c : ℕ)) (BitVec.ofNat 32 (s : ℕ))) (-sf (z c)) o))) o
      = weight z s 8192 c := by
  have hlg : ∀ k : ℕ, k < 8192 → Scalar.select (IntOp.cmpi .slt (BitVec.ofNat 32 k) (BitVec.ofNat 32 (s : ℕ))) (-sf (z k)) o = lg z s k := fun k hk => by
    rw [select_apply k s hk s.isLt, ho]; rfl
  have hsum : (∑ k : Fin 8192, if _h : (c : ℕ) + k < 8192 then
      Scalar.select (IntOp.cmpi .slt (BitVec.ofNat 32 ((c : ℕ) + k)) (BitVec.ofNat 32 (s : ℕ))) (-sf (z (c + k))) o else 0)
      = ∑ k ∈ Finset.Ico (c : ℕ) 8192, lg z s k := by
    rw [← sum_to_end]
    refine sum_cols _ _ fun k => ?_
    by_cases hk : (c : ℕ) + k < 8192
    · rw [dif_pos hk, if_pos hk]; exact hlg _ hk
    · rw [dif_neg hk, if_neg hk]
  rw [hsum, hlg c c.isLt, select_apply c s c.isLt s.isLt, ho]
  rfl

theorem term_apply (A C : EReal) (h : A = C) (z : ℕ → EReal) (s c : Fin 8192) (o : EReal) (ho : o = 0) :
    A * Scalar.select (IntOp.cmpi .slt (BitVec.ofNat 32 (c : ℕ)) (BitVec.ofNat 32 (s : ℕ)))
        (Ideal.exp (-sf (-z c) +
          ((∑ k : Fin 8192, if _h : (c : ℕ) + k < 8192 then
              Scalar.select (IntOp.cmpi .slt (BitVec.ofNat 32 ((c : ℕ) + k)) (BitVec.ofNat 32 (s : ℕ))) (-sf (z (c + k))) o
            else 0) - Scalar.select (IntOp.cmpi .slt (BitVec.ofNat 32 (c : ℕ)) (BitVec.ofNat 32 (s : ℕ))) (-sf (z c)) o))) o
      = C * weight z s 8192 c := by
  rw [weight_apply z s c o ho, h]

theorem column_apply (v : Rows) (b : Fin 2) (x : Fin 512) (c : Fin 8192) (h : (x : ℕ) / 64 * 64 + (x : ℕ) % 64 < 512) :
    v (ix3 b c ⟨(x : ℕ) / 64 * 64 + (x : ℕ) % 64, h⟩) = column v b x c := by
  have hx : (⟨(x : ℕ) / 64 * 64 + (x : ℕ) % 64, h⟩ : Fin 512) = x := Fin.ext (by show (x : ℕ) / 64 * 64 + (x : ℕ) % 64 = x; omega)
  unfold column
  rw [dif_pos c.isLt, hx]

theorem out_apply (σ : Valuation τ sig (Elt Ideal)) (b : Fin 2) (s : Fin 8192) (x : Fin 512) :
    (StableHlo.after ops σ (Proc.devRef .tc main_v27) : Vec Ideal S2x8192x512 .bf16) (ix3 b s x)
      = attn (argQ σ) (argK σ) (argV σ) (argB σ) b s x := by
  simp only [ops]
  after_results
  pointwise [suffix_apply]
  simp only [ne_eq, not_true_eq_false, if_false, neg_neg, zero_apply, score_apply, sf_apply]
  refine Eq.trans ?_ (attn_fin (argQ σ) (argK σ) (argV σ) (argB σ) b s x).symm
  refine sum_cols _ _ fun c => ?_
  exact term_apply _ _ (column_apply _ b x c _) _ s c _ (zero_apply ix0)

end Cert.ReferenceIdeal.Value
end
-- ==== Proof.FeedForward.lean ====
module

public import Idealize.ShloMosaic.Lib.Pointwise
public import Idealize.ShloMosaic.PureOps.Ideal

/-! The feed-forward as one formula of its arguments, and its sum over the hidden lanes tile by tile. -/

@[expose] public section

noncomputable section

namespace Cert.FeedForward

open Idealize.ShloMosaic

abbrev Stream : Type := (⟨2, ![16384, 1024]⟩ : Shape).Idx → EReal
abbrev Gain : Type := (⟨1, ![1024]⟩ : Shape).Idx → EReal
abbrev Up : Type := (⟨2, ![1024, 4096]⟩ : Shape).Idx → EReal
abbrev Down : Type := (⟨2, ![4096, 1024]⟩ : Shape).Idx → EReal

/-- What a row is multiplied by: one over the root of its mean square. -/
def scale (x : Stream) (r : Fin 16384) : EReal :=
  Ideal.rsqrt (Ideal.div (∑ k : Fin 1024, x (ix2 r k) * x (ix2 r k)) (Ideal.ofBits .f32 0x44800000#32) + Ideal.ofBits .f32 0x358637BD#32)
/-- The normalised stream. -/
def normed (x : Stream) (g : Gain) (r : Fin 16384) (d : Fin 1024) : EReal := x (ix2 r d) * scale x r * g (ix1 d)
/-- A hidden lane, rectified. -/
def hidden (x : Stream) (g : Gain) (u : Up) (r : Fin 16384) (f : Fin 4096) : EReal :=
  max (∑ d : Fin 1024, normed x g r d * u (ix2 d f)) 0
/-- A hidden lane's part of the result, and zero past the last lane. -/
def part (x : Stream) (g : Gain) (u : Up) (w : Down) (r : Fin 16384) (d : Fin 1024) (f : ℕ) : EReal :=
  if hf : f < 4096 then hidden x g u r ⟨f, hf⟩ * hidden x g u r ⟨f, hf⟩ * w (ix2 ⟨f, hf⟩ d) else 0
/-- The feed-forward. -/
def ff (x : Stream) (g : Gain) (u : Up) (w : Down) (r : Fin 16384) (d : Fin 1024) : EReal :=
  x (ix2 r d) + ∑ f ∈ Finset.range 4096, part x g u w r d f

/-- The sum over one more tile of hidden lanes. -/
theorem sum_tile (p : ℕ → EReal) (n : ℕ) (q : Fin 1024 → EReal) (h : ∀ f : Fin 1024, q f = p (1024 * n + f)) (a : EReal) :
    (a + ∑ f ∈ Finset.range (1024 * n), p f) + ∑ f, q f = a + ∑ f ∈ Finset.range (1024 * (n + 1)), p f := by
  rw [show 1024 * (n + 1) = 1024 * n + 1024 by ring, Finset.sum_range_add, add_assoc, Finset.sum_congr rfl fun f _ => h f,
    Fin.sum_univ_eq_sum_range (fun f => p (1024 * n + f)) 1024]

theorem ff_fin (x : Stream) (g : Gain) (u : Up) (w : Down) (r : Fin 16384) (d : Fin 1024) :
    ff x g u w r d = x (ix2 r d) + ∑ f : Fin 4096, hidden x g u r f * hidden x g u r f * w (ix2 f d) := by
  unfold ff
  rw [Finset.sum_range]
  exact congrArg _ (Finset.sum_congr rfl fun f _ => dif_pos f.isLt)

end Cert.FeedForward
end
-- ==== Proof.Mlp.Tile.lean ====
module

public import proofs.«01_k».proof.Proof.Gen.MlpIdeal.Frame
public import proofs.«01_k».proof.Proof.FeedForward

/-! What the feed-forward's grid point computes, at an index. -/

@[expose] public section

set_option maxRecDepth 16384

noncomputable section

namespace Cert.MlpIdeal.Ff

open Cert.MlpIdeal Cert.MlpIdeal.Gen
open Idealize.ShloMosaic Idealize.ShloMosaic.TcCoe

theorem pay1_apply (x : Vec Ideal S512x1024 .f32) (g : Vec Ideal S1x1024 .f32) (r : Fin 512) (d : Fin 1024) :
    k0_pay1 (F := Ideal) x g (ix2 r d)
      = (x (ix2 r d) * Ideal.rsqrt (Ideal.div (∑ k : Fin 1024, x (ix2 r k) * x (ix2 r k)) (Ideal.ofBits .f32 0x44800000#32) + Ideal.ofBits .f32 0x358637BD#32)
          * g (ix2 0 d) : EReal) := by
  pointwise [k0_pay1]

theorem pay2_apply (x : Vec Ideal S512x1024 .f32) (r : Fin 512) (d : Fin 1024) :
    k0_pay2 (F := Ideal) x (ix2 r d) = x (ix2 r d) := by
  pointwise [k0_pay2]

theorem pay3_apply (h : Vec Ideal S512x1024 .bf16) (u : Vec Ideal S1024x1024 .bf16) (a : Vec Ideal S512x1024 .f32) (w : Vec Ideal S1024x1024 .bf16)
    (r : Fin 512) (d : Fin 1024) :
    k0_pay3 (F := Ideal) h u a w (ix2 r d)
      = (a (ix2 r d) + ∑ f : Fin 1024, max (∑ k : Fin 1024, h (ix2 r k) * u (ix2 k f)) 0 * max (∑ k : Fin 1024, h (ix2 r k) * u (ix2 k f)) 0 * w (ix2 f d) : EReal) := by
  pointwise [k0_pay3]

end Cert.MlpIdeal.Ff
end
-- ==== Proof.Mlp.State.lean ====
module

public import proofs.«01_k».proof.Proof.Mlp.Tile
public import Idealize.ShloMosaic.Lib.Pipeline.ValueKit
public import Idealize.ShloMosaic.Lib.Pipeline.ReadBack

/-! What a grid point of the feed-forward leaves, from its blocks and what the point before left. -/

@[expose] public section

set_option maxRecDepth 16384

noncomputable section

namespace Cert.MlpIdeal.Ff

open Cert.MlpIdeal Cert.MlpIdeal.Gen
open Idealize.ShloMosaic Idealize.ShloMosaic.TcCoe

variable {F : FTy → Type} [FloatOps F]
variable (m : (ℓ : Loc nD τ sig) → Buf (Elt F) ℓ) (c : Dev nD) (t : Fin cfg0.N)

theorem first_h (h0 : t.val % 4 = 0) (h1 : ¬t.val % 4 = 3) :
    (outsAt0 m c t.val t.isLt).2.1 = k0_pay1 (iblk m c 0 t) (iblk m c 1 t) := by
  rw [outsAt0_A m c t h0 h1]
  dsimp only
  frame_out

theorem first_acc (h0 : t.val % 4 = 0) (h1 : ¬t.val % 4 = 3) :
    (outsAt0 m c t.val t.isLt).2.2 = k0_pay3 (k0_pay1 (iblk m c 0 t) (iblk m c 1 t)) (iblk m c 2 t) (k0_pay2 (iblk m c 0 t)) (iblk m c 3 t) := by
  rw [outsAt0_A m c t h0 h1]
  dsimp only
  frame_out

theorem mid_acc (h0 : ¬t.val % 4 = 0) (h1 : ¬t.val % 4 = 3) (hn : t.val - 1 < cfg0.N) :
    (outsAt0 m c t.val t.isLt).2.2
      = k0_pay3 (outsAt0 m c (t.val - 1) hn).2.1 (iblk m c 2 t) (outsAt0 m c (t.val - 1) hn).2.2 (iblk m c 3 t) := by
  rw [outsAt0_B m c t h0 h1]
  dsimp only
  frame_out
  simp only [read_unread_whole]

theorem last_acc (h0 : ¬t.val % 4 = 0) (h1 : t.val % 4 = 3) (hn : t.val - 1 < cfg0.N) :
    (outsAt0 m c t.val t.isLt).2.2
      = k0_pay3 (outsAt0 m c (t.val - 1) hn).2.1 (iblk m c 2 t) (outsAt0 m c (t.val - 1) hn).2.2 (iblk m c 3 t) := by
  rw [outsAt0_C m c t h0 h1]
  dsimp only
  frame_out
  simp only [read_unread_whole]

theorem last_out (h0 : ¬t.val % 4 = 0) (h1 : t.val % 4 = 3) (hn : t.val - 1 < cfg0.N) :
    (outsAt0 m c t.val t.isLt).1
      = k0_pay3 (outsAt0 m c (t.val - 1) hn).2.1 (iblk m c 2 t) (outsAt0 m c (t.val - 1) hn).2.2 (iblk m c 3 t) := by
  rw [outsAt0_C m c t h0 h1]
  dsimp only
  frame_out
  simp only [read_unread_whole]

theorem later_h (h0 : ¬t.val % 4 = 0) (hn : t.val - 1 < cfg0.N) :
    (outsAt0 m c t.val t.isLt).2.1 = (outsAt0 m c (t.val - 1) hn).2.1 := by
  by_cases h1 : t.val % 4 = 3
  · rw [outsAt0_C m c t h0 h1]; rfl
  · rw [outsAt0_B m c t h0 h1]; rfl

end Cert.MlpIdeal.Ff
end
-- ==== Proof.Mlp.Blocks.lean ====
module

public import proofs.«01_k».proof.Proof.Mlp.State

/-! The feed-forward's blocks, at an index. -/

@[expose] public section

set_option maxRecDepth 16384

noncomputable section

namespace Cert.MlpIdeal.Ff

open Cert.MlpIdeal Cert.MlpIdeal.Gen
open Idealize.ShloMosaic Idealize.ShloMosaic.TcCoe
open Cert.FeedForward

variable (m : (ℓ : Loc nD τ sig) → Buf (Elt Ideal) ℓ) (c : Dev nD) (t : Fin cfg0.N)

abbrev argX : Stream := m (c, Proc.tc.devRef main_arg0)
abbrev argG : Gain := m (c, Proc.tc.devRef main_arg1)
abbrev argU : Up := m (c, Proc.tc.devRef main_arg2)
abbrev argW : Down := m (c, Proc.tc.devRef main_arg3)

theorem host_x : (V m c main_arg0 : Vec Ideal S16384x1024 .f32) = argX m c := V_main_arg0 m c
theorem host_g (d : Fin 1024) : (V m c main_v0 : Vec Ideal S1x1024 .f32) (ix2 0 d) = argG m c (ix1 d) := by
  simp only [V, hostOps0, List.flatten_cons, List.flatten_nil, List.append_nil, List.cons_append, List.nil_append]
  after_results
  pointwise []
theorem host_u (k : Fin 1024) (f : Fin 4096) : (V m c main_v1 : Vec Ideal S1024x4096 .bf16) (ix2 k f) = argU m c (ix2 k f) := by
  simp only [V, hostOps0, List.flatten_cons, List.flatten_nil, List.append_nil, List.cons_append, List.nil_append]
  after_results
  pointwise []
theorem host_w (f : Fin 4096) (d : Fin 1024) : (V m c main_v2 : Vec Ideal S4096x1024 .bf16) (ix2 f d) = argW m c (ix2 f d) := by
  simp only [V, hostOps0, List.flatten_cons, List.flatten_nil, List.append_nil, List.cons_append, List.nil_append]
  after_results
  pointwise []

theorem points : t.val < 128 := lt_of_lt_of_eq t.isLt N_0

/-- The row of the stream a row of the block is. -/
def row (r : Fin 512) : Fin 16384 := ⟨512 * (t.val / 4) + r, by have := points t; omega⟩
/-- The hidden lane a lane of the tile is. -/
def lane (f : Fin 1024) : Fin 4096 := ⟨1024 * (t.val % 4) + f, by omega⟩

theorem index_0 : ∀ t : Fin cfg0.N, win0_0.index t = ![t.val / 4, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val % 4] := (by decide +kernel : ∀ t : Fin grid0.N, _)
theorem index_3 : ∀ t : Fin cfg0.N, win0_3.index t = ![t.val % 4, 0] := (by decide +kernel : ∀ t : Fin grid0.N, _)
theorem index_4 : ∀ t : Fin cfg0.N, win0_4.index t = ![t.val / 4, 0] := (by decide +kernel : ∀ t : Fin grid0.N, _)

theorem win_x (A : Vec Ideal S16384x1024 .f32) (r : Fin 512) (d : Fin 1024) :
    (((cfg0.win 0).blk t).view.read (Elt Ideal) A : Vec Ideal S512x1024 .f32) (ix2 r d) = A (ix2 (row t r) d) := by
  show A ((win0_0.blk t).view.emb (ix2 r d)) = _
  refine congrArg A (funext fun x => Fin.ext ?_)
  refine (Pipeline.Window.rect_emb_val win0_0 t (ix2 r d) x).trans ?_
  rw [index_0]
  match x with
  | 0 => show t.val / 4 * 512 + r.val = 512 * (t.val / 4) + r.val; omega
  | 1 => show 0 * 1024 + d.val = d.val; omega

theorem win_g (A : Vec Ideal S1x1024 .f32) (d : Fin 1024) :
    (((cfg0.win 1).blk t).view.read (Elt Ideal) A : Vec Ideal S1x1024 .f32) (ix2 0 d) = A (ix2 0 d) := by
  show A ((win0_1.blk t).view.emb (ix2 (0 : Fin 1) d)) = _
  refine congrArg A (funext fun x => Fin.ext ?_)
  refine (Pipeline.Window.rect_emb_val win0_1 t (ix2 (0 : Fin 1) d) x).trans ?_
  rw [index_1]
  match x with
  | 0 => show 0 * 1 + 0 = 0; omega
  | 1 => show 0 * 1024 + d.val = d.val; omega

theorem win_u (A : Vec Ideal S1024x4096 .bf16) (k f : Fin 1024) :
    (((cfg0.win 2).blk t).view.read (Elt Ideal) A : Vec Ideal S1024x1024 .bf16) (ix2 k f) = A (ix2 k (lane t f)) := by
  show A ((win0_2.blk t).view.emb (ix2 k f)) = _
  refine congrArg A (funext fun x => Fin.ext ?_)
  refine (Pipeline.Window.rect_emb_val win0_2 t (ix2 k f) x).trans ?_
  rw [index_2]
  match x with
  | 0 => show 0 * 1024 + k.val = k.val; omega
  | 1 => show t.val % 4 * 1024 + f.val = 1024 * (t.val % 4) + f.val; omega

theorem win_w (A : Vec Ideal S4096x1024 .bf16) (f d : Fin 1024) :
    (((cfg0.win 3).blk t).view.read (Elt Ideal) A : Vec Ideal S1024x1024 .bf16) (ix2 f d) = A (ix2 (lane t f) d) := by
  show A ((win0_3.blk t).view.emb (ix2 f d)) = _
  refine congrArg A (funext fun x => Fin.ext ?_)
  refine (Pipeline.Window.rect_emb_val win0_3 t (ix2 f d) x).trans ?_
  rw [index_3]
  match x with
  | 0 => show t.val % 4 * 1024 + f.val = 1024 * (t.val % 4) + f.val; omega
  | 1 => show 0 * 1024 + d.val = d.val; omega

theorem blk_x (r : Fin 512) (d : Fin 1024) : (iblk m c 0 t : Vec Ideal S512x1024 .f32) (ix2 r d) = argX m c (ix2 (row t r) d) :=
  (win_x t (V m c main_arg0) r d).trans (congrFun (host_x m c) _)
theorem blk_g (d : Fin 1024) : (iblk m c 1 t : Vec Ideal S1x1024 .f32) (ix2 0 d) = argG m c (ix1 d) :=
  (win_g t (V m c main_v0) d).trans (host_g m c d)
theorem blk_u (k f : Fin 1024) : (iblk m c 2 t : Vec Ideal S1024x1024 .bf16) (ix2 k f) = argU m c (ix2 k (lane t f)) :=
  (win_u t (V m c main_v1) k f).trans (host_u m c k _)
theorem blk_w (f d : Fin 1024) : (iblk m c 3 t : Vec Ideal S1024x1024 .bf16) (ix2 f d) = argW m c (ix2 (lane t f) d) :=
  (win_w t (V m c main_v2) f d).trans (host_w m c _ d)

end Cert.MlpIdeal.Ff
end
-- ==== Proof.Mlp.Final.lean ====
module

public import proofs.«01_k».proof.Proof.Mlp.Blocks
public import Idealize.ShloMosaic.Lib.Claim

/-! The call leaves the feed-forward of its arguments. -/

@[expose] public section

set_option maxRecDepth 16384

noncomputable section

namespace Cert.MlpIdeal.Ff

open Cert.MlpIdeal Cert.MlpIdeal.Gen
open Idealize.ShloMosaic Idealize.ShloMosaic.TcCoe
open Idealize.SL.Sem
open Cert.FeedForward

/-- A product of two sums and a weight, lane by lane. -/
theorem sum_lanes (q p : Fin 1024 → EReal) (h : ∀ f, q f = p f) : ∑ f, q f = ∑ f, p f := Finset.sum_congr rfl fun f _ => h f

theorem normed_eq (x : Fin 1024 → EReal) (g : EReal) (X : Stream) (G : Gain) (R : Fin 16384) (d : Fin 1024)
    (hx : ∀ k, x k = X (ix2 R k)) (hg : g = G (ix1 d)) :
    x d * Ideal.rsqrt (Ideal.div (∑ k : Fin 1024, x k * x k) (Ideal.ofBits .f32 0x44800000#32) + Ideal.ofBits .f32 0x358637BD#32) * g
      = normed X G R d := by
  obtain rfl : x = fun k => X (ix2 R k) := funext hx
  rw [hg]
  rfl

theorem tile_eq (X : Stream) (G : Gain) (U : Up) (W : Down) (R : Fin 16384) (d : Fin 1024) (j : ℕ) (hj : j < 4)
    (h : Fin 1024 → EReal) (u : Fin 1024 → Fin 1024 → EReal) (a : EReal) (w : Fin 1024 → EReal)
    (hh : ∀ k, h k = normed X G R k) (hu : ∀ k f, u k f = U (ix2 k ⟨1024 * j + f, by omega⟩))
    (ha : a = X (ix2 R d) + ∑ f ∈ Finset.range (1024 * j), part X G U W R d f)
    (hw : ∀ f, w f = W (ix2 ⟨1024 * j + f, by omega⟩ d)) :
    a + ∑ f : Fin 1024, max (∑ k : Fin 1024, h k * u k f) 0 * max (∑ k : Fin 1024, h k * u k f) 0 * w f
      = X (ix2 R d) + ∑ f ∈ Finset.range (1024 * (j + 1)), part X G U W R d f := by
  obtain rfl : h = normed X G R := funext hh
  obtain rfl : u = fun k (f : Fin 1024) => U (ix2 k ⟨1024 * j + f, by omega⟩) := funext fun k => funext fun f => hu k f
  obtain rfl : w = fun (f : Fin 1024) => W (ix2 ⟨1024 * j + f, by omega⟩ d) := funext hw
  rw [ha]
  refine sum_tile _ j _ (fun f => ?_) _
  unfold part
  rw [dif_pos (by omega)]
  rfl

variable (m : (ℓ : Loc nD τ sig) → Buf (Elt Ideal) ℓ) (ρ : Dev nD → PrngReg) (c : Dev nD)

theorem h_apply (t : Fin cfg0.N) (r : Fin 512) (d : Fin 1024) :
    k0_pay1 (F := Ideal) (iblk m c 0 t) (iblk m c 1 t) (ix2 r d) = normed (argX m c) (argG m c) (row t r) d :=
  (pay1_apply _ _ r d).trans (normed_eq (fun k => (iblk m c 0 t : Vec Ideal S512x1024 .f32) (ix2 r k)) _ _ _ _ d (fun k => blk_x m c t r k) (blk_g m c t d))

theorem acc_apply (t : Fin cfg0.N) (h : Vec Ideal S512x1024 .bf16) (a : Vec Ideal S512x1024 .f32) (r : Fin 512) (d : Fin 1024)
    (hh : ∀ k, h (ix2 r k) = normed (argX m c) (argG m c) (row t r) k)
    (ha : a (ix2 r d) = argX m c (ix2 (row t r) d) + ∑ f ∈ Finset.range (1024 * (t.val % 4)), part (argX m c) (argG m c) (argU m c) (argW m c) (row t r) d f) :
    k0_pay3 (F := Ideal) h (iblk m c 2 t) a (iblk m c 3 t) (ix2 r d)
      = argX m c (ix2 (row t r) d) + ∑ f ∈ Finset.range (1024 * (t.val % 4 + 1)), part (argX m c) (argG m c) (argU m c) (argW m c) (row t r) d f :=
  (pay3_apply _ _ _ _ r d).trans
    (tile_eq (argX m c) (argG m c) (argU m c) (argW m c) (row t r) d (t.val % 4) (by omega) (fun k => h (ix2 r k))
      (fun k f => (iblk m c 2 t : Vec Ideal S1024x1024 .bf16) (ix2 k f)) _ (fun f => (iblk m c 3 t : Vec Ideal S1024x1024 .bf16) (ix2 f d))
      hh (fun k f => blk_u m c t k f) ha (fun f => blk_w m c t f d))

/-- What the two buffers hold after grid point `t`: the normalised rows, and the rows plus the tiles so far. -/
def Holds (t : Fin cfg0.N) : Prop :=
  (∀ (r : Fin 512) (d : Fin 1024), (outsAt0 m c t.val t.isLt).2.1 (ix2 r d) = normed (argX m c) (argG m c) (row t r) d)
  ∧ ∀ (r : Fin 512) (d : Fin 1024), (outsAt0 m c t.val t.isLt).2.2 (ix2 r d)
      = (argX m c (ix2 (row t r) d) + ∑ f ∈ Finset.range (1024 * (t.val % 4 + 1)), part (argX m c) (argG m c) (argU m c) (argW m c) (row t r) d f : EReal)

theorem holds_first (t : Fin cfg0.N) (h0 : t.val % 4 = 0) : Holds m c t := by
  have h1 : ¬t.val % 4 = 3 := by omega
  refine ⟨fun r d => (congrFun (first_h m c t h0 h1) _).trans (h_apply m c t r d), fun r d => (congrFun (first_acc m c t h0 h1) _).trans ?_⟩
  refine acc_apply m c t _ _ r d (fun k => h_apply m c t r k) ((pay2_apply _ r d).trans ((blk_x m c t r d).trans ?_))
  rw [h0]
  simp

theorem row_pred (t t' : Fin cfg0.N) (h : t'.val = t.val - 1) (h0 : ¬t.val % 4 = 0) (r : Fin 512) : row t' r = row t r :=
  Fin.ext (by show 512 * (t'.val / 4) + r.val = 512 * (t.val / 4) + r.val; rw [h]; omega)

theorem later_apply (t t' : Fin cfg0.N) (h : t'.val = t.val - 1) (h0 : ¬t.val % 4 = 0) (ht : Holds m c t') (r : Fin 512) (d : Fin 1024) :
    k0_pay3 (F := Ideal) (outsAt0 m c t'.val t'.isLt).2.1 (iblk m c 2 t) (outsAt0 m c t'.val t'.isLt).2.2 (iblk m c 3 t) (ix2 r d)
      = argX m c (ix2 (row t r) d) + ∑ f ∈ Finset.range (1024 * (t.val % 4 + 1)), part (argX m c) (argG m c) (argU m c) (argW m c) (row t r) d f := by
  refine acc_apply m c t _ _ r d (fun k => (ht.1 r k).trans ?_) ((ht.2 r d).trans ?_)
  · rw [row_pred t t' h h0]
  · rw [row_pred t t' h h0, show t'.val % 4 + 1 = t.val % 4 by omega]

theorem holds_later (t t' : Fin cfg0.N) (h : t'.val = t.val - 1) (h0 : ¬t.val % 4 = 0) (ht : Holds m c t') : Holds m c t := by
  obtain ⟨n, hn⟩ := t'
  obtain rfl : n = t.val - 1 := h
  refine ⟨fun r d => (congrFun (later_h m c t h0 hn) _).trans ((ht.1 r d).trans ?_), fun r d => ?_⟩
  · rw [row_pred t _ rfl h0]
  · by_cases h1 : t.val % 4 = 3
    · exact (congrFun (last_acc m c t h0 h1 hn) _).trans (later_apply m c t ⟨_, hn⟩ rfl h0 ht r d)
    · exact (congrFun (mid_acc m c t h0 h1 hn) _).trans (later_apply m c t ⟨_, hn⟩ rfl h0 ht r d)

theorem holds : ∀ (n : ℕ) (hn : n < cfg0.N), Holds m c ⟨n, hn⟩
  | 0, hn => holds_first m c ⟨0, hn⟩ rfl
  | n + 1, hn => by
    by_cases h0 : (n + 1) % 4 = 0
    · exact holds_first m c ⟨n + 1, hn⟩ h0
    · exact holds_later m c ⟨n + 1, hn⟩ ⟨n, Nat.lt_of_succ_lt hn⟩ rfl h0 (holds n _)

theorem out_apply (t : Fin cfg0.N) (h1 : t.val % 4 = 3) (r : Fin 512) (d : Fin 1024) :
    (outsAt0 m c t.val t.isLt).1 (ix2 r d) = ff (argX m c) (argG m c) (argU m c) (argW m c) (row t r) d := by
  have h0 : ¬t.val % 4 = 0 := by omega
  have hn : t.val - 1 < cfg0.N := by have := t.isLt; omega
  refine (congrFun (last_out m c t h0 h1 hn) _).trans ((later_apply m c t ⟨_, hn⟩ rfl h0 (holds m c _ hn) r d).trans ?_)
  rw [h1]
  rfl

/-- What the call leaves: the feed-forward of the arguments. -/
def val : Vec Ideal S16384x1024 .f32 := fun i => ff (argX m c) (argG m c) (argU m c) (argW m c) (i 0) (i 1)

theorem out_eq (t : Fin cfg0.N) (h1 : t.val % 4 = 3) (y : S512x1024.Idx) : (outsAt0 m c t.val t.isLt).1 y = val m c ((win0_4.blk t).view.emb y) := by
  have hy : y = ix2 (y 0) (y 1) := by
    funext a
    match a with
    | 0 => rfl
    | 1 => rfl
  have hr : row t (y 0) = (win0_4.blk t).view.emb y 0 := Fin.ext (by
    refine Eq.trans ?_ (Pipeline.Window.rect_emb_val win0_4 t y 0).symm
    rw [index_4]
    show 512 * (t.val / 4) + (y 0).val = t.val / 4 * 512 + (y 0).val; omega)
  have hd : y 1 = (win0_4.blk t).view.emb y 1 := Fin.ext (by
    refine Eq.trans ?_ (Pipeline.Window.rect_emb_val win0_4 t y 1).symm
    rw [index_4]
    show (y 1).val = 0 * 1024 + (y 1).val; omega)
  refine (congrArg (outsAt0 m c t.val t.isLt).1 hy).trans ((out_apply m c t h1 (y 0) (y 1)).trans ?_)
  rw [hr, hd]
  rfl

theorem final_o : (dats m 0 c).arrAt 4 cfg0.N = val m c := by
  refine (dats m 0 c).arrAt_eq_of_covers 4 (val m c) (by decide +kernel) fun t hf y => ?_
  blk_simp
  rw [after0_4]
  exact out_eq m c t ((flush0_4 t).mp hf) y

/-- The launch leaves the feed-forward of the arguments, and the arguments. -/
theorem run_value :
    θ_run defs (onTc (τ := τ) (main (F := Ideal))) ⟨m, fun _ => 0, ρ⟩ fun r => ∀ c : Dev nD,
      r.2.mem ((c.tc : Thread nD τ).loc main_v3) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h.2 c, h.1 c⟩)
    (θ_run_and (unchanged m ρ) (Q₂ := fun r => ∀ c : Dev nD, r.2.mem ((c.tc : Thread nD τ).loc main_v3) = val m c)
      ((θ_run defs _ _).mono (fun _ h c => ((h c).1 4).trans (final_o m c)) (run_main m ρ)))

end Cert.MlpIdeal.Ff
end
-- ==== Proof.Mlp.Ref.lean ====
module

public import proofs.«01_k».proof.Defs
public import proofs.«01_k».proof.Proof.Gen.MlpReferenceIdeal
public import Idealize.ShloMosaic.Lib.StableHlo.Run
public import Idealize.ShloMosaic.Lib.Quiescent

/-! The feed-forward reference's run: its operations as one list, and what its result array ends holding. -/

@[expose] public section

noncomputable section

open Idealize.ShloMosaic Idealize.ShloMosaic.TcCoe Idealize.SL.Sem

namespace Cert.MlpReferenceIdeal.Value

open Cert.MlpReferenceIdeal Cert.MlpReferenceIdeal.Gen Idealize.ShloMosaic.StableHlo

variable {F : FTy → Type} [FloatOps F]

abbrev ops : List (HloOp τ sig (Elt F)) := [
  StableHlo.binary main_arg0 main_arg0 main_v0 (mulf : (⟨S16384x1024, .f32⟩ : BufTy).Contents (Elt F) → (⟨S16384x1024, .f32⟩ : BufTy).Contents (Elt F) → (⟨S16384x1024, .f32⟩ : BufTy).Contents (Elt F)),
  StableHlo.nullary main_cst (constant S_ .f32 0x00000000#32),
  StableHlo.binary main_v0 main_cst main_v1 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
  StableHlo.unary main_v1 main_v2 (broadcastInDim S16384x1 ![0] bcast_S16384_S16384x1_0 : (⟨S16384, .f32⟩ : BufTy).Contents (Elt F) → (⟨S16384x1, .f32⟩ : BufTy).Contents (Elt F)),
  StableHlo.nullary main_cst_0 (constant S_ .f32 0x44800000#32),
  StableHlo.unary main_cst_0 main_v3 (broadcastInDim S16384x1 ![] bcast_S_S16384x1 : (⟨S_, .f32⟩ : BufTy).Contents (Elt F) → (⟨S16384x1, .f32⟩ : BufTy).Contents (Elt F)),
  StableHlo.binary main_v2 main_v3 main_v4 (Host.divf : (⟨S16384x1, .f32⟩ : BufTy).Contents (Elt F) → (⟨S16384x1, .f32⟩ : BufTy).Contents (Elt F) → (⟨S16384x1, .f32⟩ : BufTy).Contents (Elt F)),
  StableHlo.nullary main_cst_1 (constant S_ .f32 0x358637BD#32),
  StableHlo.unary main_cst_1 main_v5 (broadcastInDim S16384x1 ![] bcast_S_S16384x1 : (⟨S_, .f32⟩ : BufTy).Contents (Elt F) → (⟨S16384x1, .f32⟩ : BufTy).Contents (Elt F)),
  StableHlo.binary main_v4 main_v5 main_v6 (addf : (⟨S16384x1, .f32⟩ : BufTy).Contents (Elt F) → (⟨S16384x1, .f32⟩ : BufTy).Contents (Elt F) → (⟨S16384x1, .f32⟩ : BufTy).Contents (Elt F)),
  StableHlo.unary main_v6 main_v7 (Host.rsqrt : (⟨S16384x1, .f32⟩ : BufTy).Contents (Elt F) → (⟨S16384x1, .f32⟩ : BufTy).Contents (Elt F)),
  StableHlo.unary main_v7 main_v8 (broadcastInDim S16384x1024 ![0, 1] bcast_S16384x1_S16384x1024_0_1 : (⟨S16384x1, .f32⟩ : BufTy).Contents (Elt F) → (⟨S16384x1024, .f32⟩ : BufTy).Contents (Elt F)),
  StableHlo.binary main_arg0 main_v8 main_v9 (mulf : (⟨S16384x1024, .f32⟩ : BufTy).Contents (Elt F) → (⟨S16384x1024, .f32⟩ : BufTy).Contents (Elt F) → (⟨S16384x1024, .f32⟩ : BufTy).Contents (Elt F)),
  StableHlo.unary main_arg1 main_v10 (broadcastInDim S1x1024 ![1] bcast_S1024_S1x1024_1 : (⟨S1024, .f32⟩ : BufTy).Contents (Elt F) → (⟨S1x1024, .f32⟩ : BufTy).Contents (Elt F)),
  StableHlo.unary main_v10 main_v11 (broadcastInDim S16384x1024 ![0, 1] bcast_S1x1024_S16384x1024_0_1 : (⟨S1x1024, .f32⟩ : BufTy).Contents (Elt F) → (⟨S16384x1024, .f32⟩ : BufTy).Contents (Elt F)),
  StableHlo.binary main_v9 main_v11 main_v12 (mulf : (⟨S16384x1024, .f32⟩ : BufTy).Contents (Elt F) → (⟨S16384x1024, .f32⟩ : BufTy).Contents (Elt F) → (⟨S16384x1024, .f32⟩ : BufTy).Contents (Elt F)),
  StableHlo.binary main_v12 main_arg2 main_v13 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
  StableHlo.nullary main_call0_cst ((constant S_ .f32 0x00000000#32) : (⟨S_, .f32⟩ : BufTy).Contents (Elt F)),
  StableHlo.unary main_call0_cst main_call0_v0 ((broadcastInDim S16384x4096 ![] bcast_S_S16384x4096) : (⟨S_, .f32⟩ : BufTy).Contents (Elt F) → (⟨S16384x4096, .f32⟩ : BufTy).Contents (Elt F)),
  StableHlo.binary main_v13 main_call0_v0 main_v14 (maximumf : (⟨S16384x4096, .f32⟩ : BufTy).Contents (Elt F) → (⟨S16384x4096, .f32⟩ : BufTy).Contents (Elt F) → (⟨S16384x4096, .f32⟩ : BufTy).Contents (Elt F)),
  StableHlo.binary main_v14 main_v14 main_v15 (mulf : (⟨S16384x4096, .f32⟩ : BufTy).Contents (Elt F) → (⟨S16384x4096, .f32⟩ : BufTy).Contents (Elt F) → (⟨S16384x4096, .f32⟩ : BufTy).Contents (Elt F)),
  StableHlo.binary main_v15 main_arg3 main_v16 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
  StableHlo.binary main_arg0 main_v16 main_v17 (addf : (⟨S16384x1024, .f32⟩ : BufTy).Contents (Elt F) → (⟨S16384x1024, .f32⟩ : BufTy).Contents (Elt F) → (⟨S16384x1024, .f32⟩ : BufTy).Contents (Elt F))]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by simp

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

theorem args_eq (m : (ℓ : Loc nD τ sig) → Buf (Elt F) ℓ) (d : Dev nD) :
    after ops (launchContents m d) (Proc.devRef .tc main_arg0) = m ((d.tc : Thread nD τ).loc main_arg0)
    ∧ after ops (launchContents m d) (Proc.devRef .tc main_arg1) = m ((d.tc : Thread nD τ).loc main_arg1)
    ∧ after ops (launchContents m d) (Proc.devRef .tc main_arg2) = m ((d.tc : Thread nD τ).loc main_arg2)
    ∧ after ops (launchContents m d) (Proc.devRef .tc main_arg3) = m ((d.tc : Thread nD τ).loc main_arg3) := by
  refine ⟨?_, ?_, ?_, ?_⟩ <;> (after_results <;> rfl)

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => by
      obtain ⟨h0, h1, h2, h3⟩ := args_eq m c
      exact ⟨(h c _).trans h0, (h c _).trans h1, (h c _).trans h2, (h c _).trans h3⟩,
      Idealize.ShloMosaic.sem_eq_zero_of_no_sems (by decide) r.2⟩) (run m ρ)

end Cert.MlpReferenceIdeal.Value
-- ==== Proof.Mlp.RefValue.lean ====
module

public import proofs.«01_k».proof.Proof.Mlp.Ref
public import proofs.«01_k».proof.Proof.FeedForward

/-! What the feed-forward reference computes, at an index. -/

@[expose] public section

set_option maxRecDepth 16384
set_option maxHeartbeats 1000000

noncomputable section

namespace Cert.MlpReferenceIdeal.Value

open Cert.MlpReferenceIdeal Cert.MlpReferenceIdeal.Gen
open Idealize.ShloMosaic Idealize.ShloMosaic.TcCoe
open Cert.FeedForward

abbrev argX (σ : Valuation τ sig (Elt Ideal)) : Stream := σ (Proc.devRef .tc main_arg0)
abbrev argG (σ : Valuation τ sig (Elt Ideal)) : Gain := σ (Proc.devRef .tc main_arg1)
abbrev argU (σ : Valuation τ sig (Elt Ideal)) : Up := σ (Proc.devRef .tc main_arg2)
abbrev argW (σ : Valuation τ sig (Elt Ideal)) : Down := σ (Proc.devRef .tc main_arg3)

theorem out_apply (σ : Valuation τ sig (Elt Ideal)) (r : Fin 16384) (d : Fin 1024) :
    (StableHlo.after ops σ (Proc.devRef .tc main_v17) : Vec Ideal S16384x1024 .f32) (ix2 r d)
      = ff (argX σ) (argG σ) (argU σ) (argW σ) r d := by
  simp only [ops]
  after_results
  pointwise []
  exact (ff_fin (argX σ) (argG σ) (argU σ) (argW σ) r d).symm

end Cert.MlpReferenceIdeal.Value
end
-- ==== Proof.Branches.lean ====
module

public import Idealize.ShloMosaic.Lib.Pointwise
public import Idealize.ShloMosaic.PureOps.Ideal

/-! The merge of the three branches as one formula of its arguments. -/

@[expose] public section

noncomputable section

namespace Cert.Branches

open Idealize.ShloMosaic

abbrev Stream : Type := (⟨2, ![16384, 1024]⟩ : Shape).Idx → EReal
abbrev Branch : Type := (⟨2, ![16384, 512]⟩ : Shape).Idx → EReal
abbrev Logits : Type := (⟨2, ![16384, 6656]⟩ : Shape).Idx → EReal
abbrev Widen : Type := (⟨2, ![512, 1024]⟩ : Shape).Idx → EReal
abbrev Out : Type := (⟨2, ![1024, 1024]⟩ : Shape).Idx → EReal

/-- The logistic function. -/
def gate (y : EReal) : EReal := Ideal.logistic y
/-- A channel of a branch, widened. -/
def wide (a : Branch) (p : Widen) (r : Fin 16384) (d : Fin 1024) : EReal := ∑ k : Fin 512, a (ix2 r k) * p (ix2 k d)
/-- A channel's three branches, each through its gate. -/
def mix (a b o : Branch) (z : Logits) (pa pb pc : Widen) (r : Fin 16384) (d : Fin 1024) : EReal :=
  gate (z (ix2 r ⟨d, by omega⟩)) * wide a pa r d + gate (z (ix2 r ⟨1024 + d, by omega⟩)) * wide b pb r d
    + gate (z (ix2 r ⟨2048 + d, by omega⟩)) * wide o pc r d
/-- The merge. -/
def merged (x : Stream) (a b o : Branch) (z : Logits) (pa pb pc : Widen) (w : Out) (r : Fin 16384) (d : Fin 1024) : EReal :=
  x (ix2 r d) + ∑ k : Fin 1024, mix a b o z pa pb pc r k * w (ix2 k d)

end Cert.Branches
end
-- ==== Proof.Branch.Tile.lean ====
module

public import proofs.«01_k».proof.Proof.Gen.MergeIdeal.Frame
public import proofs.«01_k».proof.Proof.Branches

/-! What the merge's grid point computes, at an index. -/

@[expose] public section

set_option maxRecDepth 16384

noncomputable section

namespace Cert.MergeIdeal.Mg

open Cert.MergeIdeal Cert.MergeIdeal.Gen
open Idealize.ShloMosaic Idealize.ShloMosaic.TcCoe
open Cert.Branches

theorem pay1_apply (z : Vec Ideal S512x3072 .f32) (a : Vec Ideal S512x512 .bf16) (pa : Vec Ideal S512x1024 .bf16) (b : Vec Ideal S512x512 .bf16)
    (pb : Vec Ideal S512x1024 .bf16) (o : Vec Ideal S512x512 .bf16) (pc : Vec Ideal S512x1024 .bf16) (x : Vec Ideal S512x1024 .f32)
    (w : Vec Ideal S1024x1024 .bf16) (r : Fin 512) (d : Fin 1024) :
    k0_pay1 (F := Ideal) z a pa b pb o pc x w (ix2 r d)
      = (x (ix2 r d) + ∑ f : Fin 1024,
          (gate (z (ix2 r ⟨f, by omega⟩)) * (∑ k : Fin 512, a (ix2 r k) * pa (ix2 k f))
            + gate (z (ix2 r ⟨1024 + f, by omega⟩)) * (∑ k : Fin 512, b (ix2 r k) * pb (ix2 k f))
            + gate (z (ix2 r ⟨2048 + f, by omega⟩)) * (∑ k : Fin 512, o (ix2 r k) * pc (ix2 k f))) * w (ix2 f d) : EReal) := by
  pointwise [k0_pay1]
  rfl

end Cert.MergeIdeal.Mg
end
-- ==== Proof.Branch.Blocks.lean ====
module

public import proofs.«01_k».proof.Proof.Branch.Tile
public import Idealize.ShloMosaic.Lib.Pipeline.ValueKit
public import Idealize.ShloMosaic.Lib.Pipeline.ReadBack

/-! The merge's blocks, at an index. -/

@[expose] public section

set_option maxRecDepth 16384

noncomputable section

namespace Cert.MergeIdeal.Mg

open Cert.MergeIdeal Cert.MergeIdeal.Gen
open Idealize.ShloMosaic Idealize.ShloMosaic.TcCoe
open Cert.Branches

variable (m : (ℓ : Loc nD τ sig) → Buf (Elt Ideal) ℓ) (c : Dev nD) (t : Fin cfg0.N)

abbrev argX : Stream := m (c, Proc.tc.devRef main_arg0)
abbrev argA : Branch := m (c, Proc.tc.devRef main_arg1)
abbrev argB : Branch := m (c, Proc.tc.devRef main_arg2)
abbrev argO : Branch := m (c, Proc.tc.devRef main_arg3)
abbrev argZ : Logits := m (c, Proc.tc.devRef main_arg4)
abbrev argPa : Widen := m (c, Proc.tc.devRef main_arg5)
abbrev argPb : Widen := m (c, Proc.tc.devRef main_arg6)
abbrev argPc : Widen := m (c, Proc.tc.devRef main_arg7)
abbrev argW : Out := m (c, Proc.tc.devRef main_arg8)

theorem host_x : (V m c main_arg0 : Vec Ideal S16384x1024 .f32) = argX m c := V_main_arg0 m c
theorem host_a : (V m c main_arg1 : Vec Ideal S16384x512 .bf16) = argA m c := V_main_arg1 m c
theorem host_b : (V m c main_arg2 : Vec Ideal S16384x512 .bf16) = argB m c := V_main_arg2 m c
theorem host_o : (V m c main_arg3 : Vec Ideal S16384x512 .bf16) = argO m c := V_main_arg3 m c
theorem host_z : (V m c main_arg4 : Vec Ideal S16384x6656 .f32) = argZ m c := V_main_arg4 m c
theorem host_pa (k : Fin 512) (d : Fin 1024) : (V m c main_v0 : Vec Ideal S512x1024 .bf16) (ix2 k d) = argPa m c (ix2 k d) := by
  simp only [V, hostOps0, List.flatten_cons, List.flatten_nil, List.append_nil, List.cons_append, List.nil_append]
  after_results
  pointwise []
theorem host_pb (k : Fin 512) (d : Fin 1024) : (V m c main_v1 : Vec Ideal S512x1024 .bf16) (ix2 k d) = argPb m c (ix2 k d) := by
  simp only [V, hostOps0, List.flatten_cons, List.flatten_nil, List.append_nil, List.cons_append, List.nil_append]
  after_results
  pointwise []
theorem host_pc (k : Fin 512) (d : Fin 1024) : (V m c main_v2 : Vec Ideal S512x1024 .bf16) (ix2 k d) = argPc m c (ix2 k d) := by
  simp only [V, hostOps0, List.flatten_cons, List.flatten_nil, List.append_nil, List.cons_append, List.nil_append]
  after_results
  pointwise []
theorem host_w (k : Fin 1024) (d : Fin 1024) : (V m c main_v3 : Vec Ideal S1024x1024 .bf16) (ix2 k d) = argW m c (ix2 k d) := by
  simp only [V, hostOps0, List.flatten_cons, List.flatten_nil, List.append_nil, List.cons_append, List.nil_append]
  after_results
  pointwise []

theorem points : t.val < 32 := lt_of_lt_of_eq t.isLt N_0

/-- The row of the stream a row of the block is. -/
def row (r : Fin 512) : Fin 16384 := ⟨512 * t.val + r, by have := points t; omega⟩

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val, 0] := (by decide +kernel : ∀ t : Fin grid0.N, _)

theorem win_x (A : Vec Ideal S16384x1024 .f32) (r : Fin 512) (d : Fin 1024) :
    (((cfg0.win 0).blk t).view.read (Elt Ideal) A : Vec Ideal S512x1024 .f32) (ix2 r d) = A (ix2 (row t r) d) := by
  show A ((win0_0.blk t).view.emb (ix2 r d)) = _
  refine congrArg A (funext fun x => Fin.ext ?_)
  refine (Pipeline.Window.rect_emb_val win0_0 t (ix2 r d) x).trans ?_
  rw [index_0]
  match x with
  | 0 => show t.val * 512 + r.val = 512 * t.val + r.val; omega
  | 1 => show 0 * 1024 + d.val = d.val; omega

theorem win_a (A : Vec Ideal S16384x512 .bf16) (r : Fin 512) (d : Fin 512) :
    (((cfg0.win 1).blk t).view.read (Elt Ideal) A : Vec Ideal S512x512 .bf16) (ix2 r d) = A (ix2 (row t r) d) := by
  show A ((win0_1.blk t).view.emb (ix2 r d)) = _
  refine congrArg A (funext fun x => Fin.ext ?_)
  refine (Pipeline.Window.rect_emb_val win0_1 t (ix2 r d) x).trans ?_
  rw [index_1]
  match x with
  | 0 => show t.val * 512 + r.val = 512 * t.val + r.val; omega
  | 1 => show 0 * 512 + d.val = d.val; omega

theorem win_b (A : Vec Ideal S16384x512 .bf16) (r : Fin 512) (d : Fin 512) :
    (((cfg0.win 2).blk t).view.read (Elt Ideal) A : Vec Ideal S512x512 .bf16) (ix2 r d) = A (ix2 (row t r) d) := by
  show A ((win0_2.blk t).view.emb (ix2 r d)) = _
  refine congrArg A (funext fun x => Fin.ext ?_)
  refine (Pipeline.Window.rect_emb_val win0_2 t (ix2 r d) x).trans ?_
  rw [index_2]
  match x with
  | 0 => show t.val * 512 + r.val = 512 * t.val + r.val; omega
  | 1 => show 0 * 512 + d.val = d.val; omega

theorem win_o (A : Vec Ideal S16384x512 .bf16) (r : Fin 512) (d : Fin 512) :
    (((cfg0.win 3).blk t).view.read (Elt Ideal) A : Vec Ideal S512x512 .bf16) (ix2 r d) = A (ix2 (row t r) d) := by
  show A ((win0_3.blk t).view.emb (ix2 r d)) = _
  refine congrArg A (funext fun x => Fin.ext ?_)
  refine (Pipeline.Window.rect_emb_val win0_3 t (ix2 r d) x).trans ?_
  rw [index_3]
  match x with
  | 0 => show t.val * 512 + r.val = 512 * t.val + r.val; omega
  | 1 => show 0 * 512 + d.val = d.val; omega

/-- The place in the gates' block of a row and a lane. -/
def place (r : Fin 512) (d : Fin 3072) : ((cfg0.win 4).xblock (cfg0.grid.coords t)).Idx :=
  fun a => ⟨(ix2 r d a).val, ((cfg0.win 4).moved_iff _ (ix2 r d)).mp (moved0_4 t (ix2 r d)) a⟩

theorem fill_z (r : Fin 512) (d : Fin 3072) : (X0_4 m c t : Vec Ideal S512x3072 .f32) (ix2 r d) = iblk m c 4 t (place t r d) :=
  (cfg0.win 4).fill_xinj (cfg0.grid.coords t) dflt0_4 (iblk m c 4 t) (place t r d)

theorem place_val (r : Fin 512) (d : Fin 3072) : (place t r d 1).val = d.val := rfl

theorem read_z (A : Vec Ideal S16384x6656 .f32) (r : Fin 512) (d : Fin 3072) :
    ((cfg0.win 4).blk t).view.read (Elt Ideal) A (place t r d) = A (ix2 (row t r) ⟨d, by omega⟩) := by
  show A ((win0_4.blk t).view.emb (place t r d)) = _
  refine congrArg A (funext fun x => Fin.ext ?_)
  match x with
  | 0 =>
    refine (Pipeline.Window.rect_emb_val win0_4 t (place t r d) 0).trans ?_
    rw [index_4]
    show t.val * 512 + r.val = 512 * t.val + r.val; omega
  | 1 => exact (Pipeline.Window.rect_emb_val_of_index_zero win0_4 t 1 (congrFun (index_4 t) 1) (place t r d)).trans (place_val t r d)

theorem win_z (r : Fin 512) (d : Fin 3072) :
    (X0_4 m c t : Vec Ideal S512x3072 .f32) (ix2 r d) = (V m c main_arg4 : Vec Ideal S16384x6656 .f32) (ix2 (row t r) ⟨d, by omega⟩) :=
  (fill_z m c t r d).trans (read_z t _ r d)

theorem win_pa (A : Vec Ideal S512x1024 .bf16) (r : Fin 512) (d : Fin 1024) :
    (((cfg0.win 5).blk t).view.read (Elt Ideal) A : Vec Ideal S512x1024 .bf16) (ix2 r d) = A (ix2 r d) := by
  show A ((win0_5.blk t).view.emb (ix2 r d)) = _
  refine congrArg A (funext fun x => Fin.ext ?_)
  refine (Pipeline.Window.rect_emb_val win0_5 t (ix2 r d) x).trans ?_
  rw [index_5]
  match x with
  | 0 => show 0 * 512 + r.val = r.val; omega
  | 1 => show 0 * 1024 + d.val = d.val; omega

theorem win_pb (A : Vec Ideal S512x1024 .bf16) (r : Fin 512) (d : Fin 1024) :
    (((cfg0.win 6).blk t).view.read (Elt Ideal) A : Vec Ideal S512x1024 .bf16) (ix2 r d) = A (ix2 r d) := by
  show A ((win0_6.blk t).view.emb (ix2 r d)) = _
  refine congrArg A (funext fun x => Fin.ext ?_)
  refine (Pipeline.Window.rect_emb_val win0_6 t (ix2 r d) x).trans ?_
  rw [index_6]
  match x with
  | 0 => show 0 * 512 + r.val = r.val; omega
  | 1 => show 0 * 1024 + d.val = d.val; omega

theorem win_pc (A : Vec Ideal S512x1024 .bf16) (r : Fin 512) (d : Fin 1024) :
    (((cfg0.win 7).blk t).view.read (Elt Ideal) A : Vec Ideal S512x1024 .bf16) (ix2 r d) = A (ix2 r d) := by
  show A ((win0_7.blk t).view.emb (ix2 r d)) = _
  refine congrArg A (funext fun x => Fin.ext ?_)
  refine (Pipeline.Window.rect_emb_val win0_7 t (ix2 r d) x).trans ?_
  rw [index_7]
  match x with
  | 0 => show 0 * 512 + r.val = r.val; omega
  | 1 => show 0 * 1024 + d.val = d.val; omega

theorem win_w (A : Vec Ideal S1024x1024 .bf16) (r : Fin 1024) (d : Fin 1024) :
    (((cfg0.win 8).blk t).view.read (Elt Ideal) A : Vec Ideal S1024x1024 .bf16) (ix2 r d) = A (ix2 r d) := by
  show A ((win0_8.blk t).view.emb (ix2 r d)) = _
  refine congrArg A (funext fun x => Fin.ext ?_)
  refine (Pipeline.Window.rect_emb_val win0_8 t (ix2 r d) x).trans ?_
  rw [index_8]
  match x with
  | 0 => show 0 * 1024 + r.val = r.val; omega
  | 1 => show 0 * 1024 + d.val = d.val; omega

theorem blk_x (r : Fin 512) (d : Fin 1024) : (iblk m c 0 t : Vec Ideal S512x1024 .f32) (ix2 r d) = argX m c (ix2 (row t r) d) :=
  (win_x t (V m c main_arg0) r d).trans (congrFun (host_x m c) _)
theorem blk_a (r : Fin 512) (d : Fin 512) : (iblk m c 1 t : Vec Ideal S512x512 .bf16) (ix2 r d) = argA m c (ix2 (row t r) d) :=
  (win_a t (V m c main_arg1) r d).trans (congrFun (host_a m c) _)
theorem blk_b (r : Fin 512) (d : Fin 512) : (iblk m c 2 t : Vec Ideal S512x512 .bf16) (ix2 r d) = argB m c (ix2 (row t r) d) :=
  (win_b t (V m c main_arg2) r d).trans (congrFun (host_b m c) _)
theorem blk_o (r : Fin 512) (d : Fin 512) : (iblk m c 3 t : Vec Ideal S512x512 .bf16) (ix2 r d) = argO m c (ix2 (row t r) d) :=
  (win_o t (V m c main_arg3) r d).trans (congrFun (host_o m c) _)
theorem blk_z (r : Fin 512) (d : Fin 3072) : (X0_4 m c t : Vec Ideal S512x3072 .f32) (ix2 r d) = argZ m c (ix2 (row t r) ⟨d, by omega⟩) :=
  (win_z m c t r d).trans (congrFun (host_z m c) _)
theorem blk_pa (k : Fin 512) (d : Fin 1024) : (iblk m c 5 t : Vec Ideal S512x1024 .bf16) (ix2 k d) = argPa m c (ix2 k d) :=
  (win_pa t (V m c main_v0) k d).trans (host_pa m c k d)
theorem blk_pb (k : Fin 512) (d : Fin 1024) : (iblk m c 6 t : Vec Ideal S512x1024 .bf16) (ix2 k d) = argPb m c (ix2 k d) :=
  (win_pb t (V m c main_v1) k d).trans (host_pb m c k d)
theorem blk_pc (k : Fin 512) (d : Fin 1024) : (iblk m c 7 t : Vec Ideal S512x1024 .bf16) (ix2 k d) = argPc m c (ix2 k d) :=
  (win_pc t (V m c main_v2) k d).trans (host_pc m c k d)
theorem blk_w (k : Fin 1024) (d : Fin 1024) : (iblk m c 8 t : Vec Ideal S1024x1024 .bf16) (ix2 k d) = argW m c (ix2 k d) :=
  (win_w t (V m c main_v3) k d).trans (host_w m c k d)

end Cert.MergeIdeal.Mg
end
-- ==== Proof.Branch.Final.lean ====
module

public import proofs.«01_k».proof.Proof.Branch.Blocks
public import Idealize.ShloMosaic.Lib.Claim

/-! The call leaves the merge of its arguments. -/

@[expose] public section

set_option maxRecDepth 16384

noncomputable section

namespace Cert.MergeIdeal.Mg

open Cert.MergeIdeal Cert.MergeIdeal.Gen
open Idealize.ShloMosaic Idealize.ShloMosaic.TcCoe
open Idealize.SL.Sem
open Cert.Branches

theorem merged_eq (X : Stream) (A B O : Branch) (Z : Logits) (Pa Pb Pc : Widen) (W : Out) (R : Fin 16384) (d : Fin 1024)
    (x : EReal) (z : Fin 3072 → EReal) (a b o : Fin 512 → EReal) (pa pb pc : Fin 512 → Fin 1024 → EReal) (w : Fin 1024 → EReal)
    (hx : x = X (ix2 R d)) (hz : ∀ k : Fin 3072, z k = Z (ix2 R ⟨k, by omega⟩))
    (ha : ∀ k, a k = A (ix2 R k)) (hb : ∀ k, b k = B (ix2 R k)) (ho : ∀ k, o k = O (ix2 R k))
    (hpa : ∀ k f, pa k f = Pa (ix2 k f)) (hpb : ∀ k f, pb k f = Pb (ix2 k f)) (hpc : ∀ k f, pc k f = Pc (ix2 k f))
    (hw : ∀ f, w f = W (ix2 f d)) :
    x + ∑ f : Fin 1024,
        (gate (z ⟨f, by omega⟩) * (∑ k : Fin 512, a k * pa k f)
          + gate (z ⟨1024 + f, by omega⟩) * (∑ k : Fin 512, b k * pb k f)
          + gate (z ⟨2048 + f, by omega⟩) * (∑ k : Fin 512, o k * pc k f)) * w f
      = merged X A B O Z Pa Pb Pc W R d := by
  obtain rfl : a = fun k => A (ix2 R k) := funext ha
  obtain rfl : b = fun k => B (ix2 R k) := funext hb
  obtain rfl : o = fun k => O (ix2 R k) := funext ho
  obtain rfl : pa = fun k f => Pa (ix2 k f) := funext fun k => funext fun f => hpa k f
  obtain rfl : pb = fun k f => Pb (ix2 k f) := funext fun k => funext fun f => hpb k f
  obtain rfl : pc = fun k f => Pc (ix2 k f) := funext fun k => funext fun f => hpc k f
  obtain rfl : w = fun f => W (ix2 f d) := funext hw
  obtain rfl : z = fun k : Fin 3072 => Z (ix2 R ⟨k, by omega⟩) := funext hz
  rw [hx]
  rfl

variable (m : (ℓ : Loc nD τ sig) → Buf (Elt Ideal) ℓ) (ρ : Dev nD → PrngReg) (c : Dev nD)

theorem out_pay (t : Fin cfg0.N) : outsAt0 m c t
    = k0_pay1 (X0_4 m c t) (iblk m c 1 t) (iblk m c 5 t) (iblk m c 2 t) (iblk m c 6 t) (iblk m c 3 t) (iblk m c 7 t) (iblk m c 0 t) (iblk m c 8 t) := by
  unfold outsAt0
  frame_out

theorem out_apply (t : Fin cfg0.N) (r : Fin 512) (d : Fin 1024) :
    (outsAt0 m c t : Vec Ideal S512x1024 .f32) (ix2 r d) = merged (argX m c) (argA m c) (argB m c) (argO m c) (argZ m c) (argPa m c) (argPb m c) (argPc m c) (argW m c) (row t r) d :=
  (congrFun (out_pay m c t) _).trans ((pay1_apply _ _ _ _ _ _ _ _ _ r d).trans
    (merged_eq (argX m c) (argA m c) (argB m c) (argO m c) (argZ m c) (argPa m c) (argPb m c) (argPc m c) (argW m c) (row t r) d _
      (fun k => (X0_4 m c t : Vec Ideal S512x3072 .f32) (ix2 r k))
      (fun k => (iblk m c 1 t : Vec Ideal S512x512 .bf16) (ix2 r k))
      (fun k => (iblk m c 2 t : Vec Ideal S512x512 .bf16) (ix2 r k))
      (fun k => (iblk m c 3 t : Vec Ideal S512x512 .bf16) (ix2 r k))
      (fun k f => (iblk m c 5 t : Vec Ideal S512x1024 .bf16) (ix2 k f))
      (fun k f => (iblk m c 6 t : Vec Ideal S512x1024 .bf16) (ix2 k f))
      (fun k f => (iblk m c 7 t : Vec Ideal S512x1024 .bf16) (ix2 k f))
      (fun f => (iblk m c 8 t : Vec Ideal S1024x1024 .bf16) (ix2 f d))
      (blk_x m c t r d) (blk_z m c t r) (blk_a m c t r) (blk_b m c t r) (blk_o m c t r)
      (blk_pa m c t) (blk_pb m c t) (blk_pc m c t) (fun f => blk_w m c t f d)))

/-- What the call leaves: the merge of the arguments. -/
def val : Vec Ideal S16384x1024 .f32 := fun i => merged (argX m c) (argA m c) (argB m c) (argO m c) (argZ m c) (argPa m c) (argPb m c) (argPc m c) (argW m c) (i 0) (i 1)

theorem out_eq (t : Fin cfg0.N) (y : S512x1024.Idx) : (outsAt0 m c t : Vec Ideal S512x1024 .f32) y = val m c ((win0_9.blk t).view.emb y) := by
  have hy : y = ix2 (y 0) (y 1) := by
    funext a
    match a with
    | 0 => rfl
    | 1 => rfl
  have hr : row t (y 0) = (win0_9.blk t).view.emb y 0 := Fin.ext (by
    refine Eq.trans ?_ (Pipeline.Window.rect_emb_val win0_9 t y 0).symm
    rw [index_9]
    show 512 * t.val + (y 0).val = t.val * 512 + (y 0).val; omega)
  have hd : y 1 = (win0_9.blk t).view.emb y 1 := Fin.ext (by
    refine Eq.trans ?_ (Pipeline.Window.rect_emb_val win0_9 t y 1).symm
    rw [index_9]
    show (y 1).val = 0 * 1024 + (y 1).val; omega)
  refine (congrArg (outsAt0 m c t : Vec Ideal S512x1024 .f32) hy).trans ((out_apply m c t (y 0) (y 1)).trans ?_)
  rw [hr, hd]
  rfl

theorem final_o : (dats m 0 c).arrAt 9 cfg0.N = val m c := by
  refine (dats m 0 c).arrAt_eq_of_covers 9 (val m c) (by decide +kernel) fun t hf y => ?_
  blk_simp
  rw [after0_9]
  exact out_eq m c t y

/-- The launch leaves the merge of the arguments, and the arguments. -/
theorem run_value :
    θ_run defs (onTc (τ := τ) (main (F := Ideal))) ⟨m, fun _ => 0, ρ⟩ fun r => ∀ c : Dev nD,
      r.2.mem ((c.tc : Thread nD τ).loc main_v4) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h.2 c, h.1 c⟩)
    (θ_run_and (unchanged m ρ) (Q₂ := fun r => ∀ c : Dev nD, r.2.mem ((c.tc : Thread nD τ).loc main_v4) = val m c)
      ((θ_run defs _ _).mono (fun _ h c => ((h c).1 9).trans (final_o m c)) (run_main m ρ)))

end Cert.MergeIdeal.Mg
end
-- ==== Proof.Branch.Ref.lean ====
module

public import proofs.«01_k».proof.Defs
public import proofs.«01_k».proof.Proof.Gen.MergeReferenceIdeal
public import Idealize.ShloMosaic.Lib.StableHlo.Run
public import Idealize.ShloMosaic.Lib.Quiescent

/-! The merge reference's run: its operations as one list, and what its result array ends holding. -/

@[expose] public section

noncomputable section

open Idealize.ShloMosaic Idealize.ShloMosaic.TcCoe Idealize.SL.Sem

namespace Cert.MergeReferenceIdeal.Value

open Cert.MergeReferenceIdeal Cert.MergeReferenceIdeal.Gen Idealize.ShloMosaic.StableHlo

variable {F : FTy → Type} [FloatOps F]

abbrev ops : List (HloOp τ sig (Elt F)) := [
  StableHlo.unary main_arg4 main_v0 ((extractStridedSlice S16384x3072 ![0, 0] · slices_S16384x6656_S16384x3072_0_0) : (⟨S16384x6656, .f32⟩ : BufTy).Contents (Elt F) → (⟨S16384x3072, .f32⟩ : BufTy).Contents (Elt F)),
  StableHlo.unary main_v0 main_v1 (Host.negf : (⟨S16384x3072, .f32⟩ : BufTy).Contents (Elt F) → (⟨S16384x3072, .f32⟩ : BufTy).Contents (Elt F)),
  StableHlo.unary main_v1 main_v2 (Host.exp : (⟨S16384x3072, .f32⟩ : BufTy).Contents (Elt F) → (⟨S16384x3072, .f32⟩ : BufTy).Contents (Elt F)),
  StableHlo.nullary main_cst (constant S_ .f32 0x3F800000#32),
  StableHlo.unary main_cst main_v3 (broadcastInDim S16384x3072 ![] bcast_S_S16384x3072 : (⟨S_, .f32⟩ : BufTy).Contents (Elt F) → (⟨S16384x3072, .f32⟩ : BufTy).Contents (Elt F)),
  StableHlo.binary main_v3 main_v2 main_v4 (addf : (⟨S16384x3072, .f32⟩ : BufTy).Contents (Elt F) → (⟨S16384x3072, .f32⟩ : BufTy).Contents (Elt F) → (⟨S16384x3072, .f32⟩ : BufTy).Contents (Elt F)),
  StableHlo.nullary main_cst_0 (constant S_ .f32 0x3F800000#32),
  StableHlo.unary main_cst_0 main_v5 (broadcastInDim S16384x3072 ![] bcast_S_S16384x3072 : (⟨S_, .f32⟩ : BufTy).Contents (Elt F) → (⟨S16384x3072, .f32⟩ : BufTy).Contents (Elt F)),
  StableHlo.binary main_v5 main_v4 main_v6 (Host.divf : (⟨S16384x3072, .f32⟩ : BufTy).Contents (Elt F) → (⟨S16384x3072, .f32⟩ : BufTy).Contents (Elt F) → (⟨S16384x3072, .f32⟩ : BufTy).Contents (Elt F)),
  StableHlo.reshape main_v6 main_v7 (rfl : (.f32 : EltTy) = .f32) shapeCasts_S16384x3072_S16384x3x1024,
  StableHlo.unary main_v7 main_v8 ((extractStridedSlice S16384x1x1024 ![0, 0, 0] · slices_S16384x3x1024_S16384x1x1024_0_0_0) : (⟨S16384x3x1024, .f32⟩ : BufTy).Contents (Elt F) → (⟨S16384x1x1024, .f32⟩ : BufTy).Contents (Elt F)),
  StableHlo.reshape main_v8 main_v9 (rfl : (.f32 : EltTy) = .f32) shapeCasts_S16384x1x1024_S16384x1024,
  StableHlo.binary main_arg1 main_arg5 main_v10 ((fun l r => Host.dotGeneral dot_S16384x512_S512x1024_S16384x1024_1_0_0_1_n_n none l r) : (⟨S16384x512, .bf16⟩ : BufTy).Contents (Elt F) → (⟨S512x1024, .f32⟩ : BufTy).Contents (Elt F) → (⟨S16384x1024, .f32⟩ : BufTy).Contents (Elt F)),
  StableHlo.binary main_v9 main_v10 main_v11 (mulf : (⟨S16384x1024, .f32⟩ : BufTy).Contents (Elt F) → (⟨S16384x1024, .f32⟩ : BufTy).Contents (Elt F) → (⟨S16384x1024, .f32⟩ : BufTy).Contents (Elt F)),
  StableHlo.unary main_v7 main_v12 ((extractStridedSlice S16384x1x1024 ![0, 1, 0] · slices_S16384x3x1024_S16384x1x1024_0_1_0) : (⟨S16384x3x1024, .f32⟩ : BufTy).Contents (Elt F) → (⟨S16384x1x1024, .f32⟩ : BufTy).Contents (Elt F)),
  StableHlo.reshape main_v12 main_v13 (rfl : (.f32 : EltTy) = .f32) shapeCasts_S16384x1x1024_S16384x1024,
  StableHlo.binary main_arg2 main_arg6 main_v14 ((fun l r => Host.dotGeneral dot_S16384x512_S512x1024_S16384x1024_1_0_0_1_n_n none l r) : (⟨S16384x512, .bf16⟩ : BufTy).Contents (Elt F) → (⟨S512x1024, .f32⟩ : BufTy).Contents (Elt F) → (⟨S16384x1024, .f32⟩ : BufTy).Contents (Elt F)),
  StableHlo.binary main_v13 main_v14 main_v15 (mulf : (⟨S16384x1024, .f32⟩ : BufTy).Contents (Elt F) → (⟨S16384x1024, .f32⟩ : BufTy).Contents (Elt F) → (⟨S16384x1024, .f32⟩ : BufTy).Contents (Elt F)),
  StableHlo.binary main_v11 main_v15 main_v16 (addf : (⟨S16384x1024, .f32⟩ : BufTy).Contents (Elt F) → (⟨S16384x1024, .f32⟩ : BufTy).Contents (Elt F) → (⟨S16384x1024, .f32⟩ : BufTy).Contents (Elt F)),
  StableHlo.unary main_v7 main_v17 ((extractStridedSlice S16384x1x1024 ![0, 2, 0] · slices_S16384x3x1024_S16384x1x1024_0_2_0) : (⟨S16384x3x1024, .f32⟩ : BufTy).Contents (Elt F) → (⟨S16384x1x1024, .f32⟩ : BufTy).Contents (Elt F)),
  StableHlo.reshape main_v17 main_v18 (rfl : (.f32 : EltTy) = .f32) shapeCasts_S16384x1x1024_S16384x1024,
  StableHlo.binary main_arg3 main_arg7 main_v19 ((fun l r => Host.dotGeneral dot_S16384x512_S512x1024_S16384x1024_1_0_0_1_n_n none l r) : (⟨S16384x512, .bf16⟩ : BufTy).Contents (Elt F) → (⟨S512x1024, .f32⟩ : BufTy).Contents (Elt F) → (⟨S16384x1024, .f32⟩ : BufTy).Contents (Elt F)),
  StableHlo.binary main_v18 main_v19 main_v20 (mulf : (⟨S16384x1024, .f32⟩ : BufTy).Contents (Elt F) → (⟨S16384x1024, .f32⟩ : BufTy).Contents (Elt F) → (⟨S16384x1024, .f32⟩ : BufTy).Contents (Elt F)),
  StableHlo.binary main_v16 main_v20 main_v21 (addf : (⟨S16384x1024, .f32⟩ : BufTy).Contents (Elt F) → (⟨S16384x1024, .f32⟩ : BufTy).Contents (Elt F) → (⟨S16384x1024, .f32⟩ : BufTy).Contents (Elt F)),
  StableHlo.binary main_v21 main_arg8 main_v22 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
  StableHlo.binary main_arg0 main_v22 main_v23 (addf : (⟨S16384x1024, .f32⟩ : BufTy).Contents (Elt F) → (⟨S16384x1024, .f32⟩ : BufTy).Contents (Elt F) → (⟨S16384x1024, .f32⟩ : BufTy).Contents (Elt F))]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by simp

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

theorem args_eq (m : (ℓ : Loc nD τ sig) → Buf (Elt F) ℓ) (d : Dev nD) :
    after ops (launchContents m d) (Proc.devRef .tc main_arg0) = m ((d.tc : Thread nD τ).loc main_arg0)
    ∧ after ops (launchContents m d) (Proc.devRef .tc main_arg1) = m ((d.tc : Thread nD τ).loc main_arg1)
    ∧ after ops (launchContents m d) (Proc.devRef .tc main_arg2) = m ((d.tc : Thread nD τ).loc main_arg2)
    ∧ after ops (launchContents m d) (Proc.devRef .tc main_arg3) = m ((d.tc : Thread nD τ).loc main_arg3)
    ∧ after ops (launchContents m d) (Proc.devRef .tc main_arg4) = m ((d.tc : Thread nD τ).loc main_arg4)
    ∧ after ops (launchContents m d) (Proc.devRef .tc main_arg5) = m ((d.tc : Thread nD τ).loc main_arg5)
    ∧ after ops (launchContents m d) (Proc.devRef .tc main_arg6) = m ((d.tc : Thread nD τ).loc main_arg6)
    ∧ after ops (launchContents m d) (Proc.devRef .tc main_arg7) = m ((d.tc : Thread nD τ).loc main_arg7)
    ∧ after ops (launchContents m d) (Proc.devRef .tc main_arg8) = m ((d.tc : Thread nD τ).loc main_arg8) := by
  refine ⟨?_, ?_, ?_, ?_, ?_, ?_, ?_, ?_, ?_⟩ <;> (after_results <;> rfl)

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => by
      obtain ⟨h0, h1, h2, h3, h4, h5, h6, h7, h8⟩ := args_eq m c
      exact ⟨(h c _).trans h0, (h c _).trans h1, (h c _).trans h2, (h c _).trans h3, (h c _).trans h4, (h c _).trans h5, (h c _).trans h6, (h c _).trans h7, (h c _).trans h8⟩,
      Idealize.ShloMosaic.sem_eq_zero_of_no_sems (by decide) r.2⟩) (run m ρ)

end Cert.MergeReferenceIdeal.Value
-- ==== Proof.Branch.RefValue.lean ====
module

public import proofs.«01_k».proof.Proof.Branch.Ref
public import proofs.«01_k».proof.Proof.Branches

/-! What the merge reference computes, at an index. -/

@[expose] public section

set_option maxRecDepth 16384
set_option maxHeartbeats 1000000

noncomputable section

namespace Cert.MergeReferenceIdeal.Value

open Cert.MergeReferenceIdeal Cert.MergeReferenceIdeal.Gen
open Idealize.ShloMosaic Idealize.ShloMosaic.TcCoe
open Cert.Branches

abbrev argX (σ : Valuation τ sig (Elt Ideal)) : Stream := σ (Proc.devRef .tc main_arg0)
abbrev argA (σ : Valuation τ sig (Elt Ideal)) : Branch := σ (Proc.devRef .tc main_arg1)
abbrev argB (σ : Valuation τ sig (Elt Ideal)) : Branch := σ (Proc.devRef .tc main_arg2)
abbrev argO (σ : Valuation τ sig (Elt Ideal)) : Branch := σ (Proc.devRef .tc main_arg3)
abbrev argZ (σ : Valuation τ sig (Elt Ideal)) : Logits := σ (Proc.devRef .tc main_arg4)
abbrev argPa (σ : Valuation τ sig (Elt Ideal)) : Widen := σ (Proc.devRef .tc main_arg5)
abbrev argPb (σ : Valuation τ sig (Elt Ideal)) : Widen := σ (Proc.devRef .tc main_arg6)
abbrev argPc (σ : Valuation τ sig (Elt Ideal)) : Widen := σ (Proc.devRef .tc main_arg7)
abbrev argW (σ : Valuation τ sig (Elt Ideal)) : Out := σ (Proc.devRef .tc main_arg8)

theorem out_apply (σ : Valuation τ sig (Elt Ideal)) (r : Fin 16384) (d : Fin 1024) :
    (StableHlo.after ops σ (Proc.devRef .tc main_v23) : Vec Ideal S16384x1024 .f32) (ix2 r d)
      = merged (argX σ) (argA σ) (argB σ) (argO σ) (argZ σ) (argPa σ) (argPb σ) (argPc σ) (argW σ) r d := by
  simp only [ops]
  after_results
  pointwise []
  rfl

end Cert.MergeReferenceIdeal.Value
end
-- ==== Proof.Proj.Run.lean ====
module

public import proofs.«01_k».proof.Proof.Gen.ProjIdeal.Frame
public import proofs.«01_k».proof.Proof.Gen.ProjIdeal.Skeleton
public import Idealize.ShloMosaic.Lib.Pipeline.FrameBody
public import Idealize.ShloMosaic.Lib.Pipeline.ReadBack
public import Idealize.ShloMosaic.Lib.VecWindow
public import Idealize.ShloMosaic.Lib.Pipeline.ValueKit
public import Idealize.ShloMosaic.Lib.Ring
public import Idealize.ShloMosaic.Lib.Tactic
public import Idealize.ShloMosaic.Lib.WordCmp

/-! # The body of the projection call, at each kind of grid point

A row block's first column tile stores the normalised rows in the scratch, the small columns and the
queries; its second the keys; its third the values; every later tile one tile of the rest. What a
tile does not store, it leaves as it was. -/

@[expose] public section

set_option maxRecDepth 16384

noncomputable section

namespace Cert.ProjIdeal.Pj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple at the first column tile of a row block. -/
theorem run_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x128 .f32) (harg13 : arg13.IsWhole) (arg14 : Memref sig .tc .vmem S1024x1024 .bf16) (harg14 : arg14.IsWhole) (hc0 : k0_cond1 i = 1#1) (hc1 : k0_cond2 i = 1#1) (hc2 : ¬k0_cond3 i = 1#1) (hc3 : ¬k0_cond4 i = 1#1) (hc4 : ¬k0_cond5 i = 1#1)
    (x0 : Vec F S1024x1024 .f32) (x1 : Vec F S1x1024 .f32) (x2 : Vec F S1024x512 .bf16) (x3 : Vec F S1024x128 .bf16) (x4 : Vec F S1x512 .f32) (x5 : Vec F S1x512 .f32) (x6 : Vec F S512x512 .bf16)
    (y9 : Vec F S1024x512 .bf16) (y10 : Vec F S1024x512 .f32) (y11 : Vec F S1024x512 .f32) (y12 : Vec F S1024x512 .f32) (y13 : Vec F S1024x128 .f32) (y14 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay5 (k0_pay2 x0 x1) x2 x4 x6 x6) ∗ owns (c : Thread nD τ) arg10 fullShare (y10) ∗ owns (c : Thread nD τ) arg11 fullShare (y11) ∗ owns (c : Thread nD τ) arg12 fullShare (y12) ∗ owns (c : Thread nD τ) arg13 fullShare (k0_pay3 x0 x1 x3) ∗ owns (c : Thread nD τ) arg14 fullShare (k0_pay2 x0 x1)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine (View.read_writes_full arg9.view _ inb_S1024x512_S1024x512_0_0 _ []).trans ?_
    sl_unfold_words
    simp only [View.readCov_cons_toLoadRect, View.readAt_eq_ld, Memref.IsWhole.read_unread, *]
    simp (disch := decide) only [View.ld_unit_lit]
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    refine (View.read_writes_full arg13.view _ inb_S1024x128_S1024x128_0_0 _ []).trans ?_
    sl_unfold_words
    simp only [View.readCov_cons_toLoadRect, View.readAt_eq_ld, Memref.IsWhole.read_unread, *]
    simp (disch := decide) only [View.ld_unit_lit]
  · iexists _; isplitr; swap; · iexact H14
    ipureintro
    refine (View.read_writes_full arg14.view _ inb_S1024x1024_S1024x1024_0_0 _ []).trans ?_
    sl_unfold_words
    simp only [View.readCov_cons_toLoadRect, View.readAt_eq_ld, Memref.IsWhole.read_unread, *]
    simp (disch := decide) only [View.ld_unit_lit]

set_option maxHeartbeats 1000000 in
/-- The body's triple at the second. -/
theorem run_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x128 .f32) (harg13 : arg13.IsWhole) (arg14 : Memref sig .tc .vmem S1024x1024 .bf16) (harg14 : arg14.IsWhole) (hc0 : ¬k0_cond1 i = 1#1) (hc1 : ¬k0_cond2 i = 1#1) (hc2 : k0_cond3 i = 1#1) (hc3 : ¬k0_cond4 i = 1#1) (hc4 : ¬k0_cond5 i = 1#1)
    (x0 : Vec F S1024x1024 .f32) (x1 : Vec F S1x1024 .f32) (x2 : Vec F S1024x512 .bf16) (x3 : Vec F S1024x128 .bf16) (x4 : Vec F S1x512 .f32) (x5 : Vec F S1x512 .f32) (x6 : Vec F S512x512 .bf16)
    (y9 : Vec F S1024x512 .bf16) (y10 : Vec F S1024x512 .f32) (y11 : Vec F S1024x512 .f32) (y12 : Vec F S1024x512 .f32) (y13 : Vec F S1024x128 .f32) (y14 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y9) ∗ owns (c : Thread nD τ) arg10 fullShare (k0_pay6 y14 x2 x5 x6 x6) ∗ owns (c : Thread nD τ) arg11 fullShare (y11) ∗ owns (c : Thread nD τ) arg12 fullShare (y12) ∗ owns (c : Thread nD τ) arg13 fullShare (y13) ∗ owns (c : Thread nD τ) arg14 fullShare (y14)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (View.read_writes_full arg10.view _ inb_S1024x512_S1024x512_0_0 _ []).trans ?_
    sl_unfold_words
    simp only [View.readCov_cons_toLoadRect, View.readAt_eq_ld, Memref.IsWhole.read_unread, *]
    simp (disch := decide) only [View.ld_unit_lit]
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  · iexists _; isplitr; · ipureintro; exact harg14.read_unread _
    iexact H14

set_option maxHeartbeats 1000000 in
/-- The body's triple at the third. -/
theorem run_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x128 .f32) (harg13 : arg13.IsWhole) (arg14 : Memref sig .tc .vmem S1024x1024 .bf16) (harg14 : arg14.IsWhole) (hc0 : ¬k0_cond1 i = 1#1) (hc1 : ¬k0_cond2 i = 1#1) (hc2 : ¬k0_cond3 i = 1#1) (hc3 : k0_cond4 i = 1#1) (hc4 : ¬k0_cond5 i = 1#1)
    (x0 : Vec F S1024x1024 .f32) (x1 : Vec F S1x1024 .f32) (x2 : Vec F S1024x512 .bf16) (x3 : Vec F S1024x128 .bf16) (x4 : Vec F S1x512 .f32) (x5 : Vec F S1x512 .f32) (x6 : Vec F S512x512 .bf16)
    (y9 : Vec F S1024x512 .bf16) (y10 : Vec F S1024x512 .f32) (y11 : Vec F S1024x512 .f32) (y12 : Vec F S1024x512 .f32) (y13 : Vec F S1024x128 .f32) (y14 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y9) ∗ owns (c : Thread nD τ) arg10 fullShare (y10) ∗ owns (c : Thread nD τ) arg11 fullShare (k0_pay4 y14 x2) ∗ owns (c : Thread nD τ) arg12 fullShare (y12) ∗ owns (c : Thread nD τ) arg13 fullShare (y13) ∗ owns (c : Thread nD τ) arg14 fullShare (y14)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (View.read_writes_full arg11.view _ inb_S1024x512_S1024x512_0_0 _ []).trans ?_
    sl_unfold_words
    simp only [View.readCov_cons_toLoadRect, View.readAt_eq_ld, Memref.IsWhole.read_unread, *]
    simp (disch := decide) only [View.ld_unit_lit]
  isplitl [H12]
  · iexists _; isplitr; · ipureintro; exact harg12.read_unread _
    iexact H12
  isplitl [H13]
  · iexists _; isplitr; · ipureintro; exact harg13.read_unread _
    iexact H13
  · iexists _; isplitr; · ipureintro; exact harg14.read_unread _
    iexact H14

set_option maxHeartbeats 1000000 in
/-- The body's triple at any later one. -/
theorem run_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x128 .f32) (harg13 : arg13.IsWhole) (arg14 : Memref sig .tc .vmem S1024x1024 .bf16) (harg14 : arg14.IsWhole) (hc0 : ¬k0_cond1 i = 1#1) (hc1 : ¬k0_cond2 i = 1#1) (hc2 : ¬k0_cond3 i = 1#1) (hc3 : ¬k0_cond4 i = 1#1) (hc4 : k0_cond5 i = 1#1)
    (x0 : Vec F S1024x1024 .f32) (x1 : Vec F S1x1024 .f32) (x2 : Vec F S1024x512 .bf16) (x3 : Vec F S1024x128 .bf16) (x4 : Vec F S1x512 .f32) (x5 : Vec F S1x512 .f32) (x6 : Vec F S512x512 .bf16)
    (y9 : Vec F S1024x512 .bf16) (y10 : Vec F S1024x512 .f32) (y11 : Vec F S1024x512 .f32) (y12 : Vec F S1024x512 .f32) (y13 : Vec F S1024x128 .f32) (y14 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (y9) ∗ owns (c : Thread nD τ) arg10 fullShare (y10) ∗ owns (c : Thread nD τ) arg11 fullShare (y11) ∗ owns (c : Thread nD τ) arg12 fullShare (k0_pay4 y14 x2) ∗ owns (c : Thread nD τ) arg13 fullShare (y13) ∗ owns (c : Thread nD τ) arg14 fullShare (y14)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14) K := by
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (View.read_writes_full arg12.view _ inb_S1024x512_S1024x512_0_0 _ []).trans ?_
    sl_unfold_words
    simp only [View.readCov_cons_toLoadRect, View.readAt_eq_ld, Memref.IsWhole.read_unread, *]
    simp (disch := decide) only [View.ld_unit_lit]
  isplitl [H13]
  · iexists _; isplitr; · ipureintro; exact harg13.read_unread _
    iexact H13
  · iexists _; isplitr; · ipureintro; exact harg14.read_unread _
    iexact H14

end Cert.ProjIdeal.Pj
end
-- ==== Proof.Proj.Frame.lean ====
module

public import proofs.«01_k».proof.Proof.Proj.Run
public import Idealize.ShloMosaic.Lib.Pipeline.TableIdle
public import Idealize.ShloMosaic.Lib.Claim

/-! # The run of the projection call

The proof data of the pipeline. Each input window holds its block. The queries, keys, values and small
columns of a row block are stored at its first, second, third and first column tile, and stay in their
buffers until its last tile, where they are written back; the rest is stored and written back tile by tile.
The scratch holds the row block's normalised rows. -/

@[expose] public section

set_option maxRecDepth 16384

noncomputable section

namespace Cert.ProjIdeal.Pj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The kind of a grid point -/

theorem hcond0 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond1 : ∀ t : Fin cfg0.N, k0_cond2 (grid0.coords t) = 1#1 ↔ t.val % 16 = 0 :=
  (by decide +kernel : ∀ t : Fin grid0.N, k0_cond2 (grid0.coords t) = 1#1 ↔ t.val % 16 = 0)
theorem hcond2 : ∀ t : Fin cfg0.N, k0_cond3 (grid0.coords t) = 1#1 ↔ t.val % 16 = 1 :=
  (by decide +kernel : ∀ t : Fin grid0.N, k0_cond3 (grid0.coords t) = 1#1 ↔ t.val % 16 = 1)
theorem hcond3 : ∀ t : Fin cfg0.N, k0_cond4 (grid0.coords t) = 1#1 ↔ t.val % 16 = 2 :=
  (by decide +kernel : ∀ t : Fin grid0.N, k0_cond4 (grid0.coords t) = 1#1 ↔ t.val % 16 = 2)
theorem hcond4 : ∀ t : Fin cfg0.N, k0_cond5 (grid0.coords t) = 1#1 ↔ 3 ≤ t.val % 16 :=
  (by decide +kernel : ∀ t : Fin grid0.N, k0_cond5 (grid0.coords t) = 1#1 ↔ 3 ≤ t.val % 16)

theorem N_val : cfg0.N = 256 := N_0

theorem idle7 : ∀ t : Fin cfg0.N, cfg0.idle 7 (grid0.coords t) = decide (t.val % 16 ≠ 0) :=
  (by decide +kernel : ∀ t : Fin grid0.N, idle0 7 (grid0.coords t) = decide (t.val % 16 ≠ 0))

theorem flushF7 : ∀ t : Fin cfg0.N, (cfg0.win 7).flush t = decide (t.val % 16 = 15) := by
  intro t
  rw [Pipeline.Window.flush_eq_flushF]
  exact (by decide +kernel : ∀ t : Fin grid0.N, win0_7.flushF t = decide (t.val % 16 = 15)) t

theorem fresh7 : ∀ n, n ≤ cfg0.N → cfg0.fresh 7 n = decide (n % 16 = 0) :=
  cfg0.fresh_tab 7 (fun n => decide (n % 16 = 0)) (by decide) (fun t => by
    rw [flushF7 t, show cfg0.idle 7 (cfg0.grid.coords t) = _ from idle7 t]
    exact (by decide +kernel : ∀ t : Fin 256, (decide ((t.val + 1) % 16 = 0) : Bool) = (decide (t.val % 16 = 15) || (decide (t.val % 16 ≠ 0) && decide (t.val % 16 = 0)))) (t.cast N_val))

theorem idle8 : ∀ t : Fin cfg0.N, cfg0.idle 8 (grid0.coords t) = decide (t.val % 16 ≠ 1) :=
  (by decide +kernel : ∀ t : Fin grid0.N, idle0 8 (grid0.coords t) = decide (t.val % 16 ≠ 1))

theorem flushF8 : ∀ t : Fin cfg0.N, (cfg0.win 8).flush t = decide (t.val % 16 = 15) := by
  intro t
  rw [Pipeline.Window.flush_eq_flushF]
  exact (by decide +kernel : ∀ t : Fin grid0.N, win0_8.flushF t = decide (t.val % 16 = 15)) t

theorem fresh8 : ∀ n, n ≤ cfg0.N → cfg0.fresh 8 n = decide (n % 16 ≤ 1) :=
  cfg0.fresh_tab 8 (fun n => decide (n % 16 ≤ 1)) (by decide) (fun t => by
    rw [flushF8 t, show cfg0.idle 8 (cfg0.grid.coords t) = _ from idle8 t]
    exact (by decide +kernel : ∀ t : Fin 256, (decide ((t.val + 1) % 16 ≤ 1) : Bool) = (decide (t.val % 16 = 15) || (decide (t.val % 16 ≠ 1) && decide (t.val % 16 ≤ 1)))) (t.cast N_val))

theorem idle9 : ∀ t : Fin cfg0.N, cfg0.idle 9 (grid0.coords t) = decide (t.val % 16 ≠ 2) :=
  (by decide +kernel : ∀ t : Fin grid0.N, idle0 9 (grid0.coords t) = decide (t.val % 16 ≠ 2))

theorem flushF9 : ∀ t : Fin cfg0.N, (cfg0.win 9).flush t = decide (t.val % 16 = 15) := by
  intro t
  rw [Pipeline.Window.flush_eq_flushF]
  exact (by decide +kernel : ∀ t : Fin grid0.N, win0_9.flushF t = decide (t.val % 16 = 15)) t

theorem fresh9 : ∀ n, n ≤ cfg0.N → cfg0.fresh 9 n = decide (n % 16 ≤ 2) :=
  cfg0.fresh_tab 9 (fun n => decide (n % 16 ≤ 2)) (by decide) (fun t => by
    rw [flushF9 t, show cfg0.idle 9 (cfg0.grid.coords t) = _ from idle9 t]
    exact (by decide +kernel : ∀ t : Fin 256, (decide ((t.val + 1) % 16 ≤ 2) : Bool) = (decide (t.val % 16 = 15) || (decide (t.val % 16 ≠ 2) && decide (t.val % 16 ≤ 2)))) (t.cast N_val))

theorem idle10 : ∀ t : Fin cfg0.N, cfg0.idle 10 (grid0.coords t) = decide (t.val % 16 < 3) :=
  (by decide +kernel : ∀ t : Fin grid0.N, idle0 10 (grid0.coords t) = decide (t.val % 16 < 3))

theorem flushF10 : ∀ t : Fin cfg0.N, (cfg0.win 10).flush t = decide (3 ≤ t.val % 16) := by
  intro t
  rw [Pipeline.Window.flush_eq_flushF]
  exact (by decide +kernel : ∀ t : Fin grid0.N, win0_10.flushF t = decide (3 ≤ t.val % 16)) t

theorem fresh10 : ∀ n, n ≤ cfg0.N → cfg0.fresh 10 n = true :=
  cfg0.fresh_tab 10 (fun n => true) (by decide) (fun t => by
    rw [flushF10 t, show cfg0.idle 10 (cfg0.grid.coords t) = _ from idle10 t]
    exact (by decide +kernel : ∀ t : Fin 256, (true : Bool) = (decide (3 ≤ t.val % 16) || (decide (t.val % 16 < 3) && true))) (t.cast N_val))

theorem idle11 : ∀ t : Fin cfg0.N, cfg0.idle 11 (grid0.coords t) = decide (t.val % 16 ≠ 0) :=
  (by decide +kernel : ∀ t : Fin grid0.N, idle0 11 (grid0.coords t) = decide (t.val % 16 ≠ 0))

theorem flushF11 : ∀ t : Fin cfg0.N, (cfg0.win 11).flush t = decide (t.val % 16 = 15) := by
  intro t
  rw [Pipeline.Window.flush_eq_flushF]
  exact (by decide +kernel : ∀ t : Fin grid0.N, win0_11.flushF t = decide (t.val % 16 = 15)) t

theorem fresh11 : ∀ n, n ≤ cfg0.N → cfg0.fresh 11 n = decide (n % 16 = 0) :=
  cfg0.fresh_tab 11 (fun n => decide (n % 16 = 0)) (by decide) (fun t => by
    rw [flushF11 t, show cfg0.idle 11 (cfg0.grid.coords t) = _ from idle11 t]
    exact (by decide +kernel : ∀ t : Fin 256, (decide ((t.val + 1) % 16 = 0) : Bool) = (decide (t.val % 16 = 15) || (decide (t.val % 16 ≠ 0) && decide (t.val % 16 = 0)))) (t.cast N_val))

variable (m : (ℓ : Loc nD τ sig) → Buf (Elt F) ℓ) (ρ : Dev nD → PrngReg)

/-! ## The proof data -/

/-- Point `k` of the row block point `t` is in. -/
def base (k : Fin 16) (t : Fin cfg0.N) : Fin cfg0.N :=
  ⟨t.val / 16 * 16 + k.val, by have h : t.val < 256 := lt_of_lt_of_eq t.isLt N_val; have := k.isLt; exact lt_of_lt_of_eq (by omega : t.val / 16 * 16 + k.val < 256) N_val.symm⟩

theorem base_eq (k : Fin 16) (t : Fin cfg0.N) (h : t.val % 16 = k.val) : base k t = t :=
  Fin.ext (by show t.val / 16 * 16 + k.val = t.val; omega)

theorem base_pred (k : Fin 16) (t s : Fin cfg0.N) (h : t.val % 16 ≠ 0) (hs : s.val = t.val - 1) : base k s = base k t :=
  Fin.ext (by show s.val / 16 * 16 + k.val = t.val / 16 * 16 + k.val; omega)

/-- The row block's normalised rows. -/
def hAt (c : Dev nD) (t : Fin cfg0.N) : Vec F S1024x1024 .bf16 :=
  k0_pay2 (iblk m c 0 (base 0 t)) (iblk m c 1 (base 0 t))

/-- Its queries, -/
def qAt (c : Dev nD) (t : Fin cfg0.N) : Vec F S1024x512 .bf16 :=
  k0_pay5 (hAt m c t) (iblk m c 2 (base 0 t)) (iblk m c 4 (base 0 t)) (iblk m c 6 (base 0 t)) (iblk m c 6 (base 0 t))

/-- keys, -/
def kAt (c : Dev nD) (t : Fin cfg0.N) : Vec F S1024x512 .f32 :=
  k0_pay6 (hAt m c t) (iblk m c 2 (base 1 t)) (iblk m c 5 (base 1 t)) (iblk m c 6 (base 1 t)) (iblk m c 6 (base 1 t))

/-- values, -/
def vAt (c : Dev nD) (t : Fin cfg0.N) : Vec F S1024x512 .f32 :=
  k0_pay4 (hAt m c t) (iblk m c 2 (base 2 t))

/-- the tile of the rest at the point itself, -/
def rAt (c : Dev nD) (t : Fin cfg0.N) : Vec F S1024x512 .f32 :=
  k0_pay4 (hAt m c t) (iblk m c 2 t)

/-- and its small columns. -/
def sAt (c : Dev nD) (t : Fin cfg0.N) : Vec F S1024x128 .f32 :=
  k0_pay3 (iblk m c 0 (base 0 t)) (iblk m c 1 (base 0 t)) (iblk m c 3 (base 0 t))

theorem hAt_pred (c : Dev nD) (t s : Fin cfg0.N) (h : t.val % 16 ≠ 0) (hs : s.val = t.val - 1) : hAt m c s = hAt m c t := by
  unfold hAt; rw [base_pred 0 t s h hs]
theorem qAt_pred (c : Dev nD) (t s : Fin cfg0.N) (h : t.val % 16 ≠ 0) (hs : s.val = t.val - 1) : qAt m c s = qAt m c t := by
  unfold qAt; rw [hAt_pred m c t s h hs, base_pred 0 t s h hs]
theorem kAt_pred (c : Dev nD) (t s : Fin cfg0.N) (h : t.val % 16 ≠ 0) (hs : s.val = t.val - 1) : kAt m c s = kAt m c t := by
  unfold kAt; rw [hAt_pred m c t s h hs, base_pred 1 t s h hs]
theorem vAt_pred (c : Dev nD) (t s : Fin cfg0.N) (h : t.val % 16 ≠ 0) (hs : s.val = t.val - 1) : vAt m c s = vAt m c t := by
  unfold vAt; rw [hAt_pred m c t s h hs, base_pred 2 t s h hs]
theorem sAt_pred (c : Dev nD) (t s : Fin cfg0.N) (h : t.val % 16 ≠ 0) (hs : s.val = t.val - 1) : sAt m c s = sAt m c t := by
  unfold sAt; rw [base_pred 0 t s h hs]

theorem hAt_base (c : Dev nD) (t : Fin cfg0.N) (h : t.val % 16 = 0) : hAt m c t = k0_pay2 (iblk m c 0 t) (iblk m c 1 t) := by
  unfold hAt; rw [base_eq 0 t h]
theorem qAt_base (c : Dev nD) (t : Fin cfg0.N) (h : t.val % 16 = 0) :
    qAt m c t = k0_pay5 (k0_pay2 (iblk m c 0 t) (iblk m c 1 t)) (iblk m c 2 t) (iblk m c 4 t) (iblk m c 6 t) (iblk m c 6 t) := by
  unfold qAt; rw [hAt_base m c t h, base_eq 0 t h]
theorem kAt_base (c : Dev nD) (t : Fin cfg0.N) (h : t.val % 16 = 1) :
    kAt m c t = k0_pay6 (hAt m c t) (iblk m c 2 t) (iblk m c 5 t) (iblk m c 6 t) (iblk m c 6 t) := by
  unfold kAt; rw [base_eq 1 t h]
theorem vAt_base (c : Dev nD) (t : Fin cfg0.N) (h : t.val % 16 = 2) : vAt m c t = k0_pay4 (hAt m c t) (iblk m c 2 t) := by
  unfold vAt; rw [base_eq 2 t h]
theorem sAt_base (c : Dev nD) (t : Fin cfg0.N) (h : t.val % 16 = 0) : sAt m c t = k0_pay3 (iblk m c 0 t) (iblk m c 1 t) (iblk m c 3 t) := by
  unfold sAt; rw [base_eq 0 t h]

abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x512 .bf16 := win0_2.stage (cfg0.slots t 2)
abbrev ms0_3 (t : Fin cfg0.N) : Memref sig .tc .vmem S1024x128 .bf16 := win0_3.stage (cfg0.slots t 3)
abbrev ms0_4 (t : Fin cfg0.N) : Memref sig .tc .vmem S1x512 .f32 := win0_4.stage (cfg0.slots t 4)
abbrev ms0_5 (t : Fin cfg0.N) : Memref sig .tc .vmem S1x512 .f32 := win0_5.stage (cfg0.slots t 5)
abbrev ms0_6 (t : Fin cfg0.N) : Memref sig .tc .vmem S512x512 .bf16 := win0_6.stage (cfg0.slots t 6)
abbrev ms0_7 (t : Fin cfg0.N) : Memref sig .tc .vmem S1024x512 .bf16 := win0_7.stage (cfg0.slots t 7)
abbrev ms0_8 (t : Fin cfg0.N) : Memref sig .tc .vmem S1024x512 .f32 := win0_8.stage (cfg0.slots t 8)
abbrev ms0_9 (t : Fin cfg0.N) : Memref sig .tc .vmem S1024x512 .f32 := win0_9.stage (cfg0.slots t 9)
abbrev ms0_10 (t : Fin cfg0.N) : Memref sig .tc .vmem S1024x512 .f32 := win0_10.stage (cfg0.slots t 10)
abbrev ms0_11 (t : Fin cfg0.N) : Memref sig .tc .vmem S1024x128 .f32 := win0_11.stage (cfg0.slots t 11)
abbrev scM0_0 : Memref sig .tc .vmem S1024x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant: the scratch at the normalised rows of the point before. -/
def PhiS (c : Dev nD) : (n : ℕ) → n ≤ cfg0.N → sProp 𝕄
  | 0, _ => Pipeline.ΦA spec0 c
  | n + 1, hn => iprop(owns (c : Thread nD τ) scM0_0 fullShare (hAt m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (hAt m c ⟨n, hn⟩) ∗ (∃ r, prngReg c r)) := rfl

theorem PhiS_pos (c : Dev nD) (n : ℕ) (h : n ≤ cfg0.N) (hz : n ≠ 0) :
    PhiS m c n h = iprop(owns (c : Thread nD τ) scM0_0 fullShare (hAt m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qAt m c t
    | ⟨8, _⟩ => kAt m c t
    | ⟨9, _⟩ => vAt m c t
    | ⟨10, _⟩ => rAt m c t
    | ⟨11, _⟩ => sAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qAt m c t := by dsimp only [dats]
theorem after0_8 (c : Dev nD) (t : Fin cfg0.N) : (dats m 0 c).after 8 t = kAt m c t := by dsimp only [dats]
theorem after0_9 (c : Dev nD) (t : Fin cfg0.N) : (dats m 0 c).after 9 t = vAt m c t := by dsimp only [dats]
theorem after0_10 (c : Dev nD) (t : Fin cfg0.N) : (dats m 0 c).after 10 t = rAt m c t := by dsimp only [dats]
theorem after0_11 (c : Dev nD) (t : Fin cfg0.N) : (dats m 0 c).after 11 t = sAt m c t := by dsimp only [dats]
theorem before0_0 (c : Dev nD) (t : Fin cfg0.N) (d) : (dats m 0 c).before 0 t d = iblk m c 0 t :=
  before0_0_of m (dats m 0 c) (A_eq m c 0) (after0_0 m c) t d
theorem leave0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem before0_1 (c : Dev nD) (t : Fin cfg0.N) (d) : (dats m 0 c).before 1 t d = iblk m c 1 t :=
  before0_1_of m (dats m 0 c) (A_eq m c 1) (after0_1 m c) t d
theorem leave1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem before0_2 (c : Dev nD) (t : Fin cfg0.N) (d) : (dats m 0 c).before 2 t d = iblk m c 2 t :=
  before0_2_of m (dats m 0 c) (A_eq m c 2) (after0_2 m c) t d
theorem leave2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem before0_3 (c : Dev nD) (t : Fin cfg0.N) (d) : (dats m 0 c).before 3 t d = iblk m c 3 t :=
  before0_3_of m (dats m 0 c) (A_eq m c 3) (after0_3 m c) t d
theorem leave3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem before0_4 (c : Dev nD) (t : Fin cfg0.N) (d) : (dats m 0 c).before 4 t d = iblk m c 4 t :=
  before0_4_of m (dats m 0 c) (A_eq m c 4) (after0_4 m c) t d
theorem leave4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem before0_5 (c : Dev nD) (t : Fin cfg0.N) (d) : (dats m 0 c).before 5 t d = iblk m c 5 t :=
  before0_5_of m (dats m 0 c) (A_eq m c 5) (after0_5 m c) t d
theorem leave5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem before0_6 (c : Dev nD) (t : Fin cfg0.N) (d) : (dats m 0 c).before 6 t d = iblk m c 6 t :=
  before0_6_of m (dats m 0 c) (A_eq m c 6) (after0_6 m c) t d
theorem leave6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]

/-- A point that stores nothing into window 7 leaves its buffer as it must be. -/
theorem keep7 (c : Dev nD) (t : Fin cfg0.N) (h : t.val % 16 ≠ 0) (d) :
    owns (c : Thread nD τ) (ms0_7 t) fullShare ((dats m 0 c).before 7 t d) ⊢ ((dats m 0 c).leavesExact 7 t : sProp 𝕄) := by
  have hi : cfg0.idle 7 (cfg0.grid.coords t) = true := (idle7 t).trans (decide_eq_true h)
  have hf' := flushF7 t
  unfold Dat.leavesExact
  rw [hi]
  cases hf : (cfg0.win 7).flush t
  · dsimp only
    iintro H
    iexists d
    iexact H
  · rw [hf'] at hf
    dsimp only
    have ht : t.val % 16 = 15 := of_decide_eq_true hf
    have e : (dats m 0 c).before 7 t d = (dats m 0 c).after 7 t := by
      rw [(dats m 0 c).before_out_traj 7 rfl (fun _ _ => rfl) (fun t _ hi hf => by
      rw [show cfg0.idle 7 (cfg0.grid.coords t) = _ from idle7 t, decide_eq_true_eq] at hi
      rw [fresh7 t.val (Nat.le_of_lt t.isLt), decide_eq_false_iff_not] at hf
      rw [after0_7, after0_7]
      exact (qAt_pred m c t _ (by omega) rfl).symm) t.val t rfl d,
        fresh7 t.val (Nat.le_of_lt t.isLt), if_neg (by rw [decide_eq_true_eq]; omega), after0_7, after0_7]
      exact qAt_pred m c t _ (by omega) rfl
    rw [e]

theorem store7 (c : Dev nD) (t : Fin cfg0.N) (h : t.val % 16 = 0) :
    ((dats m 0 c).leavesExact 7 t : sProp 𝕄) = owns (c : Thread nD τ) (ms0_7 t) fullShare (qAt m c t) := by
  have hi : cfg0.idle 7 (cfg0.grid.coords t) = false := (idle7 t).trans (decide_eq_false (by omega))
  unfold Dat.leavesExact
  rw [hi, after0_7]

/-- A point that stores nothing into window 8 leaves its buffer as it must be. -/
theorem keep8 (c : Dev nD) (t : Fin cfg0.N) (h : t.val % 16 ≠ 1) (d) :
    owns (c : Thread nD τ) (ms0_8 t) fullShare ((dats m 0 c).before 8 t d) ⊢ ((dats m 0 c).leavesExact 8 t : sProp 𝕄) := by
  have hi : cfg0.idle 8 (cfg0.grid.coords t) = true := (idle8 t).trans (decide_eq_true h)
  have hf' := flushF8 t
  unfold Dat.leavesExact
  rw [hi]
  cases hf : (cfg0.win 8).flush t
  · dsimp only
    iintro H
    iexists d
    iexact H
  · rw [hf'] at hf
    dsimp only
    have ht : t.val % 16 = 15 := of_decide_eq_true hf
    have e : (dats m 0 c).before 8 t d = (dats m 0 c).after 8 t := by
      rw [(dats m 0 c).before_out_traj 8 rfl (fun _ _ => rfl) (fun t _ hi hf => by
      rw [show cfg0.idle 8 (cfg0.grid.coords t) = _ from idle8 t, decide_eq_true_eq] at hi
      rw [fresh8 t.val (Nat.le_of_lt t.isLt), decide_eq_false_iff_not] at hf
      rw [after0_8, after0_8]
      exact (kAt_pred m c t _ (by omega) rfl).symm) t.val t rfl d,
        fresh8 t.val (Nat.le_of_lt t.isLt), if_neg (by rw [decide_eq_true_eq]; omega), after0_8, after0_8]
      exact kAt_pred m c t _ (by omega) rfl
    rw [e]

theorem store8 (c : Dev nD) (t : Fin cfg0.N) (h : t.val % 16 = 1) :
    ((dats m 0 c).leavesExact 8 t : sProp 𝕄) = owns (c : Thread nD τ) (ms0_8 t) fullShare (kAt m c t) := by
  have hi : cfg0.idle 8 (cfg0.grid.coords t) = false := (idle8 t).trans (decide_eq_false (by omega))
  unfold Dat.leavesExact
  rw [hi, after0_8]

/-- A point that stores nothing into window 9 leaves its buffer as it must be. -/
theorem keep9 (c : Dev nD) (t : Fin cfg0.N) (h : t.val % 16 ≠ 2) (d) :
    owns (c : Thread nD τ) (ms0_9 t) fullShare ((dats m 0 c).before 9 t d) ⊢ ((dats m 0 c).leavesExact 9 t : sProp 𝕄) := by
  have hi : cfg0.idle 9 (cfg0.grid.coords t) = true := (idle9 t).trans (decide_eq_true h)
  have hf' := flushF9 t
  unfold Dat.leavesExact
  rw [hi]
  cases hf : (cfg0.win 9).flush t
  · dsimp only
    iintro H
    iexists d
    iexact H
  · rw [hf'] at hf
    dsimp only
    have ht : t.val % 16 = 15 := of_decide_eq_true hf
    have e : (dats m 0 c).before 9 t d = (dats m 0 c).after 9 t := by
      rw [(dats m 0 c).before_out_traj 9 rfl (fun _ _ => rfl) (fun t _ hi hf => by
      rw [show cfg0.idle 9 (cfg0.grid.coords t) = _ from idle9 t, decide_eq_true_eq] at hi
      rw [fresh9 t.val (Nat.le_of_lt t.isLt), decide_eq_false_iff_not] at hf
      rw [after0_9, after0_9]
      exact (vAt_pred m c t _ (by omega) rfl).symm) t.val t rfl d,
        fresh9 t.val (Nat.le_of_lt t.isLt), if_neg (by rw [decide_eq_true_eq]; omega), after0_9, after0_9]
      exact vAt_pred m c t _ (by omega) rfl
    rw [e]

theorem store9 (c : Dev nD) (t : Fin cfg0.N) (h : t.val % 16 = 2) :
    ((dats m 0 c).leavesExact 9 t : sProp 𝕄) = owns (c : Thread nD τ) (ms0_9 t) fullShare (vAt m c t) := by
  have hi : cfg0.idle 9 (cfg0.grid.coords t) = false := (idle9 t).trans (decide_eq_false (by omega))
  unfold Dat.leavesExact
  rw [hi, after0_9]

/-- A point that stores nothing into window 10 leaves its buffer as it must be. -/
theorem keep10 (c : Dev nD) (t : Fin cfg0.N) (h : t.val % 16 < 3) (d) :
    owns (c : Thread nD τ) (ms0_10 t) fullShare ((dats m 0 c).before 10 t d) ⊢ ((dats m 0 c).leavesExact 10 t : sProp 𝕄) := by
  have hi : cfg0.idle 10 (cfg0.grid.coords t) = true := (idle10 t).trans (decide_eq_true h)
  have hf' := flushF10 t
  unfold Dat.leavesExact
  rw [hi]
  cases hf : (cfg0.win 10).flush t
  · dsimp only
    iintro H
    iexists d
    iexact H
  · rw [hf'] at hf
    dsimp only
    exact absurd (of_decide_eq_true hf) (by omega)

theorem store10 (c : Dev nD) (t : Fin cfg0.N) (h : 3 ≤ t.val % 16) :
    ((dats m 0 c).leavesExact 10 t : sProp 𝕄) = owns (c : Thread nD τ) (ms0_10 t) fullShare (rAt m c t) := by
  have hi : cfg0.idle 10 (cfg0.grid.coords t) = false := (idle10 t).trans (decide_eq_false (by omega))
  unfold Dat.leavesExact
  rw [hi, after0_10]

/-- A point that stores nothing into window 11 leaves its buffer as it must be. -/
theorem keep11 (c : Dev nD) (t : Fin cfg0.N) (h : t.val % 16 ≠ 0) (d) :
    owns (c : Thread nD τ) (ms0_11 t) fullShare ((dats m 0 c).before 11 t d) ⊢ ((dats m 0 c).leavesExact 11 t : sProp 𝕄) := by
  have hi : cfg0.idle 11 (cfg0.grid.coords t) = true := (idle11 t).trans (decide_eq_true h)
  have hf' := flushF11 t
  unfold Dat.leavesExact
  rw [hi]
  cases hf : (cfg0.win 11).flush t
  · dsimp only
    iintro H
    iexists d
    iexact H
  · rw [hf'] at hf
    dsimp only
    have ht : t.val % 16 = 15 := of_decide_eq_true hf
    have e : (dats m 0 c).before 11 t d = (dats m 0 c).after 11 t := by
      rw [(dats m 0 c).before_out_traj 11 rfl (fun _ _ => rfl) (fun t _ hi hf => by
      rw [show cfg0.idle 11 (cfg0.grid.coords t) = _ from idle11 t, decide_eq_true_eq] at hi
      rw [fresh11 t.val (Nat.le_of_lt t.isLt), decide_eq_false_iff_not] at hf
      rw [after0_11, after0_11]
      exact (sAt_pred m c t _ (by omega) rfl).symm) t.val t rfl d,
        fresh11 t.val (Nat.le_of_lt t.isLt), if_neg (by rw [decide_eq_true_eq]; omega), after0_11, after0_11]
      exact sAt_pred m c t _ (by omega) rfl
    rw [e]

theorem store11 (c : Dev nD) (t : Fin cfg0.N) (h : t.val % 16 = 0) :
    ((dats m 0 c).leavesExact 11 t : sProp 𝕄) = owns (c : Thread nD τ) (ms0_11 t) fullShare (sAt m c t) := by
  have hi : cfg0.idle 11 (cfg0.grid.coords t) = false := (idle11 t).trans (decide_eq_false (by omega))
  unfold Dat.leavesExact
  rw [hi, after0_11]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1200000 in
theorem body_A (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leave0, leave1, leave2, leave3, leave4, leave5, leave6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [store7 m c t h, store11 m c t h]
  by_cases hz : t.val = 0
  · rw [PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) _ _ _ _ _ _ _ _ _ _ _ _ _ _ _ _ _ _ _ _ _ _ _ _ _ _ ((hcond0 t).mpr (by omega)) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · rw [hAt_base m c t h]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [qAt_base m c t h]; iexact H7
    isplitl [H8]; · iapply (keep8 m c t (by omega) d8); iexact H8
    isplitl [H9]; · iapply (keep9 m c t (by omega) d9); iexact H9
    isplitl [H10]; · iapply (keep10 m c t (by omega) d10); iexact H10
    rw [sAt_base m c t h]; iexact H11
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) _ _ _ _ _ _ _ _ _ _ _ _ _ _ _ _ _ _ _ _ _ _ _ _ _ _ ((hcond0 t).mpr (by omega)) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · rw [hAt_base m c t h]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [qAt_base m c t h]; iexact H7
    isplitl [H8]; · iapply (keep8 m c t (by omega) d8); iexact H8
    isplitl [H9]; · iapply (keep9 m c t (by omega) d9); iexact H9
    isplitl [H10]; · iapply (keep10 m c t (by omega) d10); iexact H10
    rw [sAt_base m c t h]; iexact H11

set_option maxHeartbeats 1200000 in
theorem body_B (c : Dev nD) (t : Fin cfg0.N) (h : t.val % 16 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leave0, leave1, leave2, leave3, leave4, leave5, leave6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [store8 m c t h]
  rw [PhiS_pos m c _ _ (by omega), hAt_pred m c t ⟨t.val - 1, by omega⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ (fun h => absurd ((hcond0 t).mp h) (by omega)) (fun h => absurd ((hcond1 t).mp h) (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  isplitl [H8]; · rw [kAt_base m c t h]; iexact H8
  isplitl [H9]; · iapply (keep9 m c t (by omega) d9); iexact H9
  isplitl [H10]; · iapply (keep10 m c t (by omega) d10); iexact H10
  iapply (keep11 m c t (by omega) d11); iexact H11

set_option maxHeartbeats 1200000 in
theorem body_C (c : Dev nD) (t : Fin cfg0.N) (h : t.val % 16 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leave0, leave1, leave2, leave3, leave4, leave5, leave6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [store9 m c t h]
  rw [PhiS_pos m c _ _ (by omega), hAt_pred m c t ⟨t.val - 1, by omega⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  isplitl [H8]; · iapply (keep8 m c t (by omega) d8); iexact H8
  isplitl [H9]; · rw [vAt_base m c t h]; iexact H9
  isplitl [H10]; · iapply (keep10 m c t (by omega) d10); iexact H10
  iapply (keep11 m c t (by omega) d11); iexact H11

set_option maxHeartbeats 1200000 in
theorem body_D (c : Dev nD) (t : Fin cfg0.N) (h : 3 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leave0, leave1, leave2, leave3, leave4, leave5, leave6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [store10 m c t h]
  rw [PhiS_pos m c _ _ (by omega), hAt_pred m c t ⟨t.val - 1, by omega⟩ (by omega) rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) _ _ _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) (fun h => absurd ((hcond3 t).mp h) (by omega)) ((hcond4 t).mpr (by omega)) (iblk m c 0 t) (iblk m c 1 t) (iblk m c 2 t) (iblk m c 3 t) (iblk m c 4 t) (iblk m c 5 t) (iblk m c 6 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  isplitl [H8]; · iapply (keep8 m c t (by omega) d8); iexact H8
  isplitl [H9]; · iapply (keep9 m c t (by omega) d9); iexact H9
  isplitl [H10]; · iexact H10
  iapply (keep11 m c t (by omega) d11); iexact H11

theorem sound_body (c : Dev nD) (t : Fin cfg0.N) :
    bodyPre m c t ⊢ wp frame (wpE (defs₀ (F := F)) Variants.none c none) Set.univ (bodyAt0 t) (fun _ => bodyPost m c t) := by
  rcases (by omega : t.val % 16 = 0 ∨ t.val % 16 = 1 ∨ t.val % 16 = 2 ∨ 3 ≤ t.val % 16) with h | h | h | h
  · exact body_A m c t h
  · exact body_B m c t h
  · exact body_C m c t h
  · exact body_D m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, its scratch at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_val]; decide), PhiA0_eq]
  iintro ⟨HS0, Hg⟩
  isplitl [HS0]
  · iexists _; iexact HS0
  iexact Hg

/-! ## The run and the frame -/

set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ProjIdeal.Pj
end
-- ==== Proof.Projections.lean ====
module

public import proofs.«01_k».proof.Proof.Spec
public import proofs.«01_k».proof.Proof.FeedForward

/-! The projections as formulas of their arguments.

The stream is normalised and multiplied by 8200 columns of weights. The columns are the queries', the keys' and
the values' (512 each, eight heads of 64 lanes), the branches' (3584), the small ones (8) and the gates' (3072).
The queries and the keys are normalised head by head. -/

@[expose] public section

noncomputable section

namespace Cert.Projections

open Idealize.ShloMosaic
open Cert.FeedForward (Stream Gain normed scale)
open Cert.StickBreaking (headOf κ2)

abbrev Columns : Type := (⟨2, ![1024, 8200]⟩ : Shape).Idx → EReal
abbrev HeadGain : Type := (⟨1, ![64]⟩ : Shape).Idx → EReal

/-- Lane `l` of head `h`. -/
def lane (h : Fin 8) (l : Fin 64) : Fin 512 := ⟨h * 64 + l, by omega⟩

/-- A column of the projection of a row. -/
def proj (x : Stream) (g : Gain) (w : Columns) (r : Fin 16384) (c : Fin 8200) : EReal :=
  ∑ d : Fin 1024, normed x g r d * w (ix2 d c)

/-- What a lane is multiplied by: one over the root of its head's mean square. -/
def headScale (y : Fin 512 → EReal) (c : Fin 512) : EReal :=
  Ideal.rsqrt (Ideal.div (∑ l : Fin 64, y (lane (headOf c) l) * y (lane (headOf c) l)) (Ideal.ofBits .f32 0x42800000#32) + Ideal.ofBits .f32 0x358637BD#32)
/-- The lanes normalised head by head. -/
def headed (y : Fin 512 → EReal) (γ : HeadGain) (c : Fin 512) : EReal := y c * headScale y c * γ (ix1 ⟨(c : ℕ) % 64, by omega⟩)

/-- The queries, scaled to units of log 2. -/
def query (x : Stream) (g : Gain) (w : Columns) (γ : HeadGain) (r : Fin 16384) (c : Fin 512) : EReal :=
  headed (fun k => proj x g w r ⟨k, by omega⟩) γ c * ((1 / 8 * κ2 : ℝ) : EReal)
/-- The keys. -/
def key (x : Stream) (g : Gain) (w : Columns) (γ : HeadGain) (r : Fin 16384) (c : Fin 512) : EReal :=
  headed (fun k => proj x g w r ⟨512 + k, by omega⟩) γ c
/-- The values. -/
def value (x : Stream) (g : Gain) (w : Columns) (r : Fin 16384) (c : Fin 512) : EReal := proj x g w r ⟨1024 + c, by omega⟩
/-- The column of the weights a column of the rest is: the gates' first, then the branches'. -/
def restCol (c : Fin 6656) : Fin 8200 := if h : (c : ℕ) < 3072 then ⟨5128 + c, by omega⟩ else ⟨1536 + (c - 3072), by omega⟩
/-- The gates' logits and the branches' inputs. -/
def rest (x : Stream) (g : Gain) (w : Columns) (r : Fin 16384) (c : Fin 6656) : EReal := proj x g w r (restCol c)
/-- The small columns, and zero past them. -/
def small (x : Stream) (g : Gain) (w : Columns) (r : Fin 16384) (c : Fin 128) : EReal :=
  if h : (c : ℕ) < 8 then proj x g w r ⟨5120 + c, by omega⟩ else 0
/-- The column of the weights a column of the kernel's wide weights is. -/
def wideCol (c : Fin 8192) : Fin 8200 :=
  if h : (c : ℕ) < 1536 then ⟨c, by omega⟩ else if h' : (c : ℕ) < 4608 then ⟨5128 + (c - 1536), by omega⟩ else ⟨1536 + (c - 4608), by omega⟩

theorem wideCol_low (c : Fin 8192) (h : (c : ℕ) < 1536) : wideCol c = ⟨c, by omega⟩ := dif_pos h
theorem wideCol_rest (c : Fin 6656) : wideCol ⟨1536 + c, by omega⟩ = restCol c := by
  unfold wideCol restCol
  rw [dif_neg (by simp)]
  refine Fin.ext ?_
  by_cases h : (c : ℕ) < 3072
  · rw [dif_pos (by simp; omega), dif_pos h]; simp
  · rw [dif_neg (by simp; omega), dif_neg h]; simp; omega

/-! ## The numbers are real -/

theorem bits_rows : Ideal.ofBits .f32 0x44800000#32 = ((1024 : ℝ) : EReal) := by
  simp [Ideal.ofBits, Ideal.ieee, -EReal.coe_mul]; norm_num
theorem bits_lanes : Ideal.ofBits .f32 0x42800000#32 = ((64 : ℝ) : EReal) := by
  simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem div_lanes (x : EReal) : Ideal.div x (Ideal.ofBits .f32 0x42800000#32) = x * ((1 / 64 : ℝ) : EReal) := by
  rw [bits_lanes, Ideal.div_coe (by norm_num)]

/-- A sum of reals is real. -/
theorem real_sum {ι : Type} (s : Finset ι) (f : ι → EReal) (h : ∀ i ∈ s, ∃ a : ℝ, f i = (a : EReal)) : ∃ a : ℝ, ∑ i ∈ s, f i = (a : EReal) := by
  classical
  induction s using Finset.induction_on with
  | empty => exact ⟨0, by simp⟩
  | insert i s hi ih =>
    obtain ⟨a, ha⟩ := h i (Finset.mem_insert_self i s)
    obtain ⟨b, hb⟩ := ih fun j hj => h j (Finset.mem_insert_of_mem hj)
    exact ⟨a + b, by rw [Finset.sum_insert hi, ha, hb, EReal.coe_add]⟩

theorem mul_self_nonneg' (x : EReal) : 0 ≤ x * x := by
  induction x with
  | bot => simp
  | top => simp
  | coe x => rw [← EReal.coe_mul]; exact_mod_cast mul_self_nonneg x

/-- A normalised lane is real when its gain is: an infinite lane makes the row's scale zero. -/
theorem normed_real (x : Stream) (g : Gain) (r : Fin 16384) (d : Fin 1024) (hg : ∃ a : ℝ, g (ix1 d) = (a : EReal)) :
    ∃ a : ℝ, normed x g r d = (a : EReal) := by
  obtain ⟨γ, hγ⟩ := hg
  obtain ⟨e, he, hb⟩ := bits_eps
  have hn : (0 : EReal) ≤ ∑ k : Fin 1024, x (ix2 r k) * x (ix2 r k) := Finset.sum_nonneg fun k _ => mul_self_nonneg' _
  have key : ∃ a : ℝ, x (ix2 r d) * scale x r = (a : EReal) := by
    unfold scale
    rw [hb, bits_rows, Ideal.div_coe (by norm_num)]
    by_cases ht : (∑ k : Fin 1024, x (ix2 r k) * x (ix2 r k)) = ⊤
    · refine ⟨0, ?_⟩
      rw [ht, EReal.top_mul_coe_of_pos (by norm_num), EReal.top_add_coe, Ideal.rsqrt_top, mul_zero]; rfl
    · have hx : ∃ a : ℝ, x (ix2 r d) = (a : EReal) := by
        have hle : x (ix2 r d) * x (ix2 r d) ≤ ∑ k : Fin 1024, x (ix2 r k) * x (ix2 r k) :=
          Finset.single_le_sum (f := fun k : Fin 1024 => x (ix2 r k) * x (ix2 r k)) (fun k _ => mul_self_nonneg' _) (Finset.mem_univ d)
        have h1 : x (ix2 r d) ≠ ⊤ := fun h => ht (top_le_iff.mp (by rwa [h, EReal.top_mul_top] at hle))
        have h2 : x (ix2 r d) ≠ ⊥ := fun h => ht (top_le_iff.mp (by rwa [h, EReal.bot_mul_bot] at hle))
        exact ⟨_, (EReal.coe_toReal h1 h2).symm⟩
      obtain ⟨a, ha⟩ := hx
      obtain ⟨s, hs⟩ : ∃ s : ℝ, (∑ k : Fin 1024, x (ix2 r k) * x (ix2 r k)) = (s : EReal) :=
        ⟨_, (EReal.coe_toReal ht (fun h => by rw [h] at hn; simp at hn)).symm⟩
      rw [hs] at hn ⊢
      have hs0 : 0 ≤ s := by exact_mod_cast hn
      rw [ha, ← EReal.coe_mul, ← EReal.coe_add]
      have hp : 0 < s * (1 / 1024) + e := by positivity
      rw [Ideal.rsqrt_coe, if_neg (not_lt.mpr hp.le), if_neg hp.ne', ← EReal.coe_mul]
      exact ⟨_, rfl⟩
  obtain ⟨a, ha⟩ := key
  exact ⟨a * γ, by unfold normed; rw [ha, hγ, EReal.coe_mul]⟩

theorem proj_real (x : Stream) (g : Gain) (w : Columns) (hg : ∀ d, ∃ a : ℝ, g (ix1 d) = (a : EReal)) (hw : ∀ d c, ∃ a : ℝ, w (ix2 d c) = (a : EReal))
    (r : Fin 16384) (c : Fin 8200) : ∃ a : ℝ, proj x g w r c = (a : EReal) :=
  real_sum _ _ fun d _ => by
    obtain ⟨a, ha⟩ := normed_real x g r d (hg d)
    obtain ⟨b, hb⟩ := hw d c
    exact ⟨a * b, by rw [ha, hb, EReal.coe_mul]⟩

/-! ## The mean square of a head, by a product with the heads' matrix -/

/-- The heads' matrix. -/
def heads (k c : Fin 512) : EReal := Ideal.div (if headOf k = headOf c then 1 else 0) (Ideal.ofBits .f32 0x42800000#32)

theorem sum_heads (f : Fin 512 → EReal) : ∑ k, f k = ∑ h : Fin 8, ∑ l : Fin 64, f (lane h l) := by
  rw [← Fintype.sum_prod_type' (f := fun h l => f (lane h l))]
  refine (Fintype.sum_equiv (finProdFinEquiv (m := 8) (n := 64)) (fun p => f (lane p.1 p.2)) (fun k => f k) fun p => ?_).symm
  refine congrArg f (Fin.ext ?_)
  show (p.1 : ℕ) * 64 + p.2 = p.2 + 64 * p.1
  omega

theorem headOf_lane (h : Fin 8) (l : Fin 64) : headOf (lane h l) = h := by
  refine Fin.ext ?_
  show ((h : ℕ) * 64 + l) / 64 = h
  omega

theorem mean_eq (y : Fin 512 → EReal) (hy : ∀ k, ∃ a : ℝ, y k = (a : EReal)) (c : Fin 512) :
    (∑ k : Fin 512, y k * y k * heads k c) + (∑ k : Fin 512, (y k * y k - y k * y k) * heads k c)
      = Ideal.div (∑ l : Fin 64, y (lane (headOf c) l) * y (lane (headOf c) l)) (Ideal.ofBits .f32 0x42800000#32) := by
  have h0 : ∑ k : Fin 512, (y k * y k - y k * y k) * heads k c = 0 := Finset.sum_eq_zero fun k _ => by
    obtain ⟨a, ha⟩ := hy k
    rw [ha, ← EReal.coe_mul, ← EReal.coe_sub, sub_self, EReal.coe_zero, zero_mul]
  rw [h0, add_zero, div_lanes, sum_heads, Finset.sum_eq_single (headOf c)]
  · rw [Cert.StickBreaking.sum_mul_real _ _ (by exact_mod_cast (by norm_num : (0 : ℝ) ≤ 1 / 64)) (EReal.coe_ne_top _)]
    refine Finset.sum_congr rfl fun l _ => ?_
    unfold heads
    rw [headOf_lane, if_pos rfl, div_lanes, one_mul]
  · intro h _ hne
    refine Finset.sum_eq_zero fun l _ => ?_
    unfold heads
    rw [headOf_lane, if_neg hne, div_lanes, zero_mul, mul_zero]
  · simp

end Cert.Projections

end
-- ==== Proof.Proj.Tile.lean ====
module

public import proofs.«01_k».proof.Proof.Proj.Frame
public import proofs.«01_k».proof.Proof.Projections

/-! What a grid point of the projections computes, at an index. -/

@[expose] public section

set_option maxRecDepth 16384

noncomputable section

namespace Cert.ProjIdeal.Pj

open Cert.ProjIdeal Cert.ProjIdeal.Gen
open Idealize.ShloMosaic Idealize.ShloMosaic.TcCoe

theorem pay1_apply (x : Vec Ideal S1024x1024 .f32) (g : Vec Ideal S1x1024 .f32) (r : Fin 1024) (d : Fin 1024) :
    k0_pay1 (F := Ideal) x g (ix2 r d)
      = (x (ix2 r d) * Ideal.rsqrt (Ideal.div (∑ k : Fin 1024, x (ix2 r k) * x (ix2 r k)) (Ideal.ofBits .f32 0x44800000#32) + Ideal.ofBits .f32 0x358637BD#32)
          * g (ix2 0 d) : EReal) := by
  pointwise [k0_pay1]

theorem pay2_apply (x : Vec Ideal S1024x1024 .f32) (g : Vec Ideal S1x1024 .f32) (r : Fin 1024) (d : Fin 1024) :
    k0_pay2 (F := Ideal) x g (ix2 r d) = k0_pay1 (F := Ideal) x g (ix2 r d) := by
  pointwise [k0_pay2]

theorem pay3_apply (x : Vec Ideal S1024x1024 .f32) (g : Vec Ideal S1x1024 .f32) (w : Vec Ideal S1024x128 .bf16) (r : Fin 1024) (c : Fin 128) :
    k0_pay3 (F := Ideal) x g w (ix2 r c) = (∑ d : Fin 1024, k0_pay1 (F := Ideal) x g (ix2 r d) * w (ix2 d c) : EReal) := by
  pointwise [k0_pay3]

theorem pay4_apply (h : Vec Ideal S1024x1024 .bf16) (w : Vec Ideal S1024x512 .bf16) (r : Fin 1024) (c : Fin 512) :
    k0_pay4 (F := Ideal) h w (ix2 r c) = (∑ d : Fin 1024, h (ix2 r d) * w (ix2 d c) : EReal) := by
  pointwise [k0_pay4]

theorem pay6_apply (h : Vec Ideal S1024x1024 .bf16) (w : Vec Ideal S1024x512 .bf16) (γ : Vec Ideal S1x512 .f32) (P : Vec Ideal S512x512 .bf16)
    (r : Fin 1024) (c : Fin 512) (y : Fin 512 → EReal) (hy : ∀ k, k0_pay4 (F := Ideal) h w (ix2 r k) = y k) :
    k0_pay6 (F := Ideal) h w γ P P (ix2 r c)
      = (y c * Ideal.rsqrt ((∑ k : Fin 512, y k * y k * P (ix2 k c)) + (∑ k : Fin 512, (y k * y k - y k * y k) * P (ix2 k c))
          + Ideal.ofBits .f32 0x358637BD#32) * γ (ix2 0 c) : EReal) := by
  unfold k0_pay6
  generalize k0_pay4 (F := Ideal) h w = Y at hy ⊢
  obtain rfl : (fun k => Y (ix2 r k)) = y := funext hy
  pointwise []

theorem pay5_apply (h : Vec Ideal S1024x1024 .bf16) (w : Vec Ideal S1024x512 .bf16) (γ : Vec Ideal S1x512 .f32) (P Q : Vec Ideal S512x512 .bf16)
    (r : Fin 1024) (c : Fin 512) :
    k0_pay5 (F := Ideal) h w γ P Q (ix2 r c)
      = (k0_pay6 (F := Ideal) h w γ P Q (ix2 r c) * (((Real.log 2)⁻¹ * 8⁻¹ : ℝ) : EReal) : EReal) := by
  unfold k0_pay5 k0_pay6
  generalize k0_pay4 (F := Ideal) h w = Y
  pointwise []
  rfl

end Cert.ProjIdeal.Pj
end
-- ==== Proof.Proj.Host.lean ====
module

public import proofs.«01_k».proof.Proof.Proj.Frame
public import proofs.«01_k».proof.Proof.Projections

/-! What the projection call is given, from the arguments of the program. -/

@[expose] public section

set_option maxRecDepth 16384
set_option maxHeartbeats 400000

noncomputable section

namespace Cert.ProjIdeal.Pj

open Cert.ProjIdeal Cert.ProjIdeal.Gen
open Idealize.ShloMosaic Idealize.ShloMosaic.TcCoe
open Cert.Projections
open Cert.FeedForward (Stream Gain)

variable (m : (ℓ : Loc nD τ sig) → Buf (Elt Ideal) ℓ) (c : Dev nD)

abbrev argX : Stream := m (c, Proc.tc.devRef main_arg0)
abbrev argG : Gain := m (c, Proc.tc.devRef main_arg1)
abbrev argW : Columns := m (c, Proc.tc.devRef main_arg2)
abbrev argQg : HeadGain := m (c, Proc.tc.devRef main_arg3)
abbrev argKg : HeadGain := m (c, Proc.tc.devRef main_arg4)

theorem host_x : (V m c main_arg0 : Vec Ideal S16384x1024 .f32) = argX m c := V_main_arg0 m c

theorem host_g (d : Fin 1024) : (V m c main_v18 : Vec Ideal S1x1024 .f32) (ix2 0 d) = argG m c (ix1 d) := by
  simp only [V, hostOps0, hostOps0_1, hostOps0_2, hostOps0_3, hostOps0_4, List.flatten_cons, List.flatten_nil, List.append_nil, List.cons_append, List.nil_append]
  after_results
  pointwise []

theorem host_qg (k : Fin 512) : (V m c main_v22 : Vec Ideal S1x512 .f32) (ix2 0 k) = argQg m c (ix1 ⟨(k : ℕ) % 64, by omega⟩) := by
  simp only [V, hostOps0, hostOps0_1, hostOps0_2, hostOps0_3, hostOps0_4, List.flatten_cons, List.flatten_nil, List.append_nil, List.cons_append, List.nil_append]
  after_results
  pointwise []

theorem host_kg (k : Fin 512) : (V m c main_v26 : Vec Ideal S1x512 .f32) (ix2 0 k) = argKg m c (ix1 ⟨(k : ℕ) % 64, by omega⟩) := by
  simp only [V, hostOps0, hostOps0_1, hostOps0_2, hostOps0_3, hostOps0_4, List.flatten_cons, List.flatten_nil, List.append_nil, List.cons_append, List.nil_append]
  after_results
  pointwise []

theorem host_w (d : Fin 1024) (k : Fin 8192) : (V m c main_v4 : Vec Ideal S1024x8192 .bf16) (ix2 d k) = argW m c (ix2 d (wideCol k)) := by
  simp only [V, hostOps0, hostOps0_1, hostOps0_2, hostOps0_3, hostOps0_4, List.flatten_cons, List.flatten_nil, List.append_nil, List.cons_append, List.nil_append]
  after_results
  pointwise []
  by_cases h1 : (k : ℕ) < 1536
  · rw [dif_pos h1, wideCol_low k h1]
    after_results_simp
    after_results_loop
    pointwise []
  · rw [dif_neg h1]
    by_cases h2 : (k : ℕ) - 1536 < 3072
    · have h3 : (k : ℕ) < 4608 := by omega
      rw [dif_pos h2, show wideCol k = ⟨5128 + (k - 1536), by omega⟩ by unfold wideCol; rw [dif_neg h1, dif_pos h3]]
      after_results_simp
      after_results_loop
      pointwise []
    · have h3 : ¬ (k : ℕ) < 4608 := by omega
      rw [dif_neg h2, show wideCol k = ⟨1536 + (k - 4608), by omega⟩ by unfold wideCol; rw [dif_neg h1, dif_neg h3]]
      after_results_simp
      after_results_loop
      pointwise []
      refine congrArg _ (congrArg (ix2 d) (Fin.ext ?_))
      show 1536 + ((k : ℕ) - 1536 - 3072) = 1536 + (k - 4608)
      omega

theorem host_s (d : Fin 1024) (k : Fin 128) :
    (V m c main_v7 : Vec Ideal S1024x128 .bf16) (ix2 d k) = (if h : (k : ℕ) < 8 then argW m c (ix2 d ⟨5120 + k, by omega⟩) else 0 : EReal) := by
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq]
  pointwise []
  split_ifs
  · rfl
  · show ((((0#32).toInt : ℤ) : ℝ) : EReal) = 0
    simp

/-- The head of a lane, by the integer division the program makes. -/
theorem head_word : ∀ a : Fin 512,
    Scalar.select
      (IntOp.andi
        (IntOp.cmpi .ne (if BitVec.ofNat 32 (a : ℕ) = 0 then (0 : BitVec 32) else if (BitVec.ofNat 32 (a : ℕ)).msb = true then -1 else 1)
          (if 64#32 = 0 then (0 : BitVec 32) else if (64#32).msb = true then -1 else 1))
        (IntOp.cmpi .ne (IntOp.remsi .host (BitVec.ofNat 32 (a : ℕ)) 64#32) 0#32))
      (IntOp.subi (IntOp.divsi .host (BitVec.ofNat 32 (a : ℕ)) 64#32) 1#32)
      (IntOp.divsi .host (BitVec.ofNat 32 (a : ℕ)) 64#32) = BitVec.ofNat 32 ((a : ℕ) / 64) := by
  decide +kernel

theorem eq_float {a b : ℕ} (ha : a < 2 ^ 32) (hb : b < 2 ^ 32) :
    (FloatOps.uitofp .f32 (IntOp.cmpi .eq (BitVec.ofNat 32 a) (BitVec.ofNat 32 b)) : Ideal .f32) = (if a = b then 1 else 0 : EReal) := by
  have h : IntOp.cmpi .eq (BitVec.ofNat 32 a) (BitVec.ofNat 32 b) = BitVec.ofBool (decide (a = b)) := by
    have e : (BitVec.ofNat 32 a = BitVec.ofNat 32 b) ↔ a = b := by
      constructor
      · intro h
        have := congrArg BitVec.toNat h
        rwa [BitVec.toNat_ofNat, BitVec.toNat_ofNat, Nat.mod_eq_of_lt ha, Nat.mod_eq_of_lt hb] at this
      · rintro rfl; rfl
    show BitVec.ofBool (BitVec.ofNat 32 a == BitVec.ofNat 32 b) = _
    by_cases hab : a = b
    · simp [hab]
    · rw [decide_eq_false hab, beq_eq_false_iff_ne.mpr fun h => hab (e.mp h)]
  rw [h]
  by_cases hab : a = b
  · rw [if_pos hab, decide_eq_true hab]; show ((((1#1).toNat : ℕ) : ℝ) : EReal) = 1; simp
  · rw [if_neg hab, decide_eq_false hab]; show ((((0#1).toNat : ℕ) : ℝ) : EReal) = 0; simp

theorem host_p (a b : Fin 512) : (V m c main_v27 : Vec Ideal S512x512 .bf16) (ix2 a b) = heads a b := by
  simp only [V, hostOps0, hostOps0_1, hostOps0_2, hostOps0_3, hostOps0_4, List.flatten_cons, List.flatten_nil, List.append_nil, List.cons_append, List.nil_append]
  after_results
  simp only [StableHlo.TRef.ofBuf, StableHlo.TRef.toBuf, StableHlo.TRef.of, cast_eq, id]
  pointwise []
  refine (congrArg₂ (fun u v : BitVec 32 => Ideal.div (FloatOps.uitofp .f32 (IntOp.cmpi .eq u v) : Ideal .f32) (Ideal.ofBits .f32 0x42800000#32))
    (head_word a) (head_word b)).trans ?_
  unfold heads
  show Ideal.div (FloatOps.uitofp .f32 (IntOp.cmpi .eq (BitVec.ofNat 32 ((a : ℕ) / 64)) (BitVec.ofNat 32 ((b : ℕ) / 64))) : Ideal .f32) _ = _
  rw [eq_float (by omega) (by omega)]
  by_cases h : (a : ℕ) / 64 = (b : ℕ) / 64
  · rw [if_pos h, if_pos (Fin.ext h)]
  · rw [if_neg h, if_neg fun h' => h (congrArg Fin.val h')]

end Cert.ProjIdeal.Pj
end
-- ==== Proof.Proj.Blocks.lean ====
module

public import proofs.«01_k».proof.Proof.Proj.Tile
public import proofs.«01_k».proof.Proof.Proj.Host
public import Idealize.ShloMosaic.Lib.Pipeline.ValueKit
public import Idealize.ShloMosaic.Lib.Pipeline.ReadBack

/-! The projections' blocks, at an index. -/

@[expose] public section

set_option maxRecDepth 16384

noncomputable section

namespace Cert.ProjIdeal.Pj

open Cert.ProjIdeal Cert.ProjIdeal.Gen
open Idealize.ShloMosaic Idealize.ShloMosaic.TcCoe
open Cert.Projections
open Cert.FeedForward (normed scale)

variable (m : (ℓ : Loc nD τ sig) → Buf (Elt Ideal) ℓ) (c : Dev nD) (t : Fin cfg0.N)

theorem points : t.val < 256 := lt_of_lt_of_eq t.isLt N_0

/-- The row of the stream a row of the block is. -/
def row (r : Fin 1024) : Fin 16384 := ⟨1024 * (t.val / 16) + r, by have := points t; omega⟩
/-- The column of the wide weights a column of the tile is. -/
def wide (k : Fin 512) : Fin 8192 := ⟨512 * (t.val % 16) + k, by omega⟩

theorem row_base (k : Fin 16) (r : Fin 1024) : row (base k t) r = row t r :=
  Fin.ext (by show 1024 * ((t.val / 16 * 16 + k.val) / 16) + r.val = 1024 * (t.val / 16) + r.val; omega)
theorem wide_base (k : Fin 16) (j : Fin 512) : (wide (base k t) j : ℕ) = 512 * k + j := by
  show 512 * ((t.val / 16 * 16 + k.val) % 16) + j.val = 512 * k.val + j.val; omega

theorem index_0 : ∀ t : Fin cfg0.N, win0_0.index t = ![t.val / 16, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val % 16] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val / 16, 0] := (by decide +kernel : ∀ t : Fin grid0.N, _)
theorem index_8 : ∀ t : Fin cfg0.N, win0_8.index t = ![t.val / 16, 0] := (by decide +kernel : ∀ t : Fin grid0.N, _)
theorem index_9 : ∀ t : Fin cfg0.N, win0_9.index t = ![t.val / 16, 0] := (by decide +kernel : ∀ t : Fin grid0.N, _)
theorem index_10 : ∀ t : Fin cfg0.N, win0_10.index t = ![t.val / 16, t.val % 16 - 3] := (by decide +kernel : ∀ t : Fin grid0.N, _)
theorem index_11 : ∀ t : Fin cfg0.N, win0_11.index t = ![t.val / 16, 0] := (by decide +kernel : ∀ t : Fin grid0.N, _)

theorem win_x (A : Vec Ideal S16384x1024 .f32) (a : Fin 1024) (b : Fin 1024) :
    (((cfg0.win 0).blk t).view.read (Elt Ideal) A : Vec Ideal S1024x1024 .f32) (ix2 a b) = A (ix2 (row t a) b) := by
  show A ((win0_0.blk t).view.emb (ix2 a b)) = _
  refine congrArg A (funext fun x => Fin.ext ?_)
  refine (Pipeline.Window.rect_emb_val win0_0 t (ix2 a b) x).trans ?_
  rw [index_0]
  match x with
  | 0 => show t.val / 16 * 1024 + a.val = 1024 * (t.val / 16) + a.val; omega
  | 1 => show 0 * 1024 + b.val = b.val; omega

theorem win_g (A : Vec Ideal S1x1024 .f32) (a : Fin 1) (b : Fin 1024) :
    (((cfg0.win 1).blk t).view.read (Elt Ideal) A : Vec Ideal S1x1024 .f32) (ix2 a b) = A (ix2 a b) := by
  show A ((win0_1.blk t).view.emb (ix2 a b)) = _
  refine congrArg A (funext fun x => Fin.ext ?_)
  refine (Pipeline.Window.rect_emb_val win0_1 t (ix2 a b) x).trans ?_
  rw [index_1]
  match x with
  | 0 => show 0 * 1 + a.val = a.val; omega
  | 1 => show 0 * 1024 + b.val = b.val; omega

theorem win_w (A : Vec Ideal S1024x8192 .bf16) (a : Fin 1024) (b : Fin 512) :
    (((cfg0.win 2).blk t).view.read (Elt Ideal) A : Vec Ideal S1024x512 .bf16) (ix2 a b) = A (ix2 a (wide t b)) := by
  show A ((win0_2.blk t).view.emb (ix2 a b)) = _
  refine congrArg A (funext fun x => Fin.ext ?_)
  refine (Pipeline.Window.rect_emb_val win0_2 t (ix2 a b) x).trans ?_
  rw [index_2]
  match x with
  | 0 => show 0 * 1024 + a.val = a.val; omega
  | 1 => show t.val % 16 * 512 + b.val = 512 * (t.val % 16) + b.val; omega

theorem win_s (A : Vec Ideal S1024x128 .bf16) (a : Fin 1024) (b : Fin 128) :
    (((cfg0.win 3).blk t).view.read (Elt Ideal) A : Vec Ideal S1024x128 .bf16) (ix2 a b) = A (ix2 a b) := by
  show A ((win0_3.blk t).view.emb (ix2 a b)) = _
  refine congrArg A (funext fun x => Fin.ext ?_)
  refine (Pipeline.Window.rect_emb_val win0_3 t (ix2 a b) x).trans ?_
  rw [index_3]
  match x with
  | 0 => show 0 * 1024 + a.val = a.val; omega
  | 1 => show 0 * 128 + b.val = b.val; omega

theorem win_qg (A : Vec Ideal S1x512 .f32) (a : Fin 1) (b : Fin 512) :
    (((cfg0.win 4).blk t).view.read (Elt Ideal) A : Vec Ideal S1x512 .f32) (ix2 a b) = A (ix2 a b) := by
  show A ((win0_4.blk t).view.emb (ix2 a b)) = _
  refine congrArg A (funext fun x => Fin.ext ?_)
  refine (Pipeline.Window.rect_emb_val win0_4 t (ix2 a b) x).trans ?_
  rw [index_4]
  match x with
  | 0 => show 0 * 1 + a.val = a.val; omega
  | 1 => show 0 * 512 + b.val = b.val; omega

theorem win_kg (A : Vec Ideal S1x512 .f32) (a : Fin 1) (b : Fin 512) :
    (((cfg0.win 5).blk t).view.read (Elt Ideal) A : Vec Ideal S1x512 .f32) (ix2 a b) = A (ix2 a b) := by
  show A ((win0_5.blk t).view.emb (ix2 a b)) = _
  refine congrArg A (funext fun x => Fin.ext ?_)
  refine (Pipeline.Window.rect_emb_val win0_5 t (ix2 a b) x).trans ?_
  rw [index_5]
  match x with
  | 0 => show 0 * 1 + a.val = a.val; omega
  | 1 => show 0 * 512 + b.val = b.val; omega

theorem win_p (A : Vec Ideal S512x512 .bf16) (a : Fin 512) (b : Fin 512) :
    (((cfg0.win 6).blk t).view.read (Elt Ideal) A : Vec Ideal S512x512 .bf16) (ix2 a b) = A (ix2 a b) := by
  show A ((win0_6.blk t).view.emb (ix2 a b)) = _
  refine congrArg A (funext fun x => Fin.ext ?_)
  refine (Pipeline.Window.rect_emb_val win0_6 t (ix2 a b) x).trans ?_
  rw [index_6]
  match x with
  | 0 => show 0 * 512 + a.val = a.val; omega
  | 1 => show 0 * 512 + b.val = b.val; omega

theorem blk_x (r : Fin 1024) (d : Fin 1024) : (iblk m c 0 t : Vec Ideal S1024x1024 .f32) (ix2 r d) = argX m c (ix2 (row t r) d) :=
  (win_x t (V m c main_arg0) r d).trans (congrFun (host_x m c) _)
theorem blk_g (d : Fin 1024) : (iblk m c 1 t : Vec Ideal S1x1024 .f32) (ix2 0 d) = argG m c (ix1 d) :=
  (win_g t (V m c main_v18) 0 d).trans (host_g m c d)
theorem blk_w (d : Fin 1024) (k : Fin 512) : (iblk m c 2 t : Vec Ideal S1024x512 .bf16) (ix2 d k) = argW m c (ix2 d (wideCol (wide t k))) :=
  (win_w t (V m c main_v4) d k).trans (host_w m c d (wide t k))
theorem blk_s (d : Fin 1024) (k : Fin 128) :
    (iblk m c 3 t : Vec Ideal S1024x128 .bf16) (ix2 d k) = (if h : (k : ℕ) < 8 then argW m c (ix2 d ⟨5120 + k, by omega⟩) else 0 : EReal) :=
  (win_s t (V m c main_v7) d k).trans (host_s m c d k)
theorem blk_qg (k : Fin 512) : (iblk m c 4 t : Vec Ideal S1x512 .f32) (ix2 0 k) = argQg m c (ix1 ⟨(k : ℕ) % 64, by omega⟩) :=
  (win_qg t (V m c main_v22) 0 k).trans (host_qg m c k)
theorem blk_kg (k : Fin 512) : (iblk m c 5 t : Vec Ideal S1x512 .f32) (ix2 0 k) = argKg m c (ix1 ⟨(k : ℕ) % 64, by omega⟩) :=
  (win_kg t (V m c main_v26) 0 k).trans (host_kg m c k)
theorem blk_p (a b : Fin 512) : (iblk m c 6 t : Vec Ideal S512x512 .bf16) (ix2 a b) = heads a b :=
  (win_p t (V m c main_v27) a b).trans (host_p m c a b)

/-! ## What a point holds -/

theorem pay1_blk (r : Fin 1024) (d : Fin 1024) :
    k0_pay1 (F := Ideal) (iblk m c 0 t) (iblk m c 1 t) (ix2 r d) = normed (argX m c) (argG m c) (row t r) d := by
  refine (pay1_apply _ _ r d).trans ?_
  have hx : ∀ d, (iblk m c 0 t : Vec Ideal S1024x1024 .f32) (ix2 r d) = argX m c (ix2 (row t r) d) := blk_x m c t r
  unfold normed scale
  generalize (iblk m c 0 t : Vec Ideal S1024x1024 .f32) = X at hx ⊢
  rw [hx d, Finset.sum_congr rfl fun k _ => congrArg₂ (fun a b : EReal => a * b) (hx k) (hx k)]
  exact congrArg _ (blk_g m c t d)

theorem hAt_apply (r : Fin 1024) (d : Fin 1024) : hAt m c t (ix2 r d) = normed (argX m c) (argG m c) (row t r) d := by
  unfold hAt
  refine (pay2_apply _ _ r d).trans ((pay1_blk m c (base 0 t) r d).trans ?_)
  rw [row_base]

/-- A column of a tile, at a point of the row block. -/
theorem tile_apply (k : Fin 16) (r : Fin 1024) (j : Fin 512) :
    k0_pay4 (F := Ideal) (hAt m c t) (iblk m c 2 (base k t)) (ix2 r j)
      = proj (argX m c) (argG m c) (argW m c) (row t r) (wideCol (wide (base k t) j)) :=
  (pay4_apply _ _ r j).trans (Finset.sum_congr rfl fun d _ => congrArg₂ (fun a b : EReal => a * b) (hAt_apply m c t r d) (blk_w m c (base k t) d j))

theorem low (k : Fin 16) (hk : (k : ℕ) < 3) (j : Fin 512) : wideCol (wide (base k t) j) = ⟨512 * k + j, by omega⟩ := by
  have h := wide_base t k j
  rw [wideCol_low _ (by omega)]
  exact Fin.ext h

/-- The lanes are real numbers when the norm's gain and the weights are. -/
theorem headed_apply (hg : ∀ d, ∃ a : ℝ, argG m c (ix1 d) = (a : EReal)) (hw : ∀ d e, ∃ a : ℝ, argW m c (ix2 d e) = (a : EReal))
    (k : Fin 16) (γ : Vec Ideal S1x512 .f32) (Γ : HeadGain) (hγ : ∀ j : Fin 512, γ (ix2 0 j) = Γ (ix1 ⟨(j : ℕ) % 64, by omega⟩))
    (u : Fin cfg0.N) (r : Fin 1024) (j : Fin 512) (y : Fin 512 → EReal)
    (hy : ∀ i, y i = proj (argX m c) (argG m c) (argW m c) (row t r) (wideCol (wide (base k t) i))) :
    k0_pay6 (F := Ideal) (hAt m c t) (iblk m c 2 (base k t)) γ (iblk m c 6 u) (iblk m c 6 u) (ix2 r j) = headed y Γ j := by
  refine (pay6_apply _ _ γ (iblk m c 6 u) r j y fun i => (tile_apply m c t k r i).trans (hy i).symm).trans ?_
  have hp : ∀ i, (iblk m c 6 u : Vec Ideal S512x512 .bf16) (ix2 i j) = heads i j := fun i => blk_p m c u i j
  generalize (iblk m c 6 u : Vec Ideal S512x512 .bf16) = P at hp ⊢
  have hr : ∀ i, ∃ a : ℝ, y i = (a : EReal) := fun i => by rw [hy]; exact proj_real _ _ _ hg hw _ _
  rw [hγ, Finset.sum_congr rfl fun i _ => congrArg (fun b : EReal => y i * y i * b) (hp i),
    Finset.sum_congr rfl fun i _ => congrArg (fun b : EReal => (y i * y i - y i * y i) * b) (hp i), mean_eq y hr j]
  rfl

end Cert.ProjIdeal.Pj
end
-- ==== Proof.Proj.Final.lean ====
module

public import proofs.«01_k».proof.Proof.Proj.Blocks
public import Idealize.ShloMosaic.Lib.Claim

/-! The call leaves the projections of its arguments. -/

@[expose] public section

set_option maxRecDepth 16384

noncomputable section

namespace Cert.ProjIdeal.Pj

open Cert.ProjIdeal Cert.ProjIdeal.Gen
open Idealize.ShloMosaic Idealize.ShloMosaic.TcCoe
open Idealize.SL.Sem
open Cert.Projections
open Cert.FeedForward (normed)
open Cert.StickBreaking (κ2)

variable (m : (ℓ : Loc nD τ sig) → Buf (Elt Ideal) ℓ) (ρ : Dev nD → PrngReg) (c : Dev nD)

/-- The norm's gain and the weights are real numbers. -/
def RealArgs : Prop := (∀ d, ∃ a : ℝ, argG m c (ix1 d) = (a : EReal)) ∧ ∀ d e, ∃ a : ℝ, argW m c (ix2 d e) = (a : EReal)

theorem qscale_eq : (((Real.log 2)⁻¹ * 8⁻¹ : ℝ) : EReal) = ((1 / 8 * κ2 : ℝ) : EReal) := by
  congr 1
  unfold κ2
  ring

theorem q_apply (h : RealArgs m c) (t : Fin cfg0.N) (r : Fin 1024) (d : Fin 512) :
    qAt m c t (ix2 r d) = query (argX m c) (argG m c) (argW m c) (argQg m c) (row t r) d := by
  unfold qAt query
  refine (pay5_apply _ _ _ _ _ r d).trans ?_
  refine congrArg₂ (fun a b : EReal => a * b) ?_ qscale_eq
  refine headed_apply m c t h.1 h.2 0 _ (argQg m c) (blk_qg m c (base 0 t)) (base 0 t) r d _ fun i => ?_
  rw [low t 0 (by decide) i]
  exact congrArg _ (Fin.ext (by show (i : ℕ) = 512 * 0 + i; omega))

theorem k_apply (h : RealArgs m c) (t : Fin cfg0.N) (r : Fin 1024) (d : Fin 512) :
    kAt m c t (ix2 r d) = key (argX m c) (argG m c) (argW m c) (argKg m c) (row t r) d := by
  unfold kAt key
  refine headed_apply m c t h.1 h.2 1 _ (argKg m c) (blk_kg m c (base 1 t)) (base 1 t) r d _ fun i => ?_
  rw [low t 1 (by decide) i]
  exact congrArg _ (Fin.ext (by show 512 + (i : ℕ) = 512 * 1 + i; omega))

theorem v_apply (t : Fin cfg0.N) (r : Fin 1024) (d : Fin 512) :
    vAt m c t (ix2 r d) = value (argX m c) (argG m c) (argW m c) (row t r) d := by
  unfold vAt value
  refine (tile_apply m c t 2 r d).trans ?_
  rw [low t 2 (by decide) d]
  exact congrArg _ (Fin.ext (by show 512 * 2 + (d : ℕ) = 1024 + d; omega))

theorem r_apply (t : Fin cfg0.N) (ht : 3 ≤ t.val % 16) (r : Fin 1024) (d : Fin 512) (C : Fin 6656) (hC : (C : ℕ) = 512 * (t.val % 16 - 3) + d) :
    rAt m c t (ix2 r d) = rest (argX m c) (argG m c) (argW m c) (row t r) C := by
  unfold rAt rest
  have hb : base ⟨t.val % 16, by omega⟩ t = t := base_eq _ t rfl
  have h := tile_apply m c t ⟨t.val % 16, by omega⟩ r d
  rw [hb] at h
  refine h.trans (congrArg _ ?_)
  rw [← wideCol_rest]
  refine congrArg wideCol (Fin.ext ?_)
  show 512 * (t.val % 16) + (d : ℕ) = 1536 + (C : ℕ)
  omega

theorem s_apply (t : Fin cfg0.N) (r : Fin 1024) (d : Fin 128) :
    sAt m c t (ix2 r d) = small (argX m c) (argG m c) (argW m c) (row t r) d := by
  unfold sAt small
  refine (pay3_apply _ _ _ r d).trans ?_
  rw [Finset.sum_congr rfl fun k _ => congrArg₂ (fun a b : EReal => a * b) (pay1_blk m c (base 0 t) r k) (blk_s m c (base 0 t) k d), row_base]
  by_cases h : (d : ℕ) < 8
  · rw [dif_pos h]
    exact Finset.sum_congr rfl fun k _ => by rw [dif_pos h]
  · rw [dif_neg h]
    exact Finset.sum_eq_zero fun k _ => by rw [dif_neg h, mul_zero]

/-! ## The results -/

/-- What the call leaves in its result 0. -/
def val_q : Vec Ideal S16384x512 .bf16 := fun i => query (argX m c) (argG m c) (argW m c) (argQg m c) (i 0) (i 1)

theorem out_q (h : RealArgs m c) (t : Fin cfg0.N) (y : S1024x512.Idx) : qAt m c t y = val_q m c ((win0_7.blk t).view.emb y) := by
  have hy : y = ix2 (y 0) (y 1) := by
    funext a
    match a with
    | 0 => rfl
    | 1 => rfl
  have hr : row t (y 0) = (win0_7.blk t).view.emb y 0 := Fin.ext (by
    refine Eq.trans ?_ (Pipeline.Window.rect_emb_val win0_7 t y 0).symm
    rw [index_7]
    show 1024 * (t.val / 16) + (y 0).val = t.val / 16 * 1024 + (y 0).val; omega)
  have hd : y 1 = (win0_7.blk t).view.emb y 1 := Fin.ext (by
    refine Eq.trans ?_ (Pipeline.Window.rect_emb_val win0_7 t y 1).symm
    rw [index_7]
    show (y 1).val = 0 * 512 + (y 1).val; omega)
  refine (congrArg (qAt m c t : Vec Ideal S1024x512 .bf16) hy).trans ((q_apply m c h t (y 0) (y 1)).trans ?_)
  rw [hr, hd]
  rfl

theorem final_q (h : RealArgs m c) : (dats m 0 c).arrAt 7 cfg0.N = val_q m c := by
  refine (dats m 0 c).arrAt_eq_of_covers 7 (val_q m c) (by decide +kernel) fun t hf y => ?_
  blk_simp
  rw [after0_7]
  exact out_q m c h t y

/-- What the call leaves in its result 1. -/
def val_k : Vec Ideal S16384x512 .f32 := fun i => key (argX m c) (argG m c) (argW m c) (argKg m c) (i 0) (i 1)

theorem out_k (h : RealArgs m c) (t : Fin cfg0.N) (y : S1024x512.Idx) : kAt m c t y = val_k m c ((win0_8.blk t).view.emb y) := by
  have hy : y = ix2 (y 0) (y 1) := by
    funext a
    match a with
    | 0 => rfl
    | 1 => rfl
  have hr : row t (y 0) = (win0_8.blk t).view.emb y 0 := Fin.ext (by
    refine Eq.trans ?_ (Pipeline.Window.rect_emb_val win0_8 t y 0).symm
    rw [index_8]
    show 1024 * (t.val / 16) + (y 0).val = t.val / 16 * 1024 + (y 0).val; omega)
  have hd : y 1 = (win0_8.blk t).view.emb y 1 := Fin.ext (by
    refine Eq.trans ?_ (Pipeline.Window.rect_emb_val win0_8 t y 1).symm
    rw [index_8]
    show (y 1).val = 0 * 512 + (y 1).val; omega)
  refine (congrArg (kAt m c t : Vec Ideal S1024x512 .f32) hy).trans ((k_apply m c h t (y 0) (y 1)).trans ?_)
  rw [hr, hd]
  rfl

theorem final_k (h : RealArgs m c) : (dats m 0 c).arrAt 8 cfg0.N = val_k m c := by
  refine (dats m 0 c).arrAt_eq_of_covers 8 (val_k m c) (by decide +kernel) fun t hf y => ?_
  blk_simp
  rw [after0_8]
  exact out_k m c h t y

/-- What the call leaves in its result 2. -/
def val_v : Vec Ideal S16384x512 .f32 := fun i => value (argX m c) (argG m c) (argW m c) (i 0) (i 1)

theorem out_v (t : Fin cfg0.N) (y : S1024x512.Idx) : vAt m c t y = val_v m c ((win0_9.blk t).view.emb y) := by
  have hy : y = ix2 (y 0) (y 1) := by
    funext a
    match a with
    | 0 => rfl
    | 1 => rfl
  have hr : row t (y 0) = (win0_9.blk t).view.emb y 0 := Fin.ext (by
    refine Eq.trans ?_ (Pipeline.Window.rect_emb_val win0_9 t y 0).symm
    rw [index_9]
    show 1024 * (t.val / 16) + (y 0).val = t.val / 16 * 1024 + (y 0).val; omega)
  have hd : y 1 = (win0_9.blk t).view.emb y 1 := Fin.ext (by
    refine Eq.trans ?_ (Pipeline.Window.rect_emb_val win0_9 t y 1).symm
    rw [index_9]
    show (y 1).val = 0 * 512 + (y 1).val; omega)
  refine (congrArg (vAt m c t : Vec Ideal S1024x512 .f32) hy).trans ((v_apply m c t (y 0) (y 1)).trans ?_)
  rw [hr, hd]
  rfl

theorem final_v : (dats m 0 c).arrAt 9 cfg0.N = val_v m c := by
  refine (dats m 0 c).arrAt_eq_of_covers 9 (val_v m c) (by decide +kernel) fun t hf y => ?_
  blk_simp
  rw [after0_9]
  exact out_v m c t y

/-- What the call leaves in its result 3. -/
def val_r : Vec Ideal S16384x6656 .f32 := fun i => rest (argX m c) (argG m c) (argW m c) (i 0) (i 1)

theorem out_r (t : Fin cfg0.N) (ht : 3 ≤ t.val % 16) (y : S1024x512.Idx) : rAt m c t y = val_r m c ((win0_10.blk t).view.emb y) := by
  have hy : y = ix2 (y 0) (y 1) := by
    funext a
    match a with
    | 0 => rfl
    | 1 => rfl
  have hr : row t (y 0) = (win0_10.blk t).view.emb y 0 := Fin.ext (by
    refine Eq.trans ?_ (Pipeline.Window.rect_emb_val win0_10 t y 0).symm
    rw [index_10]
    show 1024 * (t.val / 16) + (y 0).val = t.val / 16 * 1024 + (y 0).val; omega)
  have hd : ((win0_10.blk t).view.emb y 1 : ℕ) = 512 * (t.val % 16 - 3) + (y 1 : ℕ) := by
    refine (Pipeline.Window.rect_emb_val win0_10 t y 1).trans ?_
    rw [index_10]
    show (t.val % 16 - 3) * 512 + (y 1).val = 512 * (t.val % 16 - 3) + (y 1).val; omega
  refine (congrArg (rAt m c t : Vec Ideal S1024x512 .f32) hy).trans ((r_apply m c t ht (y 0) (y 1) _ hd).trans ?_)
  rw [hr]
  rfl

theorem flush_r : ∀ t : Fin cfg0.N, (cfg0.win 10).flush t = true → 3 ≤ t.val % 16 := by decide +kernel

theorem final_r : (dats m 0 c).arrAt 10 cfg0.N = val_r m c := by
  refine (dats m 0 c).arrAt_eq_of_covers 10 (val_r m c) (by decide +kernel) fun t hf y => ?_
  blk_simp
  rw [after0_10]
  exact out_r m c t (flush_r t hf) y

/-- What the call leaves in its result 4. -/
def val_s : Vec Ideal S16384x128 .f32 := fun i => small (argX m c) (argG m c) (argW m c) (i 0) (i 1)

theorem out_s (t : Fin cfg0.N) (y : S1024x128.Idx) : sAt m c t y = val_s m c ((win0_11.blk t).view.emb y) := by
  have hy : y = ix2 (y 0) (y 1) := by
    funext a
    match a with
    | 0 => rfl
    | 1 => rfl
  have hr : row t (y 0) = (win0_11.blk t).view.emb y 0 := Fin.ext (by
    refine Eq.trans ?_ (Pipeline.Window.rect_emb_val win0_11 t y 0).symm
    rw [index_11]
    show 1024 * (t.val / 16) + (y 0).val = t.val / 16 * 1024 + (y 0).val; omega)
  have hd : y 1 = (win0_11.blk t).view.emb y 1 := Fin.ext (by
    refine Eq.trans ?_ (Pipeline.Window.rect_emb_val win0_11 t y 1).symm
    rw [index_11]
    show (y 1).val = 0 * 128 + (y 1).val; omega)
  refine (congrArg (sAt m c t : Vec Ideal S1024x128 .f32) hy).trans ((s_apply m c t (y 0) (y 1)).trans ?_)
  rw [hr, hd]
  rfl

theorem final_s : (dats m 0 c).arrAt 11 cfg0.N = val_s m c := by
  refine (dats m 0 c).arrAt_eq_of_covers 11 (val_s m c) (by decide +kernel) fun t hf y => ?_
  blk_simp
  rw [after0_11]
  exact out_s m c t y

/-- The launch leaves the projections of the arguments, and the arguments. -/
theorem run_value (h : ∀ c, RealArgs m c) :
    θ_run defs (onTc (τ := τ) (main (F := Ideal))) ⟨m, fun _ => 0, ρ⟩ fun r => ∀ c : Dev nD,
      r.2.mem ((c.tc : Thread nD τ).loc main_v28_0) = val_q m c
      ∧ r.2.mem ((c.tc : Thread nD τ).loc main_v28_1) = val_k m c
      ∧ r.2.mem ((c.tc : Thread nD τ).loc main_v28_2) = val_v m c
      ∧ r.2.mem ((c.tc : Thread nD τ).loc main_v28_3) = val_r m c
      ∧ r.2.mem ((c.tc : Thread nD τ).loc main_v28_4) = val_s m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.2 c).1, (h.2 c).2.1, (h.2 c).2.2.1, (h.2 c).2.2.2.1, (h.2 c).2.2.2.2, h.1 c⟩)
    (θ_run_and (unchanged m ρ) (Q₂ := fun r => ∀ c : Dev nD,
      r.2.mem ((c.tc : Thread nD τ).loc main_v28_0) = val_q m c
      ∧ r.2.mem ((c.tc : Thread nD τ).loc main_v28_1) = val_k m c
      ∧ r.2.mem ((c.tc : Thread nD τ).loc main_v28_2) = val_v m c
      ∧ r.2.mem ((c.tc : Thread nD τ).loc main_v28_3) = val_r m c
      ∧ r.2.mem ((c.tc : Thread nD τ).loc main_v28_4) = val_s m c)
      ((θ_run defs _ _).mono (fun _ g c => ⟨((g c).1 7).trans (final_q m c (h c)), ((g c).1 8).trans (final_k m c (h c)),
        ((g c).1 9).trans (final_v m c), ((g c).1 10).trans (final_r m c), ((g c).1 11).trans (final_s m c)⟩) (run_main m ρ)))

end Cert.ProjIdeal.Pj
end
-- ==== Proof.Proj.Ref.lean ====
module

public import proofs.«01_k».proof.Defs
public import proofs.«01_k».proof.Proof.Gen.ProjReferenceIdeal
public import Idealize.ShloMosaic.Lib.StableHlo.Run
public import Idealize.ShloMosaic.Lib.Quiescent

/-! The projections' reference's run: its operations as one list, and what its result arrays end holding. -/

@[expose] public section

noncomputable section

open Idealize.ShloMosaic Idealize.ShloMosaic.TcCoe Idealize.SL.Sem

namespace Cert.ProjReferenceIdeal.Value

open Cert.ProjReferenceIdeal Cert.ProjReferenceIdeal.Gen Idealize.ShloMosaic.StableHlo

variable {F : FTy → Type} [FloatOps F]

abbrev ops : List (HloOp τ sig (Elt F)) := [
  StableHlo.binary main_arg0 main_arg0 main_v0 (mulf : (⟨S16384x1024, .f32⟩ : BufTy).Contents (Elt F) → (⟨S16384x1024, .f32⟩ : BufTy).Contents (Elt F) → (⟨S16384x1024, .f32⟩ : BufTy).Contents (Elt F)),
  StableHlo.nullary main_cst (constant S_ .f32 0x00000000#32),
  StableHlo.binary main_v0 main_cst main_v1 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
  StableHlo.unary main_v1 main_v2 (broadcastInDim S16384x1 ![0] bcast_S16384_S16384x1_0 : (⟨S16384, .f32⟩ : BufTy).Contents (Elt F) → (⟨S16384x1, .f32⟩ : BufTy).Contents (Elt F)),
  StableHlo.nullary main_cst_0 (constant S_ .f32 0x44800000#32),
  StableHlo.unary main_cst_0 main_v3 (broadcastInDim S16384x1 ![] bcast_S_S16384x1 : (⟨S_, .f32⟩ : BufTy).Contents (Elt F) → (⟨S16384x1, .f32⟩ : BufTy).Contents (Elt F)),
  StableHlo.binary main_v2 main_v3 main_v4 (Host.divf : (⟨S16384x1, .f32⟩ : BufTy).Contents (Elt F) → (⟨S16384x1, .f32⟩ : BufTy).Contents (Elt F) → (⟨S16384x1, .f32⟩ : BufTy).Contents (Elt F)),
  StableHlo.nullary main_cst_1 (constant S_ .f32 0x358637BD#32),
  StableHlo.unary main_cst_1 main_v5 (broadcastInDim S16384x1 ![] bcast_S_S16384x1 : (⟨S_, .f32⟩ : BufTy).Contents (Elt F) → (⟨S16384x1, .f32⟩ : BufTy).Contents (Elt F)),
  StableHlo.binary main_v4 main_v5 main_v6 (addf : (⟨S16384x1, .f32⟩ : BufTy).Contents (Elt F) → (⟨S16384x1, .f32⟩ : BufTy).Contents (Elt F) → (⟨S16384x1, .f32⟩ : BufTy).Contents (Elt F)),
  StableHlo.unary main_v6 main_v7 (Host.rsqrt : (⟨S16384x1, .f32⟩ : BufTy).Contents (Elt F) → (⟨S16384x1, .f32⟩ : BufTy).Contents (Elt F)),
  StableHlo.unary main_v7 main_v8 (broadcastInDim S16384x1024 ![0, 1] bcast_S16384x1_S16384x1024_0_1 : (⟨S16384x1, .f32⟩ : BufTy).Contents (Elt F) → (⟨S16384x1024, .f32⟩ : BufTy).Contents (Elt F)),
  StableHlo.binary main_arg0 main_v8 main_v9 (mulf : (⟨S16384x1024, .f32⟩ : BufTy).Contents (Elt F) → (⟨S16384x1024, .f32⟩ : BufTy).Contents (Elt F) → (⟨S16384x1024, .f32⟩ : BufTy).Contents (Elt F)),
  StableHlo.unary main_arg1 main_v10 (broadcastInDim S1x1024 ![1] bcast_S1024_S1x1024_1 : (⟨S1024, .f32⟩ : BufTy).Contents (Elt F) → (⟨S1x1024, .f32⟩ : BufTy).Contents (Elt F)),
  StableHlo.unary main_v10 main_v11 (broadcastInDim S16384x1024 ![0, 1] bcast_S1x1024_S16384x1024_0_1 : (⟨S1x1024, .f32⟩ : BufTy).Contents (Elt F) → (⟨S16384x1024, .f32⟩ : BufTy).Contents (Elt F)),
  StableHlo.binary main_v9 main_v11 main_v12 (mulf : (⟨S16384x1024, .f32⟩ : BufTy).Contents (Elt F) → (⟨S16384x1024, .f32⟩ : BufTy).Contents (Elt F) → (⟨S16384x1024, .f32⟩ : BufTy).Contents (Elt F)),
  StableHlo.binary main_v12 main_arg2 main_v13 ((fun l r => Host.dotGeneral dot_S16384x1024_S1024x8200_S16384x8200_1_0_0_1_n_n none l r) : (⟨S16384x1024, .f32⟩ : BufTy).Contents (Elt F) → (⟨S1024x8200, .f32⟩ : BufTy).Contents (Elt F) → (⟨S16384x8200, .f32⟩ : BufTy).Contents (Elt F)),
  StableHlo.unary main_v13 main_v14 ((extractStridedSlice S16384x512 ![0, 0] · slices_S16384x8200_S16384x512_0_0) : (⟨S16384x8200, .f32⟩ : BufTy).Contents (Elt F) → (⟨S16384x512, .f32⟩ : BufTy).Contents (Elt F)),
  StableHlo.unary main_v13 main_v15 ((extractStridedSlice S16384x512 ![0, 512] · slices_S16384x8200_S16384x512_0_512) : (⟨S16384x8200, .f32⟩ : BufTy).Contents (Elt F) → (⟨S16384x512, .f32⟩ : BufTy).Contents (Elt F)),
  StableHlo.unary main_v13 main_v16 ((extractStridedSlice S16384x512 ![0, 1024] · slices_S16384x8200_S16384x512_0_1024) : (⟨S16384x8200, .f32⟩ : BufTy).Contents (Elt F) → (⟨S16384x512, .f32⟩ : BufTy).Contents (Elt F)),
  StableHlo.unary main_v13 main_v17 ((extractStridedSlice S16384x3584 ![0, 1536] · slices_S16384x8200_S16384x3584_0_1536) : (⟨S16384x8200, .f32⟩ : BufTy).Contents (Elt F) → (⟨S16384x3584, .f32⟩ : BufTy).Contents (Elt F)),
  StableHlo.unary main_v13 main_v18 ((extractStridedSlice S16384x8 ![0, 5120] · slices_S16384x8200_S16384x8_0_5120) : (⟨S16384x8200, .f32⟩ : BufTy).Contents (Elt F) → (⟨S16384x8, .f32⟩ : BufTy).Contents (Elt F)),
  StableHlo.unary main_v13 main_v19 ((extractStridedSlice S16384x3072 ![0, 5128] · slices_S16384x8200_S16384x3072_0_5128) : (⟨S16384x8200, .f32⟩ : BufTy).Contents (Elt F) → (⟨S16384x3072, .f32⟩ : BufTy).Contents (Elt F)),
  StableHlo.reshape main_v14 main_v20 (rfl : (.f32 : EltTy) = .f32) shapeCasts_S16384x512_S16384x8x64,
  StableHlo.binary main_v20 main_v20 main_v21 (mulf : (⟨S16384x8x64, .f32⟩ : BufTy).Contents (Elt F) → (⟨S16384x8x64, .f32⟩ : BufTy).Contents (Elt F) → (⟨S16384x8x64, .f32⟩ : BufTy).Contents (Elt F)),
  StableHlo.nullary main_cst_2 (constant S_ .f32 0x00000000#32),
  StableHlo.binary main_v21 main_cst_2 main_v22 ((fun x v => Host.reduceAdd x v reducesTo_S16384x8x64_S16384x8_d2 h_S_) : (⟨S16384x8x64, .f32⟩ : BufTy).Contents (Elt F) → (⟨S_, .f32⟩ : BufTy).Contents (Elt F) → (⟨S16384x8, .f32⟩ : BufTy).Contents (Elt F)),
  StableHlo.unary main_v22 main_v23 (broadcastInDim S16384x8x1 ![0, 1] bcast_S16384x8_S16384x8x1_0_1 : (⟨S16384x8, .f32⟩ : BufTy).Contents (Elt F) → (⟨S16384x8x1, .f32⟩ : BufTy).Contents (Elt F)),
  StableHlo.nullary main_cst_3 (constant S_ .f32 0x42800000#32),
  StableHlo.unary main_cst_3 main_v24 (broadcastInDim S16384x8x1 ![] bcast_S_S16384x8x1 : (⟨S_, .f32⟩ : BufTy).Contents (Elt F) → (⟨S16384x8x1, .f32⟩ : BufTy).Contents (Elt F)),
  StableHlo.binary main_v23 main_v24 main_v25 (Host.divf : (⟨S16384x8x1, .f32⟩ : BufTy).Contents (Elt F) → (⟨S16384x8x1, .f32⟩ : BufTy).Contents (Elt F) → (⟨S16384x8x1, .f32⟩ : BufTy).Contents (Elt F)),
  StableHlo.nullary main_cst_4 (constant S_ .f32 0x358637BD#32),
  StableHlo.unary main_cst_4 main_v26 (broadcastInDim S16384x8x1 ![] bcast_S_S16384x8x1 : (⟨S_, .f32⟩ : BufTy).Contents (Elt F) → (⟨S16384x8x1, .f32⟩ : BufTy).Contents (Elt F)),
  StableHlo.binary main_v25 main_v26 main_v27 (addf : (⟨S16384x8x1, .f32⟩ : BufTy).Contents (Elt F) → (⟨S16384x8x1, .f32⟩ : BufTy).Contents (Elt F) → (⟨S16384x8x1, .f32⟩ : BufTy).Contents (Elt F)),
  StableHlo.unary main_v27 main_v28 (Host.rsqrt : (⟨S16384x8x1, .f32⟩ : BufTy).Contents (Elt F) → (⟨S16384x8x1, .f32⟩ : BufTy).Contents (Elt F)),
  StableHlo.unary main_v28 main_v29 (broadcastInDim S16384x8x64 ![0, 1, 2] bcast_S16384x8x1_S16384x8x64_0_1_2 : (⟨S16384x8x1, .f32⟩ : BufTy).Contents (Elt F) → (⟨S16384x8x64, .f32⟩ : BufTy).Contents (Elt F)),
  StableHlo.binary main_v20 main_v29 main_v30 (mulf : (⟨S16384x8x64, .f32⟩ : BufTy).Contents (Elt F) → (⟨S16384x8x64, .f32⟩ : BufTy).Contents (Elt F) → (⟨S16384x8x64, .f32⟩ : BufTy).Contents (Elt F)),
  StableHlo.unary main_arg3 main_v31 (broadcastInDim S1x1x64 ![2] bcast_S64_S1x1x64_2 : (⟨S64, .f32⟩ : BufTy).Contents (Elt F) → (⟨S1x1x64, .f32⟩ : BufTy).Contents (Elt F)),
  StableHlo.unary main_v31 main_v32 (broadcastInDim S16384x8x64 ![0, 1, 2] bcast_S1x1x64_S16384x8x64_0_1_2 : (⟨S1x1x64, .f32⟩ : BufTy).Contents (Elt F) → (⟨S16384x8x64, .f32⟩ : BufTy).Contents (Elt F)),
  StableHlo.binary main_v30 main_v32 main_v33 (mulf : (⟨S16384x8x64, .f32⟩ : BufTy).Contents (Elt F) → (⟨S16384x8x64, .f32⟩ : BufTy).Contents (Elt F) → (⟨S16384x8x64, .f32⟩ : BufTy).Contents (Elt F)),
  StableHlo.reshape main_v33 main_v34 (rfl : (.f32 : EltTy) = .f32) shapeCasts_S16384x8x64_S16384x512,
  StableHlo.reshape main_v15 main_v35 (rfl : (.f32 : EltTy) = .f32) shapeCasts_S16384x512_S16384x8x64,
  StableHlo.binary main_v35 main_v35 main_v36 (mulf : (⟨S16384x8x64, .f32⟩ : BufTy).Contents (Elt F) → (⟨S16384x8x64, .f32⟩ : BufTy).Contents (Elt F) → (⟨S16384x8x64, .f32⟩ : BufTy).Contents (Elt F)),
  StableHlo.nullary main_cst_5 (constant S_ .f32 0x00000000#32),
  StableHlo.binary main_v36 main_cst_5 main_v37 ((fun x v => Host.reduceAdd x v reducesTo_S16384x8x64_S16384x8_d2 h_S_) : (⟨S16384x8x64, .f32⟩ : BufTy).Contents (Elt F) → (⟨S_, .f32⟩ : BufTy).Contents (Elt F) → (⟨S16384x8, .f32⟩ : BufTy).Contents (Elt F)),
  StableHlo.unary main_v37 main_v38 (broadcastInDim S16384x8x1 ![0, 1] bcast_S16384x8_S16384x8x1_0_1 : (⟨S16384x8, .f32⟩ : BufTy).Contents (Elt F) → (⟨S16384x8x1, .f32⟩ : BufTy).Contents (Elt F)),
  StableHlo.nullary main_cst_6 (constant S_ .f32 0x42800000#32),
  StableHlo.unary main_cst_6 main_v39 (broadcastInDim S16384x8x1 ![] bcast_S_S16384x8x1 : (⟨S_, .f32⟩ : BufTy).Contents (Elt F) → (⟨S16384x8x1, .f32⟩ : BufTy).Contents (Elt F)),
  StableHlo.binary main_v38 main_v39 main_v40 (Host.divf : (⟨S16384x8x1, .f32⟩ : BufTy).Contents (Elt F) → (⟨S16384x8x1, .f32⟩ : BufTy).Contents (Elt F) → (⟨S16384x8x1, .f32⟩ : BufTy).Contents (Elt F)),
  StableHlo.nullary main_cst_7 (constant S_ .f32 0x358637BD#32),
  StableHlo.unary main_cst_7 main_v41 (broadcastInDim S16384x8x1 ![] bcast_S_S16384x8x1 : (⟨S_, .f32⟩ : BufTy).Contents (Elt F) → (⟨S16384x8x1, .f32⟩ : BufTy).Contents (Elt F)),
  StableHlo.binary main_v40 main_v41 main_v42 (addf : (⟨S16384x8x1, .f32⟩ : BufTy).Contents (Elt F) → (⟨S16384x8x1, .f32⟩ : BufTy).Contents (Elt F) → (⟨S16384x8x1, .f32⟩ : BufTy).Contents (Elt F)),
  StableHlo.unary main_v42 main_v43 (Host.rsqrt : (⟨S16384x8x1, .f32⟩ : BufTy).Contents (Elt F) → (⟨S16384x8x1, .f32⟩ : BufTy).Contents (Elt F)),
  StableHlo.unary main_v43 main_v44 (broadcastInDim S16384x8x64 ![0, 1, 2] bcast_S16384x8x1_S16384x8x64_0_1_2 : (⟨S16384x8x1, .f32⟩ : BufTy).Contents (Elt F) → (⟨S16384x8x64, .f32⟩ : BufTy).Contents (Elt F)),
  StableHlo.binary main_v35 main_v44 main_v45 (mulf : (⟨S16384x8x64, .f32⟩ : BufTy).Contents (Elt F) → (⟨S16384x8x64, .f32⟩ : BufTy).Contents (Elt F) → (⟨S16384x8x64, .f32⟩ : BufTy).Contents (Elt F)),
  StableHlo.unary main_arg4 main_v46 (broadcastInDim S1x1x64 ![2] bcast_S64_S1x1x64_2 : (⟨S64, .f32⟩ : BufTy).Contents (Elt F) → (⟨S1x1x64, .f32⟩ : BufTy).Contents (Elt F)),
  StableHlo.unary main_v46 main_v47 (broadcastInDim S16384x8x64 ![0, 1, 2] bcast_S1x1x64_S16384x8x64_0_1_2 : (⟨S1x1x64, .f32⟩ : BufTy).Contents (Elt F) → (⟨S16384x8x64, .f32⟩ : BufTy).Contents (Elt F)),
  StableHlo.binary main_v45 main_v47 main_v48 (mulf : (⟨S16384x8x64, .f32⟩ : BufTy).Contents (Elt F) → (⟨S16384x8x64, .f32⟩ : BufTy).Contents (Elt F) → (⟨S16384x8x64, .f32⟩ : BufTy).Contents (Elt F)),
  StableHlo.reshape main_v48 main_v49 (rfl : (.f32 : EltTy) = .f32) shapeCasts_S16384x8x64_S16384x512,
  StableHlo.nullary main_cst_8 (constant S_ .f32 0x40000000#32),
  StableHlo.unary main_cst_8 main_v50 (Host.log : (⟨S_, .f32⟩ : BufTy).Contents (Elt F) → (⟨S_, .f32⟩ : BufTy).Contents (Elt F)),
  StableHlo.nullary main_cst_9 (constant S_ .f32 0x3F800000#32),
  StableHlo.binary main_cst_9 main_v50 main_v51 (Host.divf : (⟨S_, .f32⟩ : BufTy).Contents (Elt F) → (⟨S_, .f32⟩ : BufTy).Contents (Elt F) → (⟨S_, .f32⟩ : BufTy).Contents (Elt F)),
  StableHlo.nullary main_cst_10 (constant S_ .f32 0x3E000000#32),
  StableHlo.binary main_cst_10 main_v51 main_v52 (mulf : (⟨S_, .f32⟩ : BufTy).Contents (Elt F) → (⟨S_, .f32⟩ : BufTy).Contents (Elt F) → (⟨S_, .f32⟩ : BufTy).Contents (Elt F)),
  StableHlo.unary main_v52 main_v53 (broadcastInDim S16384x512 ![] bcast_S_S16384x512 : (⟨S_, .f32⟩ : BufTy).Contents (Elt F) → (⟨S16384x512, .f32⟩ : BufTy).Contents (Elt F)),
  StableHlo.binary main_v34 main_v53 main_v54 (mulf : (⟨S16384x512, .f32⟩ : BufTy).Contents (Elt F) → (⟨S16384x512, .f32⟩ : BufTy).Contents (Elt F) → (⟨S16384x512, .f32⟩ : BufTy).Contents (Elt F)),
  StableHlo.unary main_v54 main_v55 ((truncf .bf16 · bitsLt_bf16_f32) : (⟨S16384x512, .f32⟩ : BufTy).Contents (Elt F) → (⟨S16384x512, .bf16⟩ : BufTy).Contents (Elt F)),
  StableHlo.binary main_v19 main_v17 main_v56 ((fun a b => concatenate S16384x6656 1 [⟨S16384x3072, a⟩, ⟨S16384x3584, b⟩] concatenates_S16384x3072_S16384x3584_S16384x6656_d1) : (⟨S16384x3072, .f32⟩ : BufTy).Contents (Elt F) → (⟨S16384x3584, .f32⟩ : BufTy).Contents (Elt F) → (⟨S16384x6656, .f32⟩ : BufTy).Contents (Elt F)),
  StableHlo.nullary main_c (constantI S_ 32 0#32),
  StableHlo.unary main_c main_call0_v0 ((sitofp .f32) : (⟨S_, .i32⟩ : BufTy).Contents (Elt F) → (⟨S_, .f32⟩ : BufTy).Contents (Elt F)),
  StableHlo.binary main_v18 main_call0_v0 main_v57 ((fun x v => pad S16384x128 ![0, 0] ![0, 120] ![0, 0] x v pads_S16384x8_S16384x128_000_01200 h_S_) : (⟨S16384x8, .f32⟩ : BufTy).Contents (Elt F) → (⟨S_, .f32⟩ : BufTy).Contents (Elt F) → (⟨S16384x128, .f32⟩ : BufTy).Contents (Elt F))]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by simp

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

theorem args_eq (m : (ℓ : Loc nD τ sig) → Buf (Elt F) ℓ) (d : Dev nD) :
    after ops (launchContents m d) (Proc.devRef .tc main_arg0) = m ((d.tc : Thread nD τ).loc main_arg0)
    ∧ after ops (launchContents m d) (Proc.devRef .tc main_arg1) = m ((d.tc : Thread nD τ).loc main_arg1)
    ∧ after ops (launchContents m d) (Proc.devRef .tc main_arg2) = m ((d.tc : Thread nD τ).loc main_arg2)
    ∧ after ops (launchContents m d) (Proc.devRef .tc main_arg3) = m ((d.tc : Thread nD τ).loc main_arg3)
    ∧ after ops (launchContents m d) (Proc.devRef .tc main_arg4) = m ((d.tc : Thread nD τ).loc main_arg4) := by
  refine ⟨?_, ?_, ?_, ?_, ?_⟩ <;> (after_results <;> rfl)

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => by
      obtain ⟨h0, h1, h2, h3, h4⟩ := args_eq m c
      exact ⟨(h c _).trans h0, (h c _).trans h1, (h c _).trans h2, (h c _).trans h3, (h c _).trans h4⟩,
      Idealize.ShloMosaic.sem_eq_zero_of_no_sems (by decide) r.2⟩) (run m ρ)

end Cert.ProjReferenceIdeal.Value
-- ==== Proof.Proj.RefValue.lean ====
module

public import proofs.«01_k».proof.Proof.Proj.Ref
public import proofs.«01_k».proof.Proof.Projections

/-! What the projections' reference computes, at an index. -/

@[expose] public section

set_option maxRecDepth 16384
set_option maxHeartbeats 200000

noncomputable section

namespace Cert.ProjReferenceIdeal.Value

open Cert.ProjReferenceIdeal Cert.ProjReferenceIdeal.Gen
open Idealize.ShloMosaic Idealize.ShloMosaic.TcCoe
open Cert.Projections
open Cert.FeedForward (Stream Gain)
open Cert.StickBreaking (log2e_eq bits_eighth κ2)

abbrev argX (σ : Valuation τ sig (Elt Ideal)) : Stream := σ (Proc.devRef .tc main_arg0)
abbrev argG (σ : Valuation τ sig (Elt Ideal)) : Gain := σ (Proc.devRef .tc main_arg1)
abbrev argW (σ : Valuation τ sig (Elt Ideal)) : Columns := σ (Proc.devRef .tc main_arg2)
abbrev argQg (σ : Valuation τ sig (Elt Ideal)) : HeadGain := σ (Proc.devRef .tc main_arg3)
abbrev argKg (σ : Valuation τ sig (Elt Ideal)) : HeadGain := σ (Proc.devRef .tc main_arg4)

theorem qscale_eq : Ideal.ofBits .f32 0x3E000000#32 * Ideal.div 1 (Ideal.log (Ideal.ofBits .f32 0x40000000#32)) = ((1 / 8 * κ2 : ℝ) : EReal) := by
  rw [log2e_eq, bits_eighth, ← EReal.coe_mul]

theorem out_v (σ : Valuation τ sig (Elt Ideal)) (r : Fin 16384) (d : Fin 512) :
    (StableHlo.after ops σ (Proc.devRef .tc main_v16) : Vec Ideal S16384x512 .f32) (ix2 r d) = value (argX σ) (argG σ) (argW σ) r d := by
  simp only [ops]
  after_results
  pointwise []
  rfl

theorem out_q (σ : Valuation τ sig (Elt Ideal)) (r : Fin 16384) (d : Fin 512) :
    (StableHlo.after ops σ (Proc.devRef .tc main_v55) : Vec Ideal S16384x512 .bf16) (ix2 r d) = query (argX σ) (argG σ) (argW σ) (argQg σ) r d := by
  simp only [ops]
  after_results
  pointwise []
  simp only [Nat.div_add_mod']
  unfold query
  refine congrArg₂ (fun a b : EReal => a * b) ?_ qscale_eq
  rfl

theorem out_k (σ : Valuation τ sig (Elt Ideal)) (r : Fin 16384) (d : Fin 512) :
    (StableHlo.after ops σ (Proc.devRef .tc main_v49) : Vec Ideal S16384x512 .f32) (ix2 r d) = key (argX σ) (argG σ) (argW σ) (argKg σ) r d := by
  simp only [ops]
  after_results
  pointwise []
  simp only [Nat.div_add_mod']
  rfl

theorem out_r (σ : Valuation τ sig (Elt Ideal)) (r : Fin 16384) (d : Fin 6656) :
    (StableHlo.after ops σ (Proc.devRef .tc main_v56) : Vec Ideal S16384x6656 .f32) (ix2 r d) = rest (argX σ) (argG σ) (argW σ) r d := by
  simp only [ops]
  after_results
  pointwise []
  unfold rest restCol
  split_ifs <;> rfl

theorem out_s (σ : Valuation τ sig (Elt Ideal)) (r : Fin 16384) (d : Fin 128) :
    (StableHlo.after ops σ (Proc.devRef .tc main_v57) : Vec Ideal S16384x128 .f32) (ix2 r d) = small (argX σ) (argG σ) (argW σ) r d := by
  simp only [ops]
  after_results
  pointwise []
  unfold small
  split_ifs
  · rfl
  · show ((((0#32).toInt : ℤ) : ℝ) : EReal) = 0
    simp

end Cert.ProjReferenceIdeal.Value
end
-- ==== Proof.lean ====
/- The claims of `Cert.Claim`: the frames, the named constants, that the attention call is the
   reference's attention as extended reals when every head's bias is finite, that the feed-forward call
   and the merge call are the reference's feed-forward and merge, and that the projection call is the
   reference's projections when the weights are finite. -/
module

public import proofs.«01_k».proof.Defs
public import proofs.«01_k».proof.Proof.SbBits.Frame
public import proofs.«01_k».proof.Proof.Sb.Final
public import proofs.«01_k».proof.Proof.RefValue
public import proofs.«01_k».proof.Proof.Mlp.Final
public import proofs.«01_k».proof.Proof.Mlp.RefValue
public import proofs.«01_k».proof.Proof.Gen.Mlp.Frame
public import proofs.«01_k».proof.Proof.Branch.Final
public import proofs.«01_k».proof.Proof.Branch.RefValue
public import proofs.«01_k».proof.Proof.Gen.Merge.Frame
public import proofs.«01_k».proof.Proof.ProjBits.Frame
public import proofs.«01_k».proof.Proof.Proj.Final
public import proofs.«01_k».proof.Proof.Proj.RefValue

@[expose] public section

set_option maxRecDepth 16384

noncomputable section

namespace Cert.Proof

open Idealize.ShloMosaic Idealize.ShloMosaic.TcCoe
open Idealize.SL.Sem
open Cert.StickBreaking (attn bits_top)

instance facts_bias : Cert.Pre_finite_bias.Facts where
  bcast_S_S8 := by decide

/-- A comparison below infinity of the larger of a number and its negative says the number is real. -/
theorem real_of_cmp (x : EReal) (h : Ideal.cmp .olt (max x (-x)) (Ideal.ofBits .f32 0x7F800000#32) = 1#1) : ∃ β : ℝ, x = (β : EReal) := by
  rw [bits_top] at h
  have hlt : max x (-x) < ⊤ := by
    by_contra hn
    have h0 : Ideal.cmp .olt (max x (-x)) ⊤ = 0#1 := by simp [Ideal.cmp, hn]
    rw [h0] at h
    exact absurd h (by decide)
  have h1 : x ≠ ⊤ := fun hx => by rw [hx] at hlt; simp at hlt
  have h2 : x ≠ ⊥ := fun hx => by rw [hx] at hlt; simp at hlt
  exact ⟨x.toReal, (EReal.coe_toReal h1 h2).symm⟩

theorem bias_real (m : (ℓ : Loc Cert.KernelIdeal.nD Cert.KernelIdeal.τ Cert.KernelIdeal.sig) → Buf (Elt Ideal) ℓ)
    (hpre : Pre_KernelIdeal_finite_bias m) (c : Dev Cert.KernelIdeal.nD) (h : Fin 8) :
    ∃ β : ℝ, Cert.KernelIdeal.Sb.argB m c (ix1 h) = (β : EReal) :=
  real_of_cmp _ (congrFun (hpre c) (ix1 h))

open Cert.ReferenceIdeal.Value in
/-- The reference's result, as a function of the index. -/
theorem ref_result (σ : Valuation Cert.ReferenceIdeal.τ Cert.ReferenceIdeal.sig (Elt Ideal)) :
    (StableHlo.after ops σ (Proc.devRef .tc Cert.ReferenceIdeal.main_v27) : Vec Ideal Cert.ReferenceIdeal.S2x8192x512 .bf16)
      = fun i => attn (argQ σ) (argK σ) (argV σ) (argB σ) (i 0) (i 1) (i 2) := by
  funext i
  have hi : i = ix3 (i 0) (i 1) (i 2) := by
    funext a
    match a with
    | 0 => rfl
    | 1 => rfl
    | 2 => rfl
  exact (congrArg (StableHlo.after ops σ (Proc.devRef .tc Cert.ReferenceIdeal.main_v27) : Vec Ideal Cert.ReferenceIdeal.S2x8192x512 .bf16) hi).trans
    (out_apply σ (i 0) (i 1) (i 2))

theorem algebraic : algebraic_KernelIdeal_ReferenceIdeal_pre_finite_bias := by
  intro m g m' g' hpre hagree
  refine ⟨fun c => Cert.KernelIdeal.Sb.val m c, Cert.KernelIdeal.Sb.run_value m g (bias_real m hpre), ?_⟩
  refine (θ_run Cert.ReferenceIdeal.defs _ _).mono (fun r h c => ?_) (Cert.ReferenceIdeal.Value.run (F := Ideal) m' g')
  obtain ⟨a0, a1, a2, a3⟩ := hagree c
  obtain ⟨h0, h1, h2, h3⟩ := Cert.ReferenceIdeal.Value.args_eq (F := Ideal) m' c
  refine ⟨(h c _).trans ((ref_result _).trans ?_), (h c _).trans h0, (h c _).trans h1, (h c _).trans h2, (h c _).trans h3⟩
  have e0 : Cert.ReferenceIdeal.Value.argQ (StableHlo.launchContents m' c) = Cert.KernelIdeal.Sb.argQ m c := a0
  have e1 : Cert.ReferenceIdeal.Value.argK (StableHlo.launchContents m' c) = Cert.KernelIdeal.Sb.argK m c := a1
  have e2 : Cert.ReferenceIdeal.Value.argV (StableHlo.launchContents m' c) = Cert.KernelIdeal.Sb.argV m c := a2
  have e3 : Cert.ReferenceIdeal.Value.argB (StableHlo.launchContents m' c) = Cert.KernelIdeal.Sb.argB m c := a3
  rw [e0, e1, e2, e3]
  rfl

open Cert.MlpReferenceIdeal.Value in
/-- The feed-forward reference's result, as a function of the index. -/
theorem mlp_ref_result (σ : Valuation Cert.MlpReferenceIdeal.τ Cert.MlpReferenceIdeal.sig (Elt Ideal)) :
    (StableHlo.after ops σ (Proc.devRef .tc Cert.MlpReferenceIdeal.main_v17) : Vec Ideal Cert.MlpReferenceIdeal.S16384x1024 .f32)
      = fun i => Cert.FeedForward.ff (argX σ) (argG σ) (argU σ) (argW σ) (i 0) (i 1) := by
  funext i
  have hi : i = ix2 (i 0) (i 1) := by
    funext a
    match a with
    | 0 => rfl
    | 1 => rfl
  exact (congrArg (StableHlo.after ops σ (Proc.devRef .tc Cert.MlpReferenceIdeal.main_v17) : Vec Ideal Cert.MlpReferenceIdeal.S16384x1024 .f32) hi).trans
    (out_apply σ (i 0) (i 1))

theorem mlp_algebraic : algebraic_MlpIdeal_MlpReferenceIdeal := by
  intro m g m' g' _ hagree
  refine ⟨fun c => Cert.MlpIdeal.Ff.val m c, Cert.MlpIdeal.Ff.run_value m g, ?_⟩
  refine (θ_run Cert.MlpReferenceIdeal.defs _ _).mono (fun r h c => ?_) (Cert.MlpReferenceIdeal.Value.run (F := Ideal) m' g')
  obtain ⟨a0, a1, a2, a3⟩ := hagree c
  obtain ⟨h0, h1, h2, h3⟩ := Cert.MlpReferenceIdeal.Value.args_eq (F := Ideal) m' c
  refine ⟨(h c _).trans ((mlp_ref_result _).trans ?_), (h c _).trans h0, (h c _).trans h1, (h c _).trans h2, (h c _).trans h3⟩
  have e0 : Cert.MlpReferenceIdeal.Value.argX (StableHlo.launchContents m' c) = Cert.MlpIdeal.Ff.argX m c := a0
  have e1 : Cert.MlpReferenceIdeal.Value.argG (StableHlo.launchContents m' c) = Cert.MlpIdeal.Ff.argG m c := a1
  have e2 : Cert.MlpReferenceIdeal.Value.argU (StableHlo.launchContents m' c) = Cert.MlpIdeal.Ff.argU m c := a2
  have e3 : Cert.MlpReferenceIdeal.Value.argW (StableHlo.launchContents m' c) = Cert.MlpIdeal.Ff.argW m c := a3
  rw [e0, e1, e2, e3]
  rfl

open Cert.MergeReferenceIdeal.Value in
/-- The merge reference's result, as a function of the index. -/
theorem merge_ref_result (σ : Valuation Cert.MergeReferenceIdeal.τ Cert.MergeReferenceIdeal.sig (Elt Ideal)) :
    (StableHlo.after ops σ (Proc.devRef .tc Cert.MergeReferenceIdeal.main_v23) : Vec Ideal Cert.MergeReferenceIdeal.S16384x1024 .f32)
      = fun i => Cert.Branches.merged (argX σ) (argA σ) (argB σ) (argO σ) (argZ σ) (argPa σ) (argPb σ) (argPc σ) (argW σ) (i 0) (i 1) := by
  funext i
  have hi : i = ix2 (i 0) (i 1) := by
    funext a
    match a with
    | 0 => rfl
    | 1 => rfl
  exact (congrArg (StableHlo.after ops σ (Proc.devRef .tc Cert.MergeReferenceIdeal.main_v23) : Vec Ideal Cert.MergeReferenceIdeal.S16384x1024 .f32) hi).trans
    (out_apply σ (i 0) (i 1))

theorem merge_algebraic : algebraic_MergeIdeal_MergeReferenceIdeal := by
  intro m g m' g' _ hagree
  refine ⟨fun c => Cert.MergeIdeal.Mg.val m c, Cert.MergeIdeal.Mg.run_value m g, ?_⟩
  refine (θ_run Cert.MergeReferenceIdeal.defs _ _).mono (fun r h c => ?_) (Cert.MergeReferenceIdeal.Value.run (F := Ideal) m' g')
  obtain ⟨a0, a1, a2, a3, a4, a5, a6, a7, a8⟩ := hagree c
  obtain ⟨h0, h1, h2, h3, h4, h5, h6, h7, h8⟩ := Cert.MergeReferenceIdeal.Value.args_eq (F := Ideal) m' c
  refine ⟨(h c _).trans ((merge_ref_result _).trans ?_), (h c _).trans h0, (h c _).trans h1, (h c _).trans h2, (h c _).trans h3, (h c _).trans h4, (h c _).trans h5, (h c _).trans h6, (h c _).trans h7, (h c _).trans h8⟩
  have e0 : Cert.MergeReferenceIdeal.Value.argX (StableHlo.launchContents m' c) = Cert.MergeIdeal.Mg.argX m c := a0
  have e1 : Cert.MergeReferenceIdeal.Value.argA (StableHlo.launchContents m' c) = Cert.MergeIdeal.Mg.argA m c := a1
  have e2 : Cert.MergeReferenceIdeal.Value.argB (StableHlo.launchContents m' c) = Cert.MergeIdeal.Mg.argB m c := a2
  have e3 : Cert.MergeReferenceIdeal.Value.argO (StableHlo.launchContents m' c) = Cert.MergeIdeal.Mg.argO m c := a3
  have e4 : Cert.MergeReferenceIdeal.Value.argZ (StableHlo.launchContents m' c) = Cert.MergeIdeal.Mg.argZ m c := a4
  have e5 : Cert.MergeReferenceIdeal.Value.argPa (StableHlo.launchContents m' c) = Cert.MergeIdeal.Mg.argPa m c := a5
  have e6 : Cert.MergeReferenceIdeal.Value.argPb (StableHlo.launchContents m' c) = Cert.MergeIdeal.Mg.argPb m c := a6
  have e7 : Cert.MergeReferenceIdeal.Value.argPc (StableHlo.launchContents m' c) = Cert.MergeIdeal.Mg.argPc m c := a7
  have e8 : Cert.MergeReferenceIdeal.Value.argW (StableHlo.launchContents m' c) = Cert.MergeIdeal.Mg.argW m c := a8
  rw [e0, e1, e2, e3, e4, e5, e6, e7, e8]
  rfl

instance facts_weights : Cert.Pre_finite_weights.Facts where
  bcast_S1024_S1024x1_0 := by decide
  bcast_S_S1024x1 := by decide
  bcast_S_S1024x8200 := by decide
  bcast_S1024x1_S1024x8200_0_1 := by decide

theorem both_of_and : ∀ a b : BitVec 1, a &&& b = 1#1 → a = 1#1 ∧ b = 1#1 := by decide

theorem gain_weight_real (m : (ℓ : Loc Cert.ProjIdeal.nD Cert.ProjIdeal.τ Cert.ProjIdeal.sig) → Buf (Elt Ideal) ℓ)
    (hpre : Pre_ProjIdeal_finite_weights m) (c : Dev Cert.ProjIdeal.nD) (d : Fin 1024) (e : Fin 8200) :
    (∃ a : ℝ, Cert.ProjIdeal.Pj.argG m c (ix1 d) = (a : EReal)) ∧ ∃ a : ℝ, Cert.ProjIdeal.Pj.argW m c (ix2 d e) = (a : EReal) := by
  obtain ⟨hg, hw⟩ := both_of_and _ _ (congrFun (hpre c) (ix2 d e))
  refine ⟨?_, real_of_cmp _ hw⟩
  obtain ⟨a, ha⟩ := real_of_cmp _ hg
  refine ⟨a, (congrArg (Cert.ProjIdeal.Pj.argG m c) ?_).trans ha⟩
  funext k
  match k with
  | 0 => rfl

theorem weights_real (m : (ℓ : Loc Cert.ProjIdeal.nD Cert.ProjIdeal.τ Cert.ProjIdeal.sig) → Buf (Elt Ideal) ℓ)
    (hpre : Pre_ProjIdeal_finite_weights m) (c : Dev Cert.ProjIdeal.nD) : Cert.ProjIdeal.Pj.RealArgs m c :=
  ⟨fun d => (gain_weight_real m hpre c d 0).1, fun d e => (gain_weight_real m hpre c d e).2⟩

open Cert.ProjReferenceIdeal.Value in
theorem proj_ref_q (σ : Valuation Cert.ProjReferenceIdeal.τ Cert.ProjReferenceIdeal.sig (Elt Ideal)) :
    (StableHlo.after ops σ (Proc.devRef .tc Cert.ProjReferenceIdeal.main_v55) : Vec Ideal Cert.ProjReferenceIdeal.S16384x512 .bf16)
      = fun i => Cert.Projections.query (argX σ) (argG σ) (argW σ) (argQg σ) (i 0) (i 1) := by
  funext i
  have hi : i = ix2 (i 0) (i 1) := by
    funext a
    match a with
    | 0 => rfl
    | 1 => rfl
  exact (congrArg (StableHlo.after ops σ (Proc.devRef .tc Cert.ProjReferenceIdeal.main_v55) : Vec Ideal Cert.ProjReferenceIdeal.S16384x512 .bf16) hi).trans (out_q σ (i 0) (i 1))

open Cert.ProjReferenceIdeal.Value in
theorem proj_ref_k (σ : Valuation Cert.ProjReferenceIdeal.τ Cert.ProjReferenceIdeal.sig (Elt Ideal)) :
    (StableHlo.after ops σ (Proc.devRef .tc Cert.ProjReferenceIdeal.main_v49) : Vec Ideal Cert.ProjReferenceIdeal.S16384x512 .f32)
      = fun i => Cert.Projections.key (argX σ) (argG σ) (argW σ) (argKg σ) (i 0) (i 1) := by
  funext i
  have hi : i = ix2 (i 0) (i 1) := by
    funext a
    match a with
    | 0 => rfl
    | 1 => rfl
  exact (congrArg (StableHlo.after ops σ (Proc.devRef .tc Cert.ProjReferenceIdeal.main_v49) : Vec Ideal Cert.ProjReferenceIdeal.S16384x512 .f32) hi).trans (out_k σ (i 0) (i 1))

open Cert.ProjReferenceIdeal.Value in
theorem proj_ref_v (σ : Valuation Cert.ProjReferenceIdeal.τ Cert.ProjReferenceIdeal.sig (Elt Ideal)) :
    (StableHlo.after ops σ (Proc.devRef .tc Cert.ProjReferenceIdeal.main_v16) : Vec Ideal Cert.ProjReferenceIdeal.S16384x512 .f32)
      = fun i => Cert.Projections.value (argX σ) (argG σ) (argW σ) (i 0) (i 1) := by
  funext i
  have hi : i = ix2 (i 0) (i 1) := by
    funext a
    match a with
    | 0 => rfl
    | 1 => rfl
  exact (congrArg (StableHlo.after ops σ (Proc.devRef .tc Cert.ProjReferenceIdeal.main_v16) : Vec Ideal Cert.ProjReferenceIdeal.S16384x512 .f32) hi).trans (out_v σ (i 0) (i 1))

open Cert.ProjReferenceIdeal.Value in
theorem proj_ref_r (σ : Valuation Cert.ProjReferenceIdeal.τ Cert.ProjReferenceIdeal.sig (Elt Ideal)) :
    (StableHlo.after ops σ (Proc.devRef .tc Cert.ProjReferenceIdeal.main_v56) : Vec Ideal Cert.ProjReferenceIdeal.S16384x6656 .f32)
      = fun i => Cert.Projections.rest (argX σ) (argG σ) (argW σ) (i 0) (i 1) := by
  funext i
  have hi : i = ix2 (i 0) (i 1) := by
    funext a
    match a with
    | 0 => rfl
    | 1 => rfl
  exact (congrArg (StableHlo.after ops σ (Proc.devRef .tc Cert.ProjReferenceIdeal.main_v56) : Vec Ideal Cert.ProjReferenceIdeal.S16384x6656 .f32) hi).trans (out_r σ (i 0) (i 1))

open Cert.ProjReferenceIdeal.Value in
theorem proj_ref_s (σ : Valuation Cert.ProjReferenceIdeal.τ Cert.ProjReferenceIdeal.sig (Elt Ideal)) :
    (StableHlo.after ops σ (Proc.devRef .tc Cert.ProjReferenceIdeal.main_v57) : Vec Ideal Cert.ProjReferenceIdeal.S16384x128 .f32)
      = fun i => Cert.Projections.small (argX σ) (argG σ) (argW σ) (i 0) (i 1) := by
  funext i
  have hi : i = ix2 (i 0) (i 1) := by
    funext a
    match a with
    | 0 => rfl
    | 1 => rfl
  exact (congrArg (StableHlo.after ops σ (Proc.devRef .tc Cert.ProjReferenceIdeal.main_v57) : Vec Ideal Cert.ProjReferenceIdeal.S16384x128 .f32) hi).trans (out_s σ (i 0) (i 1))

theorem proj_algebraic : algebraic_ProjIdeal_ProjReferenceIdeal_pre_finite_weights := by
  intro m g m' g' hpre hagree
  refine ⟨fun c => Cert.ProjIdeal.Pj.val_q m c, fun c => Cert.ProjIdeal.Pj.val_k m c, fun c => Cert.ProjIdeal.Pj.val_v m c,
    fun c => Cert.ProjIdeal.Pj.val_r m c, fun c => Cert.ProjIdeal.Pj.val_s m c, Cert.ProjIdeal.Pj.run_value m g (weights_real m hpre), ?_⟩
  refine (θ_run Cert.ProjReferenceIdeal.defs _ _).mono (fun r h c => ?_) (Cert.ProjReferenceIdeal.Value.run (F := Ideal) m' g')
  obtain ⟨a0, a1, a2, a3, a4⟩ := hagree c
  obtain ⟨h0, h1, h2, h3, h4⟩ := Cert.ProjReferenceIdeal.Value.args_eq (F := Ideal) m' c
  have e0 : Cert.ProjReferenceIdeal.Value.argX (StableHlo.launchContents m' c) = Cert.ProjIdeal.Pj.argX m c := a0
  have e1 : Cert.ProjReferenceIdeal.Value.argG (StableHlo.launchContents m' c) = Cert.ProjIdeal.Pj.argG m c := a1
  have e2 : Cert.ProjReferenceIdeal.Value.argW (StableHlo.launchContents m' c) = Cert.ProjIdeal.Pj.argW m c := a2
  have e3 : Cert.ProjReferenceIdeal.Value.argQg (StableHlo.launchContents m' c) = Cert.ProjIdeal.Pj.argQg m c := a3
  have e4 : Cert.ProjReferenceIdeal.Value.argKg (StableHlo.launchContents m' c) = Cert.ProjIdeal.Pj.argKg m c := a4
  refine ⟨(h c _).trans ((proj_ref_q _).trans ?_), (h c _).trans ((proj_ref_k _).trans ?_), (h c _).trans ((proj_ref_v _).trans ?_),
    (h c _).trans ((proj_ref_r _).trans ?_), (h c _).trans ((proj_ref_s _).trans ?_),
    (h c _).trans h0, (h c _).trans h1, (h c _).trans h2, (h c _).trans h3, (h c _).trans h4⟩
  · rw [e0, e1, e2, e3]
    rfl
  · rw [e0, e1, e2, e4]
    rfl
  · rw [e0, e1, e2]
    rfl
  · rw [e0, e1, e2]
    rfl
  · rw [e0, e1, e2]
    rfl

theorem claim : Cert.Claim :=
  ⟨Cert.Kernel.Gen.facts, Cert.KernelIdeal.Gen.facts, Cert.ReferenceIdeal.Gen.facts, Cert.Mlp.Gen.facts, Cert.MlpIdeal.Gen.facts,
    Cert.MlpReferenceIdeal.Gen.facts, Cert.Merge.Gen.facts, Cert.MergeIdeal.Gen.facts, Cert.MergeReferenceIdeal.Gen.facts,
    Cert.Proj.Gen.facts, Cert.ProjIdeal.Gen.facts, Cert.ProjReferenceIdeal.Gen.facts, facts_bias, facts_weights,
    fun m g _ => Cert.Kernel.Sb.frame m g,
    fun m g _ => Cert.KernelIdeal.Sb.frame m g,
    fun m g _ => Cert.KernelIdeal.Sb.frame m g,
    fun m g _ => Cert.ReferenceIdeal.Value.frame m g,
    fun m g _ => Cert.ReferenceIdeal.Value.frame m g,
    fun m g _ => Cert.Mlp.Gen.frame m g,
    fun m g _ => Cert.MlpIdeal.Gen.frame m g,
    fun m g _ => Cert.MlpReferenceIdeal.Value.frame m g,
    fun m g _ => Cert.Merge.Gen.frame m g,
    fun m g _ => Cert.MergeIdeal.Gen.frame m g,
    fun m g _ => Cert.MergeReferenceIdeal.Value.frame m g,
    fun m g _ => Cert.Proj.Pj.frame m g,
    fun m g _ => Cert.ProjIdeal.Pj.frame m g,
    fun m g _ => Cert.ProjIdeal.Pj.frame m g,
    fun m g _ => Cert.ProjReferenceIdeal.Value.frame m g,
    fun m g _ => Cert.ProjReferenceIdeal.Value.frame m g,
    ⟨IdealRules.named_const.statement _ "log2e" .f32 _ _ rfl, IdealRules.named_const.statement _ "mask" .f32 _ _ rfl⟩,
    algebraic,
    trivial,
    mlp_algebraic,
    trivial,
    merge_algebraic,
    IdealRules.named_const.statement _ "qscale" .f32 _ _ rfl,
    proj_algebraic⟩

end Cert.Proof

end
